-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelFfnFirst (m : (ℓ : Loc Cert.KernelFfnFirst.nD Cert.KernelFfnFirst.τ Cert.KernelFfnFirst.sig) → Buf (Elt Bits) ℓ) : Prop :=
  True

def Pre_KernelFfnFirstIdeal (m : (ℓ : Loc Cert.KernelFfnFirstIdeal.nD Cert.KernelFfnFirstIdeal.τ Cert.KernelFfnFirstIdeal.sig) → Buf (Elt Ideal) ℓ) : Prop :=
  True

def Pre_ReferenceFfnFirstIdeal (m : (ℓ : Loc Cert.ReferenceFfnFirstIdeal.nD Cert.ReferenceFfnFirstIdeal.τ Cert.ReferenceFfnFirstIdeal.sig) → Buf (Elt Ideal) ℓ) : Prop :=
  True

def Pre_KernelFfnSecond (m : (ℓ : Loc Cert.KernelFfnSecond.nD Cert.KernelFfnSecond.τ Cert.KernelFfnSecond.sig) → Buf (Elt Bits) ℓ) : Prop :=
  True

def Pre_KernelFfnSecondIdeal (m : (ℓ : Loc Cert.KernelFfnSecondIdeal.nD Cert.KernelFfnSecondIdeal.τ Cert.KernelFfnSecondIdeal.sig) → Buf (Elt Ideal) ℓ) : Prop :=
  True

def Pre_ReferenceFfnSecondIdeal (m : (ℓ : Loc Cert.ReferenceFfnSecondIdeal.nD Cert.ReferenceFfnSecondIdeal.τ Cert.ReferenceFfnSecondIdeal.sig) → Buf (Elt Ideal) ℓ) : Prop :=
  True

def Pre_KernelFfnContext (m : (ℓ : Loc Cert.KernelFfnContext.nD Cert.KernelFfnContext.τ Cert.KernelFfnContext.sig) → Buf (Elt Bits) ℓ) : Prop :=
  True

def Pre_KernelFfnContextIdeal (m : (ℓ : Loc Cert.KernelFfnContextIdeal.nD Cert.KernelFfnContextIdeal.τ Cert.KernelFfnContextIdeal.sig) → Buf (Elt Ideal) ℓ) : Prop :=
  True

def Pre_ReferenceFfnContextIdeal (m : (ℓ : Loc Cert.ReferenceFfnContextIdeal.nD Cert.ReferenceFfnContextIdeal.τ Cert.ReferenceFfnContextIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDft (m : (ℓ : Loc Cert.KernelDft.nD Cert.KernelDft.τ Cert.KernelDft.sig) → Buf (Elt Bits) ℓ) : Prop :=
  True

def Pre_KernelDftIdeal (m : (ℓ : Loc Cert.KernelDftIdeal.nD Cert.KernelDftIdeal.τ Cert.KernelDftIdeal.sig) → Buf (Elt Ideal) ℓ) : Prop :=
  True

def Pre_ReferenceDftIdeal (m : (ℓ : Loc Cert.ReferenceDftIdeal.nD Cert.ReferenceDftIdeal.τ Cert.ReferenceDftIdeal.sig) → Buf (Elt Ideal) ℓ) : Prop :=
  True

def Pre_KernelFfnContextSecond (m : (ℓ : Loc Cert.KernelFfnContextSecond.nD Cert.KernelFfnContextSecond.τ Cert.KernelFfnContextSecond.sig) → Buf (Elt Bits) ℓ) : Prop :=
  True

def Pre_KernelFfnContextSecondIdeal (m : (ℓ : Loc Cert.KernelFfnContextSecondIdeal.nD Cert.KernelFfnContextSecondIdeal.τ Cert.KernelFfnContextSecondIdeal.sig) → Buf (Elt Ideal) ℓ) : Prop :=
  True

def Pre_ReferenceFfnContextSecondIdeal (m : (ℓ : Loc Cert.ReferenceFfnContextSecondIdeal.nD Cert.ReferenceFfnContextSecondIdeal.τ Cert.ReferenceFfnContextSecondIdeal.sig) → Buf (Elt Ideal) ℓ) : Prop :=
  True

def Pre_KernelOutContext (m : (ℓ : Loc Cert.KernelOutContext.nD Cert.KernelOutContext.τ Cert.KernelOutContext.sig) → Buf (Elt Bits) ℓ) : Prop :=
  True

def Pre_KernelOutContextIdeal (m : (ℓ : Loc Cert.KernelOutContextIdeal.nD Cert.KernelOutContextIdeal.τ Cert.KernelOutContextIdeal.sig) → Buf (Elt Ideal) ℓ) : Prop :=
  True

def Pre_ReferenceOutContextIdeal (m : (ℓ : Loc Cert.ReferenceOutContextIdeal.nD Cert.ReferenceOutContextIdeal.τ Cert.ReferenceOutContextIdeal.sig) → Buf (Elt Ideal) ℓ) : Prop :=
  True

def Pre_KernelInMix (m : (ℓ : Loc Cert.KernelInMix.nD Cert.KernelInMix.τ Cert.KernelInMix.sig) → Buf (Elt Bits) ℓ) : Prop :=
  True

def Pre_KernelInMixIdeal (m : (ℓ : Loc Cert.KernelInMixIdeal.nD Cert.KernelInMixIdeal.τ Cert.KernelInMixIdeal.sig) → Buf (Elt Ideal) ℓ) : Prop :=
  True

def Pre_ReferenceInMixIdeal (m : (ℓ : Loc Cert.ReferenceInMixIdeal.nD Cert.ReferenceInMixIdeal.τ Cert.ReferenceInMixIdeal.sig) → Buf (Elt Ideal) ℓ) : Prop :=
  True

def Pre_KernelInCell (m : (ℓ : Loc Cert.KernelInCell.nD Cert.KernelInCell.τ Cert.KernelInCell.sig) → Buf (Elt Bits) ℓ) : Prop :=
  True

def Pre_KernelInCellIdeal (m : (ℓ : Loc Cert.KernelInCellIdeal.nD Cert.KernelInCellIdeal.τ Cert.KernelInCellIdeal.sig) → Buf (Elt Ideal) ℓ) : Prop :=
  True

def Pre_ReferenceInCellIdeal (m : (ℓ : Loc Cert.ReferenceInCellIdeal.nD Cert.ReferenceInCellIdeal.τ Cert.ReferenceInCellIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelFfnFirst [hKernelFfnFirst : Cert.KernelFfnFirst.Facts] : Prop :=
  ∀ (m : (ℓ : Loc Cert.KernelFfnFirst.nD Cert.KernelFfnFirst.τ Cert.KernelFfnFirst.sig) → Buf (Elt Bits) ℓ) (g : Dev Cert.KernelFfnFirst.nD → PrngReg), Pre_KernelFfnFirst m →
    θ_run (Cert.KernelFfnFirst.defs (F := Bits)) (onTc (τ := Cert.KernelFfnFirst.τ) (Cert.KernelFfnFirst.main (F := Bits))) ⟨m, fun _ => 0, g⟩ (fun r => (∀ c : Dev Cert.KernelFfnFirst.nD,
      r.2.mem ((c.tc : Thread Cert.KernelFfnFirst.nD Cert.KernelFfnFirst.τ).loc Cert.KernelFfnFirst.main_arg0) = m ((c.tc : Thread Cert.KernelFfnFirst.nD Cert.KernelFfnFirst.τ).loc Cert.KernelFfnFirst.main_arg0)
      ∧ r.2.mem ((c.tc : Thread Cert.KernelFfnFirst.nD Cert.KernelFfnFirst.τ).loc Cert.KernelFfnFirst.main_arg1) = m ((c.tc : Thread Cert.KernelFfnFirst.nD Cert.KernelFfnFirst.τ).loc Cert.KernelFfnFirst.main_arg1)
      ∧ r.2.mem ((c.tc : Thread Cert.KernelFfnFirst.nD Cert.KernelFfnFirst.τ).loc Cert.KernelFfnFirst.main_arg2) = m ((c.tc : Thread Cert.KernelFfnFirst.nD Cert.KernelFfnFirst.τ).loc Cert.KernelFfnFirst.main_arg2)
      ∧ r.2.mem ((c.tc : Thread Cert.KernelFfnFirst.nD Cert.KernelFfnFirst.τ).loc Cert.KernelFfnFirst.main_arg3) = m ((c.tc : Thread Cert.KernelFfnFirst.nD Cert.KernelFfnFirst.τ).loc Cert.KernelFfnFirst.main_arg3)
      ∧ r.2.mem ((c.tc : Thread Cert.KernelFfnFirst.nD Cert.KernelFfnFirst.τ).loc Cert.KernelFfnFirst.main_arg4) = m ((c.tc : Thread Cert.KernelFfnFirst.nD Cert.KernelFfnFirst.τ).loc Cert.KernelFfnFirst.main_arg4))
      ∧ r.2.sem = fun _ => 0)

def quiescent_KernelFfnFirstIdeal [hKernelFfnFirstIdeal : Cert.KernelFfnFirstIdeal.Facts] : Prop :=
  ∀ (m : (ℓ : Loc Cert.KernelFfnFirstIdeal.nD Cert.KernelFfnFirstIdeal.τ Cert.KernelFfnFirstIdeal.sig) → Buf (Elt Ideal) ℓ) (g : Dev Cert.KernelFfnFirstIdeal.nD → PrngReg), Pre_KernelFfnFirstIdeal m →
    θ_run (Cert.KernelFfnFirstIdeal.defs (F := Ideal)) (onTc (τ := Cert.KernelFfnFirstIdeal.τ) (Cert.KernelFfnFirstIdeal.main (F := Ideal))) ⟨m, fun _ => 0, g⟩ (fun r => (∀ c : Dev Cert.KernelFfnFirstIdeal.nD,
      r.2.mem ((c.tc : Thread Cert.KernelFfnFirstIdeal.nD Cert.KernelFfnFirstIdeal.τ).loc Cert.KernelFfnFirstIdeal.main_arg0) = m ((c.tc : Thread Cert.KernelFfnFirstIdeal.nD Cert.KernelFfnFirstIdeal.τ).loc Cert.KernelFfnFirstIdeal.main_arg0)
      ∧ r.2.mem ((c.tc : Thread Cert.KernelFfnFirstIdeal.nD Cert.KernelFfnFirstIdeal.τ).loc Cert.KernelFfnFirstIdeal.main_arg1) = m ((c.tc : Thread Cert.KernelFfnFirstIdeal.nD Cert.KernelFfnFirstIdeal.τ).loc Cert.KernelFfnFirstIdeal.main_arg1)
      ∧ r.2.mem ((c.tc : Thread Cert.KernelFfnFirstIdeal.nD Cert.KernelFfnFirstIdeal.τ).loc Cert.KernelFfnFirstIdeal.main_arg2) = m ((c.tc : Thread Cert.KernelFfnFirstIdeal.nD Cert.KernelFfnFirstIdeal.τ).loc Cert.KernelFfnFirstIdeal.main_arg2)
      ∧ r.2.mem ((c.tc : Thread Cert.KernelFfnFirstIdeal.nD Cert.KernelFfnFirstIdeal.τ).loc Cert.KernelFfnFirstIdeal.main_arg3) = m ((c.tc : Thread Cert.KernelFfnFirstIdeal.nD Cert.KernelFfnFirstIdeal.τ).loc Cert.KernelFfnFirstIdeal.main_arg3)
      ∧ r.2.mem ((c.tc : Thread Cert.KernelFfnFirstIdeal.nD Cert.KernelFfnFirstIdeal.τ).loc Cert.KernelFfnFirstIdeal.main_arg4) = m ((c.tc : Thread Cert.KernelFfnFirstIdeal.nD Cert.KernelFfnFirstIdeal.τ).loc Cert.KernelFfnFirstIdeal.main_arg4))
      ∧ r.2.sem = fun _ => 0)

def quiescent_ReferenceFfnFirstIdeal [hReferenceFfnFirstIdeal : Cert.ReferenceFfnFirstIdeal.Facts] : Prop :=
  ∀ (m : (ℓ : Loc Cert.ReferenceFfnFirstIdeal.nD Cert.ReferenceFfnFirstIdeal.τ Cert.ReferenceFfnFirstIdeal.sig) → Buf (Elt Ideal) ℓ) (g : Dev Cert.ReferenceFfnFirstIdeal.nD → PrngReg), Pre_ReferenceFfnFirstIdeal m →
    θ_run (Cert.ReferenceFfnFirstIdeal.defs (F := Ideal)) (onTc (τ := Cert.ReferenceFfnFirstIdeal.τ) (Cert.ReferenceFfnFirstIdeal.main (F := Ideal))) ⟨m, fun _ => 0, g⟩ (fun r => (∀ c : Dev Cert.ReferenceFfnFirstIdeal.nD,
      r.2.mem ((c.tc : Thread Cert.ReferenceFfnFirstIdeal.nD Cert.ReferenceFfnFirstIdeal.τ).loc Cert.ReferenceFfnFirstIdeal.main_arg0) = m ((c.tc : Thread Cert.ReferenceFfnFirstIdeal.nD Cert.ReferenceFfnFirstIdeal.τ).loc Cert.ReferenceFfnFirstIdeal.main_arg0)
      ∧ r.2.mem ((c.tc : Thread Cert.ReferenceFfnFirstIdeal.nD Cert.ReferenceFfnFirstIdeal.τ).loc Cert.ReferenceFfnFirstIdeal.main_arg1) = m ((c.tc : Thread Cert.ReferenceFfnFirstIdeal.nD Cert.ReferenceFfnFirstIdeal.τ).loc Cert.ReferenceFfnFirstIdeal.main_arg1)
      ∧ r.2.mem ((c.tc : Thread Cert.ReferenceFfnFirstIdeal.nD Cert.ReferenceFfnFirstIdeal.τ).loc Cert.ReferenceFfnFirstIdeal.main_arg2) = m ((c.tc : Thread Cert.ReferenceFfnFirstIdeal.nD Cert.ReferenceFfnFirstIdeal.τ).loc Cert.ReferenceFfnFirstIdeal.main_arg2)
      ∧ r.2.mem ((c.tc : Thread Cert.ReferenceFfnFirstIdeal.nD Cert.ReferenceFfnFirstIdeal.τ).loc Cert.ReferenceFfnFirstIdeal.main_arg3) = m ((c.tc : Thread Cert.ReferenceFfnFirstIdeal.nD Cert.ReferenceFfnFirstIdeal.τ).loc Cert.ReferenceFfnFirstIdeal.main_arg3)
      ∧ r.2.mem ((c.tc : Thread Cert.ReferenceFfnFirstIdeal.nD Cert.ReferenceFfnFirstIdeal.τ).loc Cert.ReferenceFfnFirstIdeal.main_arg4) = m ((c.tc : Thread Cert.ReferenceFfnFirstIdeal.nD Cert.ReferenceFfnFirstIdeal.τ).loc Cert.ReferenceFfnFirstIdeal.main_arg4))
      ∧ r.2.sem = fun _ => 0)

def quiescent_KernelFfnSecond [hKernelFfnSecond : Cert.KernelFfnSecond.Facts] : Prop :=
  ∀ (m : (ℓ : Loc Cert.KernelFfnSecond.nD Cert.KernelFfnSecond.τ Cert.KernelFfnSecond.sig) → Buf (Elt Bits) ℓ) (g : Dev Cert.KernelFfnSecond.nD → PrngReg), Pre_KernelFfnSecond m →
    θ_run (Cert.KernelFfnSecond.defs (F := Bits)) (onTc (τ := Cert.KernelFfnSecond.τ) (Cert.KernelFfnSecond.main (F := Bits))) ⟨m, fun _ => 0, g⟩ (fun r => (∀ c : Dev Cert.KernelFfnSecond.nD,
      r.2.mem ((c.tc : Thread Cert.KernelFfnSecond.nD Cert.KernelFfnSecond.τ).loc Cert.KernelFfnSecond.main_arg0) = m ((c.tc : Thread Cert.KernelFfnSecond.nD Cert.KernelFfnSecond.τ).loc Cert.KernelFfnSecond.main_arg0)
      ∧ r.2.mem ((c.tc : Thread Cert.KernelFfnSecond.nD Cert.KernelFfnSecond.τ).loc Cert.KernelFfnSecond.main_arg1) = m ((c.tc : Thread Cert.KernelFfnSecond.nD Cert.KernelFfnSecond.τ).loc Cert.KernelFfnSecond.main_arg1)
      ∧ r.2.mem ((c.tc : Thread Cert.KernelFfnSecond.nD Cert.KernelFfnSecond.τ).loc Cert.KernelFfnSecond.main_arg2) = m ((c.tc : Thread Cert.KernelFfnSecond.nD Cert.KernelFfnSecond.τ).loc Cert.KernelFfnSecond.main_arg2)
      ∧ r.2.mem ((c.tc : Thread Cert.KernelFfnSecond.nD Cert.KernelFfnSecond.τ).loc Cert.KernelFfnSecond.main_arg3) = m ((c.tc : Thread Cert.KernelFfnSecond.nD Cert.KernelFfnSecond.τ).loc Cert.KernelFfnSecond.main_arg3)
      ∧ r.2.mem ((c.tc : Thread Cert.KernelFfnSecond.nD Cert.KernelFfnSecond.τ).loc Cert.KernelFfnSecond.main_arg4) = m ((c.tc : Thread Cert.KernelFfnSecond.nD Cert.KernelFfnSecond.τ).loc Cert.KernelFfnSecond.main_arg4))
      ∧ r.2.sem = fun _ => 0)

def quiescent_KernelFfnSecondIdeal [hKernelFfnSecondIdeal : Cert.KernelFfnSecondIdeal.Facts] : Prop :=
  ∀ (m : (ℓ : Loc Cert.KernelFfnSecondIdeal.nD Cert.KernelFfnSecondIdeal.τ Cert.KernelFfnSecondIdeal.sig) → Buf (Elt Ideal) ℓ) (g : Dev Cert.KernelFfnSecondIdeal.nD → PrngReg), Pre_KernelFfnSecondIdeal m →
    θ_run (Cert.KernelFfnSecondIdeal.defs (F := Ideal)) (onTc (τ := Cert.KernelFfnSecondIdeal.τ) (Cert.KernelFfnSecondIdeal.main (F := Ideal))) ⟨m, fun _ => 0, g⟩ (fun r => (∀ c : Dev Cert.KernelFfnSecondIdeal.nD,
      r.2.mem ((c.tc : Thread Cert.KernelFfnSecondIdeal.nD Cert.KernelFfnSecondIdeal.τ).loc Cert.KernelFfnSecondIdeal.main_arg0) = m ((c.tc : Thread Cert.KernelFfnSecondIdeal.nD Cert.KernelFfnSecondIdeal.τ).loc Cert.KernelFfnSecondIdeal.main_arg0)
      ∧ r.2.mem ((c.tc : Thread Cert.KernelFfnSecondIdeal.nD Cert.KernelFfnSecondIdeal.τ).loc Cert.KernelFfnSecondIdeal.main_arg1) = m ((c.tc : Thread Cert.KernelFfnSecondIdeal.nD Cert.KernelFfnSecondIdeal.τ).loc Cert.KernelFfnSecondIdeal.main_arg1)
      ∧ r.2.mem ((c.tc : Thread Cert.KernelFfnSecondIdeal.nD Cert.KernelFfnSecondIdeal.τ).loc Cert.KernelFfnSecondIdeal.main_arg2) = m ((c.tc : Thread Cert.KernelFfnSecondIdeal.nD Cert.KernelFfnSecondIdeal.τ).loc Cert.KernelFfnSecondIdeal.main_arg2)
      ∧ r.2.mem ((c.tc : Thread Cert.KernelFfnSecondIdeal.nD Cert.KernelFfnSecondIdeal.τ).loc Cert.KernelFfnSecondIdeal.main_arg3) = m ((c.tc : Thread Cert.KernelFfnSecondIdeal.nD Cert.KernelFfnSecondIdeal.τ).loc Cert.KernelFfnSecondIdeal.main_arg3)
      ∧ r.2.mem ((c.tc : Thread Cert.KernelFfnSecondIdeal.nD Cert.KernelFfnSecondIdeal.τ).loc Cert.KernelFfnSecondIdeal.main_arg4) = m ((c.tc : Thread Cert.KernelFfnSecondIdeal.nD Cert.KernelFfnSecondIdeal.τ).loc Cert.KernelFfnSecondIdeal.main_arg4))
      ∧ r.2.sem = fun _ => 0)

def quiescent_ReferenceFfnSecondIdeal [hReferenceFfnSecondIdeal : Cert.ReferenceFfnSecondIdeal.Facts] : Prop :=
  ∀ (m : (ℓ : Loc Cert.ReferenceFfnSecondIdeal.nD Cert.ReferenceFfnSecondIdeal.τ Cert.ReferenceFfnSecondIdeal.sig) → Buf (Elt Ideal) ℓ) (g : Dev Cert.ReferenceFfnSecondIdeal.nD → PrngReg), Pre_ReferenceFfnSecondIdeal m →
    θ_run (Cert.ReferenceFfnSecondIdeal.defs (F := Ideal)) (onTc (τ := Cert.ReferenceFfnSecondIdeal.τ) (Cert.ReferenceFfnSecondIdeal.main (F := Ideal))) ⟨m, fun _ => 0, g⟩ (fun r => (∀ c : Dev Cert.ReferenceFfnSecondIdeal.nD,
      r.2.mem ((c.tc : Thread Cert.ReferenceFfnSecondIdeal.nD Cert.ReferenceFfnSecondIdeal.τ).loc Cert.ReferenceFfnSecondIdeal.main_arg0) = m ((c.tc : Thread Cert.ReferenceFfnSecondIdeal.nD Cert.ReferenceFfnSecondIdeal.τ).loc Cert.ReferenceFfnSecondIdeal.main_arg0)
      ∧ r.2.mem ((c.tc : Thread Cert.ReferenceFfnSecondIdeal.nD Cert.ReferenceFfnSecondIdeal.τ).loc Cert.ReferenceFfnSecondIdeal.main_arg1) = m ((c.tc : Thread Cert.ReferenceFfnSecondIdeal.nD Cert.ReferenceFfnSecondIdeal.τ).loc Cert.ReferenceFfnSecondIdeal.main_arg1)
      ∧ r.2.mem ((c.tc : Thread Cert.ReferenceFfnSecondIdeal.nD Cert.ReferenceFfnSecondIdeal.τ).loc Cert.ReferenceFfnSecondIdeal.main_arg2) = m ((c.tc : Thread Cert.ReferenceFfnSecondIdeal.nD Cert.ReferenceFfnSecondIdeal.τ).loc Cert.ReferenceFfnSecondIdeal.main_arg2)
      ∧ r.2.mem ((c.tc : Thread Cert.ReferenceFfnSecondIdeal.nD Cert.ReferenceFfnSecondIdeal.τ).loc Cert.ReferenceFfnSecondIdeal.main_arg3) = m ((c.tc : Thread Cert.ReferenceFfnSecondIdeal.nD Cert.ReferenceFfnSecondIdeal.τ).loc Cert.ReferenceFfnSecondIdeal.main_arg3)
      ∧ r.2.mem ((c.tc : Thread Cert.ReferenceFfnSecondIdeal.nD Cert.ReferenceFfnSecondIdeal.τ).loc Cert.ReferenceFfnSecondIdeal.main_arg4) = m ((c.tc : Thread Cert.ReferenceFfnSecondIdeal.nD Cert.ReferenceFfnSecondIdeal.τ).loc Cert.ReferenceFfnSecondIdeal.main_arg4))
      ∧ r.2.sem = fun _ => 0)

def quiescent_KernelFfnContext [hKernelFfnContext : Cert.KernelFfnContext.Facts] : Prop :=
  ∀ (m : (ℓ : Loc Cert.KernelFfnContext.nD Cert.KernelFfnContext.τ Cert.KernelFfnContext.sig) → Buf (Elt Bits) ℓ) (g : Dev Cert.KernelFfnContext.nD → PrngReg), Pre_KernelFfnContext m →
    θ_run (Cert.KernelFfnContext.defs (F := Bits)) (onTc (τ := Cert.KernelFfnContext.τ) (Cert.KernelFfnContext.main (F := Bits))) ⟨m, fun _ => 0, g⟩ (fun r => (∀ c : Dev Cert.KernelFfnContext.nD,
      r.2.mem ((c.tc : Thread Cert.KernelFfnContext.nD Cert.KernelFfnContext.τ).loc Cert.KernelFfnContext.main_arg0) = m ((c.tc : Thread Cert.KernelFfnContext.nD Cert.KernelFfnContext.τ).loc Cert.KernelFfnContext.main_arg0)
      ∧ r.2.mem ((c.tc : Thread Cert.KernelFfnContext.nD Cert.KernelFfnContext.τ).loc Cert.KernelFfnContext.main_arg1) = m ((c.tc : Thread Cert.KernelFfnContext.nD Cert.KernelFfnContext.τ).loc Cert.KernelFfnContext.main_arg1)
      ∧ r.2.mem ((c.tc : Thread Cert.KernelFfnContext.nD Cert.KernelFfnContext.τ).loc Cert.KernelFfnContext.main_arg2) = m ((c.tc : Thread Cert.KernelFfnContext.nD Cert.KernelFfnContext.τ).loc Cert.KernelFfnContext.main_arg2)
      ∧ r.2.mem ((c.tc : Thread Cert.KernelFfnContext.nD Cert.KernelFfnContext.τ).loc Cert.KernelFfnContext.main_arg3) = m ((c.tc : Thread Cert.KernelFfnContext.nD Cert.KernelFfnContext.τ).loc Cert.KernelFfnContext.main_arg3)
      ∧ r.2.mem ((c.tc : Thread Cert.KernelFfnContext.nD Cert.KernelFfnContext.τ).loc Cert.KernelFfnContext.main_arg4) = m ((c.tc : Thread Cert.KernelFfnContext.nD Cert.KernelFfnContext.τ).loc Cert.KernelFfnContext.main_arg4))
      ∧ r.2.sem = fun _ => 0)

def quiescent_KernelFfnContextIdeal [hKernelFfnContextIdeal : Cert.KernelFfnContextIdeal.Facts] : Prop :=
  ∀ (m : (ℓ : Loc Cert.KernelFfnContextIdeal.nD Cert.KernelFfnContextIdeal.τ Cert.KernelFfnContextIdeal.sig) → Buf (Elt Ideal) ℓ) (g : Dev Cert.KernelFfnContextIdeal.nD → PrngReg), Pre_KernelFfnContextIdeal m →
    θ_run (Cert.KernelFfnContextIdeal.defs (F := Ideal)) (onTc (τ := Cert.KernelFfnContextIdeal.τ) (Cert.KernelFfnContextIdeal.main (F := Ideal))) ⟨m, fun _ => 0, g⟩ (fun r => (∀ c : Dev Cert.KernelFfnContextIdeal.nD,
      r.2.mem ((c.tc : Thread Cert.KernelFfnContextIdeal.nD Cert.KernelFfnContextIdeal.τ).loc Cert.KernelFfnContextIdeal.main_arg0) = m ((c.tc : Thread Cert.KernelFfnContextIdeal.nD Cert.KernelFfnContextIdeal.τ).loc Cert.KernelFfnContextIdeal.main_arg0)
      ∧ r.2.mem ((c.tc : Thread Cert.KernelFfnContextIdeal.nD Cert.KernelFfnContextIdeal.τ).loc Cert.KernelFfnContextIdeal.main_arg1) = m ((c.tc : Thread Cert.KernelFfnContextIdeal.nD Cert.KernelFfnContextIdeal.τ).loc Cert.KernelFfnContextIdeal.main_arg1)
      ∧ r.2.mem ((c.tc : Thread Cert.KernelFfnContextIdeal.nD Cert.KernelFfnContextIdeal.τ).loc Cert.KernelFfnContextIdeal.main_arg2) = m ((c.tc : Thread Cert.KernelFfnContextIdeal.nD Cert.KernelFfnContextIdeal.τ).loc Cert.KernelFfnContextIdeal.main_arg2)
      ∧ r.2.mem ((c.tc : Thread Cert.KernelFfnContextIdeal.nD Cert.KernelFfnContextIdeal.τ).loc Cert.KernelFfnContextIdeal.main_arg3) = m ((c.tc : Thread Cert.KernelFfnContextIdeal.nD Cert.KernelFfnContextIdeal.τ).loc Cert.KernelFfnContextIdeal.main_arg3)
      ∧ r.2.mem ((c.tc : Thread Cert.KernelFfnContextIdeal.nD Cert.KernelFfnContextIdeal.τ).loc Cert.KernelFfnContextIdeal.main_arg4) = m ((c.tc : Thread Cert.KernelFfnContextIdeal.nD Cert.KernelFfnContextIdeal.τ).loc Cert.KernelFfnContextIdeal.main_arg4))
      ∧ r.2.sem = fun _ => 0)

def quiescent_ReferenceFfnContextIdeal [hReferenceFfnContextIdeal : Cert.ReferenceFfnContextIdeal.Facts] : Prop :=
  ∀ (m : (ℓ : Loc Cert.ReferenceFfnContextIdeal.nD Cert.ReferenceFfnContextIdeal.τ Cert.ReferenceFfnContextIdeal.sig) → Buf (Elt Ideal) ℓ) (g : Dev Cert.ReferenceFfnContextIdeal.nD → PrngReg), Pre_ReferenceFfnContextIdeal m →
    θ_run (Cert.ReferenceFfnContextIdeal.defs (F := Ideal)) (onTc (τ := Cert.ReferenceFfnContextIdeal.τ) (Cert.ReferenceFfnContextIdeal.main (F := Ideal))) ⟨m, fun _ => 0, g⟩ (fun r => (∀ c : Dev Cert.ReferenceFfnContextIdeal.nD,
      r.2.mem ((c.tc : Thread Cert.ReferenceFfnContextIdeal.nD Cert.ReferenceFfnContextIdeal.τ).loc Cert.ReferenceFfnContextIdeal.main_arg0) = m ((c.tc : Thread Cert.ReferenceFfnContextIdeal.nD Cert.ReferenceFfnContextIdeal.τ).loc Cert.ReferenceFfnContextIdeal.main_arg0)
      ∧ r.2.mem ((c.tc : Thread Cert.ReferenceFfnContextIdeal.nD Cert.ReferenceFfnContextIdeal.τ).loc Cert.ReferenceFfnContextIdeal.main_arg1) = m ((c.tc : Thread Cert.ReferenceFfnContextIdeal.nD Cert.ReferenceFfnContextIdeal.τ).loc Cert.ReferenceFfnContextIdeal.main_arg1)
      ∧ r.2.mem ((c.tc : Thread Cert.ReferenceFfnContextIdeal.nD Cert.ReferenceFfnContextIdeal.τ).loc Cert.ReferenceFfnContextIdeal.main_arg2) = m ((c.tc : Thread Cert.ReferenceFfnContextIdeal.nD Cert.ReferenceFfnContextIdeal.τ).loc Cert.ReferenceFfnContextIdeal.main_arg2)
      ∧ r.2.mem ((c.tc : Thread Cert.ReferenceFfnContextIdeal.nD Cert.ReferenceFfnContextIdeal.τ).loc Cert.ReferenceFfnContextIdeal.main_arg3) = m ((c.tc : Thread Cert.ReferenceFfnContextIdeal.nD Cert.ReferenceFfnContextIdeal.τ).loc Cert.ReferenceFfnContextIdeal.main_arg3)
      ∧ r.2.mem ((c.tc : Thread Cert.ReferenceFfnContextIdeal.nD Cert.ReferenceFfnContextIdeal.τ).loc Cert.ReferenceFfnContextIdeal.main_arg4) = m ((c.tc : Thread Cert.ReferenceFfnContextIdeal.nD Cert.ReferenceFfnContextIdeal.τ).loc Cert.ReferenceFfnContextIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelDft [hKernelDft : Cert.KernelDft.Facts] : Prop :=
  ∀ (m : (ℓ : Loc Cert.KernelDft.nD Cert.KernelDft.τ Cert.KernelDft.sig) → Buf (Elt Bits) ℓ) (g : Dev Cert.KernelDft.nD → PrngReg), Pre_KernelDft m →
    θ_run (Cert.KernelDft.defs (F := Bits)) (onTc (τ := Cert.KernelDft.τ) (Cert.KernelDft.main (F := Bits))) ⟨m, fun _ => 0, g⟩ (fun r => (∀ c : Dev Cert.KernelDft.nD,
      r.2.mem ((c.tc : Thread Cert.KernelDft.nD Cert.KernelDft.τ).loc Cert.KernelDft.main_arg0) = m ((c.tc : Thread Cert.KernelDft.nD Cert.KernelDft.τ).loc Cert.KernelDft.main_arg0)
      ∧ r.2.mem ((c.tc : Thread Cert.KernelDft.nD Cert.KernelDft.τ).loc Cert.KernelDft.main_arg1) = m ((c.tc : Thread Cert.KernelDft.nD Cert.KernelDft.τ).loc Cert.KernelDft.main_arg1)
      ∧ r.2.mem ((c.tc : Thread Cert.KernelDft.nD Cert.KernelDft.τ).loc Cert.KernelDft.main_arg2) = m ((c.tc : Thread Cert.KernelDft.nD Cert.KernelDft.τ).loc Cert.KernelDft.main_arg2))
      ∧ r.2.sem = fun _ => 0)

def quiescent_KernelDftIdeal [hKernelDftIdeal : Cert.KernelDftIdeal.Facts] : Prop :=
  ∀ (m : (ℓ : Loc Cert.KernelDftIdeal.nD Cert.KernelDftIdeal.τ Cert.KernelDftIdeal.sig) → Buf (Elt Ideal) ℓ) (g : Dev Cert.KernelDftIdeal.nD → PrngReg), Pre_KernelDftIdeal m →
    θ_run (Cert.KernelDftIdeal.defs (F := Ideal)) (onTc (τ := Cert.KernelDftIdeal.τ) (Cert.KernelDftIdeal.main (F := Ideal))) ⟨m, fun _ => 0, g⟩ (fun r => (∀ c : Dev Cert.KernelDftIdeal.nD,
      r.2.mem ((c.tc : Thread Cert.KernelDftIdeal.nD Cert.KernelDftIdeal.τ).loc Cert.KernelDftIdeal.main_arg0) = m ((c.tc : Thread Cert.KernelDftIdeal.nD Cert.KernelDftIdeal.τ).loc Cert.KernelDftIdeal.main_arg0)
      ∧ r.2.mem ((c.tc : Thread Cert.KernelDftIdeal.nD Cert.KernelDftIdeal.τ).loc Cert.KernelDftIdeal.main_arg1) = m ((c.tc : Thread Cert.KernelDftIdeal.nD Cert.KernelDftIdeal.τ).loc Cert.KernelDftIdeal.main_arg1)
      ∧ r.2.mem ((c.tc : Thread Cert.KernelDftIdeal.nD Cert.KernelDftIdeal.τ).loc Cert.KernelDftIdeal.main_arg2) = m ((c.tc : Thread Cert.KernelDftIdeal.nD Cert.KernelDftIdeal.τ).loc Cert.KernelDftIdeal.main_arg2))
      ∧ r.2.sem = fun _ => 0)

def quiescent_ReferenceDftIdeal [hReferenceDftIdeal : Cert.ReferenceDftIdeal.Facts] : Prop :=
  ∀ (m : (ℓ : Loc Cert.ReferenceDftIdeal.nD Cert.ReferenceDftIdeal.τ Cert.ReferenceDftIdeal.sig) → Buf (Elt Ideal) ℓ) (g : Dev Cert.ReferenceDftIdeal.nD → PrngReg), Pre_ReferenceDftIdeal m →
    θ_run (Cert.ReferenceDftIdeal.defs (F := Ideal)) (onTc (τ := Cert.ReferenceDftIdeal.τ) (Cert.ReferenceDftIdeal.main (F := Ideal))) ⟨m, fun _ => 0, g⟩ (fun r => (∀ c : Dev Cert.ReferenceDftIdeal.nD,
      r.2.mem ((c.tc : Thread Cert.ReferenceDftIdeal.nD Cert.ReferenceDftIdeal.τ).loc Cert.ReferenceDftIdeal.main_arg0) = m ((c.tc : Thread Cert.ReferenceDftIdeal.nD Cert.ReferenceDftIdeal.τ).loc Cert.ReferenceDftIdeal.main_arg0)
      ∧ r.2.mem ((c.tc : Thread Cert.ReferenceDftIdeal.nD Cert.ReferenceDftIdeal.τ).loc Cert.ReferenceDftIdeal.main_arg1) = m ((c.tc : Thread Cert.ReferenceDftIdeal.nD Cert.ReferenceDftIdeal.τ).loc Cert.ReferenceDftIdeal.main_arg1)
      ∧ r.2.mem ((c.tc : Thread Cert.ReferenceDftIdeal.nD Cert.ReferenceDftIdeal.τ).loc Cert.ReferenceDftIdeal.main_arg2) = m ((c.tc : Thread Cert.ReferenceDftIdeal.nD Cert.ReferenceDftIdeal.τ).loc Cert.ReferenceDftIdeal.main_arg2))
      ∧ r.2.sem = fun _ => 0)

def quiescent_KernelFfnContextSecond [hKernelFfnContextSecond : Cert.KernelFfnContextSecond.Facts] : Prop :=
  ∀ (m : (ℓ : Loc Cert.KernelFfnContextSecond.nD Cert.KernelFfnContextSecond.τ Cert.KernelFfnContextSecond.sig) → Buf (Elt Bits) ℓ) (g : Dev Cert.KernelFfnContextSecond.nD → PrngReg), Pre_KernelFfnContextSecond m →
    θ_run (Cert.KernelFfnContextSecond.defs (F := Bits)) (onTc (τ := Cert.KernelFfnContextSecond.τ) (Cert.KernelFfnContextSecond.main (F := Bits))) ⟨m, fun _ => 0, g⟩ (fun r => (∀ c : Dev Cert.KernelFfnContextSecond.nD,
      r.2.mem ((c.tc : Thread Cert.KernelFfnContextSecond.nD Cert.KernelFfnContextSecond.τ).loc Cert.KernelFfnContextSecond.main_arg0) = m ((c.tc : Thread Cert.KernelFfnContextSecond.nD Cert.KernelFfnContextSecond.τ).loc Cert.KernelFfnContextSecond.main_arg0)
      ∧ r.2.mem ((c.tc : Thread Cert.KernelFfnContextSecond.nD Cert.KernelFfnContextSecond.τ).loc Cert.KernelFfnContextSecond.main_arg1) = m ((c.tc : Thread Cert.KernelFfnContextSecond.nD Cert.KernelFfnContextSecond.τ).loc Cert.KernelFfnContextSecond.main_arg1)
      ∧ r.2.mem ((c.tc : Thread Cert.KernelFfnContextSecond.nD Cert.KernelFfnContextSecond.τ).loc Cert.KernelFfnContextSecond.main_arg2) = m ((c.tc : Thread Cert.KernelFfnContextSecond.nD Cert.KernelFfnContextSecond.τ).loc Cert.KernelFfnContextSecond.main_arg2)
      ∧ r.2.mem ((c.tc : Thread Cert.KernelFfnContextSecond.nD Cert.KernelFfnContextSecond.τ).loc Cert.KernelFfnContextSecond.main_arg3) = m ((c.tc : Thread Cert.KernelFfnContextSecond.nD Cert.KernelFfnContextSecond.τ).loc Cert.KernelFfnContextSecond.main_arg3)
      ∧ r.2.mem ((c.tc : Thread Cert.KernelFfnContextSecond.nD Cert.KernelFfnContextSecond.τ).loc Cert.KernelFfnContextSecond.main_arg4) = m ((c.tc : Thread Cert.KernelFfnContextSecond.nD Cert.KernelFfnContextSecond.τ).loc Cert.KernelFfnContextSecond.main_arg4))
      ∧ r.2.sem = fun _ => 0)

def quiescent_KernelFfnContextSecondIdeal [hKernelFfnContextSecondIdeal : Cert.KernelFfnContextSecondIdeal.Facts] : Prop :=
  ∀ (m : (ℓ : Loc Cert.KernelFfnContextSecondIdeal.nD Cert.KernelFfnContextSecondIdeal.τ Cert.KernelFfnContextSecondIdeal.sig) → Buf (Elt Ideal) ℓ) (g : Dev Cert.KernelFfnContextSecondIdeal.nD → PrngReg), Pre_KernelFfnContextSecondIdeal m →
    θ_run (Cert.KernelFfnContextSecondIdeal.defs (F := Ideal)) (onTc (τ := Cert.KernelFfnContextSecondIdeal.τ) (Cert.KernelFfnContextSecondIdeal.main (F := Ideal))) ⟨m, fun _ => 0, g⟩ (fun r => (∀ c : Dev Cert.KernelFfnContextSecondIdeal.nD,
      r.2.mem ((c.tc : Thread Cert.KernelFfnContextSecondIdeal.nD Cert.KernelFfnContextSecondIdeal.τ).loc Cert.KernelFfnContextSecondIdeal.main_arg0) = m ((c.tc : Thread Cert.KernelFfnContextSecondIdeal.nD Cert.KernelFfnContextSecondIdeal.τ).loc Cert.KernelFfnContextSecondIdeal.main_arg0)
      ∧ r.2.mem ((c.tc : Thread Cert.KernelFfnContextSecondIdeal.nD Cert.KernelFfnContextSecondIdeal.τ).loc Cert.KernelFfnContextSecondIdeal.main_arg1) = m ((c.tc : Thread Cert.KernelFfnContextSecondIdeal.nD Cert.KernelFfnContextSecondIdeal.τ).loc Cert.KernelFfnContextSecondIdeal.main_arg1)
      ∧ r.2.mem ((c.tc : Thread Cert.KernelFfnContextSecondIdeal.nD Cert.KernelFfnContextSecondIdeal.τ).loc Cert.KernelFfnContextSecondIdeal.main_arg2) = m ((c.tc : Thread Cert.KernelFfnContextSecondIdeal.nD Cert.KernelFfnContextSecondIdeal.τ).loc Cert.KernelFfnContextSecondIdeal.main_arg2)
      ∧ r.2.mem ((c.tc : Thread Cert.KernelFfnContextSecondIdeal.nD Cert.KernelFfnContextSecondIdeal.τ).loc Cert.KernelFfnContextSecondIdeal.main_arg3) = m ((c.tc : Thread Cert.KernelFfnContextSecondIdeal.nD Cert.KernelFfnContextSecondIdeal.τ).loc Cert.KernelFfnContextSecondIdeal.main_arg3)
      ∧ r.2.mem ((c.tc : Thread Cert.KernelFfnContextSecondIdeal.nD Cert.KernelFfnContextSecondIdeal.τ).loc Cert.KernelFfnContextSecondIdeal.main_arg4) = m ((c.tc : Thread Cert.KernelFfnContextSecondIdeal.nD Cert.KernelFfnContextSecondIdeal.τ).loc Cert.KernelFfnContextSecondIdeal.main_arg4))
      ∧ r.2.sem = fun _ => 0)

def quiescent_ReferenceFfnContextSecondIdeal [hReferenceFfnContextSecondIdeal : Cert.ReferenceFfnContextSecondIdeal.Facts] : Prop :=
  ∀ (m : (ℓ : Loc Cert.ReferenceFfnContextSecondIdeal.nD Cert.ReferenceFfnContextSecondIdeal.τ Cert.ReferenceFfnContextSecondIdeal.sig) → Buf (Elt Ideal) ℓ) (g : Dev Cert.ReferenceFfnContextSecondIdeal.nD → PrngReg), Pre_ReferenceFfnContextSecondIdeal m →
    θ_run (Cert.ReferenceFfnContextSecondIdeal.defs (F := Ideal)) (onTc (τ := Cert.ReferenceFfnContextSecondIdeal.τ) (Cert.ReferenceFfnContextSecondIdeal.main (F := Ideal))) ⟨m, fun _ => 0, g⟩ (fun r => (∀ c : Dev Cert.ReferenceFfnContextSecondIdeal.nD,
      r.2.mem ((c.tc : Thread Cert.ReferenceFfnContextSecondIdeal.nD Cert.ReferenceFfnContextSecondIdeal.τ).loc Cert.ReferenceFfnContextSecondIdeal.main_arg0) = m ((c.tc : Thread Cert.ReferenceFfnContextSecondIdeal.nD Cert.ReferenceFfnContextSecondIdeal.τ).loc Cert.ReferenceFfnContextSecondIdeal.main_arg0)
      ∧ r.2.mem ((c.tc : Thread Cert.ReferenceFfnContextSecondIdeal.nD Cert.ReferenceFfnContextSecondIdeal.τ).loc Cert.ReferenceFfnContextSecondIdeal.main_arg1) = m ((c.tc : Thread Cert.ReferenceFfnContextSecondIdeal.nD Cert.ReferenceFfnContextSecondIdeal.τ).loc Cert.ReferenceFfnContextSecondIdeal.main_arg1)
      ∧ r.2.mem ((c.tc : Thread Cert.ReferenceFfnContextSecondIdeal.nD Cert.ReferenceFfnContextSecondIdeal.τ).loc Cert.ReferenceFfnContextSecondIdeal.main_arg2) = m ((c.tc : Thread Cert.ReferenceFfnContextSecondIdeal.nD Cert.ReferenceFfnContextSecondIdeal.τ).loc Cert.ReferenceFfnContextSecondIdeal.main_arg2)
      ∧ r.2.mem ((c.tc : Thread Cert.ReferenceFfnContextSecondIdeal.nD Cert.ReferenceFfnContextSecondIdeal.τ).loc Cert.ReferenceFfnContextSecondIdeal.main_arg3) = m ((c.tc : Thread Cert.ReferenceFfnContextSecondIdeal.nD Cert.ReferenceFfnContextSecondIdeal.τ).loc Cert.ReferenceFfnContextSecondIdeal.main_arg3)
      ∧ r.2.mem ((c.tc : Thread Cert.ReferenceFfnContextSecondIdeal.nD Cert.ReferenceFfnContextSecondIdeal.τ).loc Cert.ReferenceFfnContextSecondIdeal.main_arg4) = m ((c.tc : Thread Cert.ReferenceFfnContextSecondIdeal.nD Cert.ReferenceFfnContextSecondIdeal.τ).loc Cert.ReferenceFfnContextSecondIdeal.main_arg4))
      ∧ r.2.sem = fun _ => 0)

def quiescent_KernelOutContext [hKernelOutContext : Cert.KernelOutContext.Facts] : Prop :=
  ∀ (m : (ℓ : Loc Cert.KernelOutContext.nD Cert.KernelOutContext.τ Cert.KernelOutContext.sig) → Buf (Elt Bits) ℓ) (g : Dev Cert.KernelOutContext.nD → PrngReg), Pre_KernelOutContext m →
    θ_run (Cert.KernelOutContext.defs (F := Bits)) (onTc (τ := Cert.KernelOutContext.τ) (Cert.KernelOutContext.main (F := Bits))) ⟨m, fun _ => 0, g⟩ (fun r => (∀ c : Dev Cert.KernelOutContext.nD,
      r.2.mem ((c.tc : Thread Cert.KernelOutContext.nD Cert.KernelOutContext.τ).loc Cert.KernelOutContext.main_arg0) = m ((c.tc : Thread Cert.KernelOutContext.nD Cert.KernelOutContext.τ).loc Cert.KernelOutContext.main_arg0)
      ∧ r.2.mem ((c.tc : Thread Cert.KernelOutContext.nD Cert.KernelOutContext.τ).loc Cert.KernelOutContext.main_arg1) = m ((c.tc : Thread Cert.KernelOutContext.nD Cert.KernelOutContext.τ).loc Cert.KernelOutContext.main_arg1)
      ∧ r.2.mem ((c.tc : Thread Cert.KernelOutContext.nD Cert.KernelOutContext.τ).loc Cert.KernelOutContext.main_arg2) = m ((c.tc : Thread Cert.KernelOutContext.nD Cert.KernelOutContext.τ).loc Cert.KernelOutContext.main_arg2)
      ∧ r.2.mem ((c.tc : Thread Cert.KernelOutContext.nD Cert.KernelOutContext.τ).loc Cert.KernelOutContext.main_arg3) = m ((c.tc : Thread Cert.KernelOutContext.nD Cert.KernelOutContext.τ).loc Cert.KernelOutContext.main_arg3)
      ∧ r.2.mem ((c.tc : Thread Cert.KernelOutContext.nD Cert.KernelOutContext.τ).loc Cert.KernelOutContext.main_arg4) = m ((c.tc : Thread Cert.KernelOutContext.nD Cert.KernelOutContext.τ).loc Cert.KernelOutContext.main_arg4)
      ∧ r.2.mem ((c.tc : Thread Cert.KernelOutContext.nD Cert.KernelOutContext.τ).loc Cert.KernelOutContext.main_arg5) = m ((c.tc : Thread Cert.KernelOutContext.nD Cert.KernelOutContext.τ).loc Cert.KernelOutContext.main_arg5)
      ∧ r.2.mem ((c.tc : Thread Cert.KernelOutContext.nD Cert.KernelOutContext.τ).loc Cert.KernelOutContext.main_arg6) = m ((c.tc : Thread Cert.KernelOutContext.nD Cert.KernelOutContext.τ).loc Cert.KernelOutContext.main_arg6)
      ∧ r.2.mem ((c.tc : Thread Cert.KernelOutContext.nD Cert.KernelOutContext.τ).loc Cert.KernelOutContext.main_arg7) = m ((c.tc : Thread Cert.KernelOutContext.nD Cert.KernelOutContext.τ).loc Cert.KernelOutContext.main_arg7))
      ∧ r.2.sem = fun _ => 0)

def quiescent_KernelOutContextIdeal [hKernelOutContextIdeal : Cert.KernelOutContextIdeal.Facts] : Prop :=
  ∀ (m : (ℓ : Loc Cert.KernelOutContextIdeal.nD Cert.KernelOutContextIdeal.τ Cert.KernelOutContextIdeal.sig) → Buf (Elt Ideal) ℓ) (g : Dev Cert.KernelOutContextIdeal.nD → PrngReg), Pre_KernelOutContextIdeal m →
    θ_run (Cert.KernelOutContextIdeal.defs (F := Ideal)) (onTc (τ := Cert.KernelOutContextIdeal.τ) (Cert.KernelOutContextIdeal.main (F := Ideal))) ⟨m, fun _ => 0, g⟩ (fun r => (∀ c : Dev Cert.KernelOutContextIdeal.nD,
      r.2.mem ((c.tc : Thread Cert.KernelOutContextIdeal.nD Cert.KernelOutContextIdeal.τ).loc Cert.KernelOutContextIdeal.main_arg0) = m ((c.tc : Thread Cert.KernelOutContextIdeal.nD Cert.KernelOutContextIdeal.τ).loc Cert.KernelOutContextIdeal.main_arg0)
      ∧ r.2.mem ((c.tc : Thread Cert.KernelOutContextIdeal.nD Cert.KernelOutContextIdeal.τ).loc Cert.KernelOutContextIdeal.main_arg1) = m ((c.tc : Thread Cert.KernelOutContextIdeal.nD Cert.KernelOutContextIdeal.τ).loc Cert.KernelOutContextIdeal.main_arg1)
      ∧ r.2.mem ((c.tc : Thread Cert.KernelOutContextIdeal.nD Cert.KernelOutContextIdeal.τ).loc Cert.KernelOutContextIdeal.main_arg2) = m ((c.tc : Thread Cert.KernelOutContextIdeal.nD Cert.KernelOutContextIdeal.τ).loc Cert.KernelOutContextIdeal.main_arg2)
      ∧ r.2.mem ((c.tc : Thread Cert.KernelOutContextIdeal.nD Cert.KernelOutContextIdeal.τ).loc Cert.KernelOutContextIdeal.main_arg3) = m ((c.tc : Thread Cert.KernelOutContextIdeal.nD Cert.KernelOutContextIdeal.τ).loc Cert.KernelOutContextIdeal.main_arg3)
      ∧ r.2.mem ((c.tc : Thread Cert.KernelOutContextIdeal.nD Cert.KernelOutContextIdeal.τ).loc Cert.KernelOutContextIdeal.main_arg4) = m ((c.tc : Thread Cert.KernelOutContextIdeal.nD Cert.KernelOutContextIdeal.τ).loc Cert.KernelOutContextIdeal.main_arg4)
      ∧ r.2.mem ((c.tc : Thread Cert.KernelOutContextIdeal.nD Cert.KernelOutContextIdeal.τ).loc Cert.KernelOutContextIdeal.main_arg5) = m ((c.tc : Thread Cert.KernelOutContextIdeal.nD Cert.KernelOutContextIdeal.τ).loc Cert.KernelOutContextIdeal.main_arg5)
      ∧ r.2.mem ((c.tc : Thread Cert.KernelOutContextIdeal.nD Cert.KernelOutContextIdeal.τ).loc Cert.KernelOutContextIdeal.main_arg6) = m ((c.tc : Thread Cert.KernelOutContextIdeal.nD Cert.KernelOutContextIdeal.τ).loc Cert.KernelOutContextIdeal.main_arg6)
      ∧ r.2.mem ((c.tc : Thread Cert.KernelOutContextIdeal.nD Cert.KernelOutContextIdeal.τ).loc Cert.KernelOutContextIdeal.main_arg7) = m ((c.tc : Thread Cert.KernelOutContextIdeal.nD Cert.KernelOutContextIdeal.τ).loc Cert.KernelOutContextIdeal.main_arg7))
      ∧ r.2.sem = fun _ => 0)

def quiescent_ReferenceOutContextIdeal [hReferenceOutContextIdeal : Cert.ReferenceOutContextIdeal.Facts] : Prop :=
  ∀ (m : (ℓ : Loc Cert.ReferenceOutContextIdeal.nD Cert.ReferenceOutContextIdeal.τ Cert.ReferenceOutContextIdeal.sig) → Buf (Elt Ideal) ℓ) (g : Dev Cert.ReferenceOutContextIdeal.nD → PrngReg), Pre_ReferenceOutContextIdeal m →
    θ_run (Cert.ReferenceOutContextIdeal.defs (F := Ideal)) (onTc (τ := Cert.ReferenceOutContextIdeal.τ) (Cert.ReferenceOutContextIdeal.main (F := Ideal))) ⟨m, fun _ => 0, g⟩ (fun r => (∀ c : Dev Cert.ReferenceOutContextIdeal.nD,
      r.2.mem ((c.tc : Thread Cert.ReferenceOutContextIdeal.nD Cert.ReferenceOutContextIdeal.τ).loc Cert.ReferenceOutContextIdeal.main_arg0) = m ((c.tc : Thread Cert.ReferenceOutContextIdeal.nD Cert.ReferenceOutContextIdeal.τ).loc Cert.ReferenceOutContextIdeal.main_arg0)
      ∧ r.2.mem ((c.tc : Thread Cert.ReferenceOutContextIdeal.nD Cert.ReferenceOutContextIdeal.τ).loc Cert.ReferenceOutContextIdeal.main_arg1) = m ((c.tc : Thread Cert.ReferenceOutContextIdeal.nD Cert.ReferenceOutContextIdeal.τ).loc Cert.ReferenceOutContextIdeal.main_arg1)
      ∧ r.2.mem ((c.tc : Thread Cert.ReferenceOutContextIdeal.nD Cert.ReferenceOutContextIdeal.τ).loc Cert.ReferenceOutContextIdeal.main_arg2) = m ((c.tc : Thread Cert.ReferenceOutContextIdeal.nD Cert.ReferenceOutContextIdeal.τ).loc Cert.ReferenceOutContextIdeal.main_arg2)
      ∧ r.2.mem ((c.tc : Thread Cert.ReferenceOutContextIdeal.nD Cert.ReferenceOutContextIdeal.τ).loc Cert.ReferenceOutContextIdeal.main_arg3) = m ((c.tc : Thread Cert.ReferenceOutContextIdeal.nD Cert.ReferenceOutContextIdeal.τ).loc Cert.ReferenceOutContextIdeal.main_arg3)
      ∧ r.2.mem ((c.tc : Thread Cert.ReferenceOutContextIdeal.nD Cert.ReferenceOutContextIdeal.τ).loc Cert.ReferenceOutContextIdeal.main_arg4) = m ((c.tc : Thread Cert.ReferenceOutContextIdeal.nD Cert.ReferenceOutContextIdeal.τ).loc Cert.ReferenceOutContextIdeal.main_arg4)
      ∧ r.2.mem ((c.tc : Thread Cert.ReferenceOutContextIdeal.nD Cert.ReferenceOutContextIdeal.τ).loc Cert.ReferenceOutContextIdeal.main_arg5) = m ((c.tc : Thread Cert.ReferenceOutContextIdeal.nD Cert.ReferenceOutContextIdeal.τ).loc Cert.ReferenceOutContextIdeal.main_arg5)
      ∧ r.2.mem ((c.tc : Thread Cert.ReferenceOutContextIdeal.nD Cert.ReferenceOutContextIdeal.τ).loc Cert.ReferenceOutContextIdeal.main_arg6) = m ((c.tc : Thread Cert.ReferenceOutContextIdeal.nD Cert.ReferenceOutContextIdeal.τ).loc Cert.ReferenceOutContextIdeal.main_arg6)
      ∧ r.2.mem ((c.tc : Thread Cert.ReferenceOutContextIdeal.nD Cert.ReferenceOutContextIdeal.τ).loc Cert.ReferenceOutContextIdeal.main_arg7) = m ((c.tc : Thread Cert.ReferenceOutContextIdeal.nD Cert.ReferenceOutContextIdeal.τ).loc Cert.ReferenceOutContextIdeal.main_arg7))
      ∧ r.2.sem = fun _ => 0)

def quiescent_KernelInMix [hKernelInMix : Cert.KernelInMix.Facts] : Prop :=
  ∀ (m : (ℓ : Loc Cert.KernelInMix.nD Cert.KernelInMix.τ Cert.KernelInMix.sig) → Buf (Elt Bits) ℓ) (g : Dev Cert.KernelInMix.nD → PrngReg), Pre_KernelInMix m →
    θ_run (Cert.KernelInMix.defs (F := Bits)) (onTc (τ := Cert.KernelInMix.τ) (Cert.KernelInMix.main (F := Bits))) ⟨m, fun _ => 0, g⟩ (fun r => (∀ c : Dev Cert.KernelInMix.nD,
      r.2.mem ((c.tc : Thread Cert.KernelInMix.nD Cert.KernelInMix.τ).loc Cert.KernelInMix.main_arg0) = m ((c.tc : Thread Cert.KernelInMix.nD Cert.KernelInMix.τ).loc Cert.KernelInMix.main_arg0)
      ∧ r.2.mem ((c.tc : Thread Cert.KernelInMix.nD Cert.KernelInMix.τ).loc Cert.KernelInMix.main_arg1) = m ((c.tc : Thread Cert.KernelInMix.nD Cert.KernelInMix.τ).loc Cert.KernelInMix.main_arg1)
      ∧ r.2.mem ((c.tc : Thread Cert.KernelInMix.nD Cert.KernelInMix.τ).loc Cert.KernelInMix.main_arg2) = m ((c.tc : Thread Cert.KernelInMix.nD Cert.KernelInMix.τ).loc Cert.KernelInMix.main_arg2)
      ∧ r.2.mem ((c.tc : Thread Cert.KernelInMix.nD Cert.KernelInMix.τ).loc Cert.KernelInMix.main_arg3) = m ((c.tc : Thread Cert.KernelInMix.nD Cert.KernelInMix.τ).loc Cert.KernelInMix.main_arg3)
      ∧ r.2.mem ((c.tc : Thread Cert.KernelInMix.nD Cert.KernelInMix.τ).loc Cert.KernelInMix.main_arg4) = m ((c.tc : Thread Cert.KernelInMix.nD Cert.KernelInMix.τ).loc Cert.KernelInMix.main_arg4)
      ∧ r.2.mem ((c.tc : Thread Cert.KernelInMix.nD Cert.KernelInMix.τ).loc Cert.KernelInMix.main_arg5) = m ((c.tc : Thread Cert.KernelInMix.nD Cert.KernelInMix.τ).loc Cert.KernelInMix.main_arg5)
      ∧ r.2.mem ((c.tc : Thread Cert.KernelInMix.nD Cert.KernelInMix.τ).loc Cert.KernelInMix.main_arg6) = m ((c.tc : Thread Cert.KernelInMix.nD Cert.KernelInMix.τ).loc Cert.KernelInMix.main_arg6)
      ∧ r.2.mem ((c.tc : Thread Cert.KernelInMix.nD Cert.KernelInMix.τ).loc Cert.KernelInMix.main_arg7) = m ((c.tc : Thread Cert.KernelInMix.nD Cert.KernelInMix.τ).loc Cert.KernelInMix.main_arg7)
      ∧ r.2.mem ((c.tc : Thread Cert.KernelInMix.nD Cert.KernelInMix.τ).loc Cert.KernelInMix.main_arg8) = m ((c.tc : Thread Cert.KernelInMix.nD Cert.KernelInMix.τ).loc Cert.KernelInMix.main_arg8)
      ∧ r.2.mem ((c.tc : Thread Cert.KernelInMix.nD Cert.KernelInMix.τ).loc Cert.KernelInMix.main_arg9) = m ((c.tc : Thread Cert.KernelInMix.nD Cert.KernelInMix.τ).loc Cert.KernelInMix.main_arg9))
      ∧ r.2.sem = fun _ => 0)

def quiescent_KernelInMixIdeal [hKernelInMixIdeal : Cert.KernelInMixIdeal.Facts] : Prop :=
  ∀ (m : (ℓ : Loc Cert.KernelInMixIdeal.nD Cert.KernelInMixIdeal.τ Cert.KernelInMixIdeal.sig) → Buf (Elt Ideal) ℓ) (g : Dev Cert.KernelInMixIdeal.nD → PrngReg), Pre_KernelInMixIdeal m →
    θ_run (Cert.KernelInMixIdeal.defs (F := Ideal)) (onTc (τ := Cert.KernelInMixIdeal.τ) (Cert.KernelInMixIdeal.main (F := Ideal))) ⟨m, fun _ => 0, g⟩ (fun r => (∀ c : Dev Cert.KernelInMixIdeal.nD,
      r.2.mem ((c.tc : Thread Cert.KernelInMixIdeal.nD Cert.KernelInMixIdeal.τ).loc Cert.KernelInMixIdeal.main_arg0) = m ((c.tc : Thread Cert.KernelInMixIdeal.nD Cert.KernelInMixIdeal.τ).loc Cert.KernelInMixIdeal.main_arg0)
      ∧ r.2.mem ((c.tc : Thread Cert.KernelInMixIdeal.nD Cert.KernelInMixIdeal.τ).loc Cert.KernelInMixIdeal.main_arg1) = m ((c.tc : Thread Cert.KernelInMixIdeal.nD Cert.KernelInMixIdeal.τ).loc Cert.KernelInMixIdeal.main_arg1)
      ∧ r.2.mem ((c.tc : Thread Cert.KernelInMixIdeal.nD Cert.KernelInMixIdeal.τ).loc Cert.KernelInMixIdeal.main_arg2) = m ((c.tc : Thread Cert.KernelInMixIdeal.nD Cert.KernelInMixIdeal.τ).loc Cert.KernelInMixIdeal.main_arg2)
      ∧ r.2.mem ((c.tc : Thread Cert.KernelInMixIdeal.nD Cert.KernelInMixIdeal.τ).loc Cert.KernelInMixIdeal.main_arg3) = m ((c.tc : Thread Cert.KernelInMixIdeal.nD Cert.KernelInMixIdeal.τ).loc Cert.KernelInMixIdeal.main_arg3)
      ∧ r.2.mem ((c.tc : Thread Cert.KernelInMixIdeal.nD Cert.KernelInMixIdeal.τ).loc Cert.KernelInMixIdeal.main_arg4) = m ((c.tc : Thread Cert.KernelInMixIdeal.nD Cert.KernelInMixIdeal.τ).loc Cert.KernelInMixIdeal.main_arg4)
      ∧ r.2.mem ((c.tc : Thread Cert.KernelInMixIdeal.nD Cert.KernelInMixIdeal.τ).loc Cert.KernelInMixIdeal.main_arg5) = m ((c.tc : Thread Cert.KernelInMixIdeal.nD Cert.KernelInMixIdeal.τ).loc Cert.KernelInMixIdeal.main_arg5)
      ∧ r.2.mem ((c.tc : Thread Cert.KernelInMixIdeal.nD Cert.KernelInMixIdeal.τ).loc Cert.KernelInMixIdeal.main_arg6) = m ((c.tc : Thread Cert.KernelInMixIdeal.nD Cert.KernelInMixIdeal.τ).loc Cert.KernelInMixIdeal.main_arg6)
      ∧ r.2.mem ((c.tc : Thread Cert.KernelInMixIdeal.nD Cert.KernelInMixIdeal.τ).loc Cert.KernelInMixIdeal.main_arg7) = m ((c.tc : Thread Cert.KernelInMixIdeal.nD Cert.KernelInMixIdeal.τ).loc Cert.KernelInMixIdeal.main_arg7)
      ∧ r.2.mem ((c.tc : Thread Cert.KernelInMixIdeal.nD Cert.KernelInMixIdeal.τ).loc Cert.KernelInMixIdeal.main_arg8) = m ((c.tc : Thread Cert.KernelInMixIdeal.nD Cert.KernelInMixIdeal.τ).loc Cert.KernelInMixIdeal.main_arg8)
      ∧ r.2.mem ((c.tc : Thread Cert.KernelInMixIdeal.nD Cert.KernelInMixIdeal.τ).loc Cert.KernelInMixIdeal.main_arg9) = m ((c.tc : Thread Cert.KernelInMixIdeal.nD Cert.KernelInMixIdeal.τ).loc Cert.KernelInMixIdeal.main_arg9))
      ∧ r.2.sem = fun _ => 0)

def quiescent_ReferenceInMixIdeal [hReferenceInMixIdeal : Cert.ReferenceInMixIdeal.Facts] : Prop :=
  ∀ (m : (ℓ : Loc Cert.ReferenceInMixIdeal.nD Cert.ReferenceInMixIdeal.τ Cert.ReferenceInMixIdeal.sig) → Buf (Elt Ideal) ℓ) (g : Dev Cert.ReferenceInMixIdeal.nD → PrngReg), Pre_ReferenceInMixIdeal m →
    θ_run (Cert.ReferenceInMixIdeal.defs (F := Ideal)) (onTc (τ := Cert.ReferenceInMixIdeal.τ) (Cert.ReferenceInMixIdeal.main (F := Ideal))) ⟨m, fun _ => 0, g⟩ (fun r => (∀ c : Dev Cert.ReferenceInMixIdeal.nD,
      r.2.mem ((c.tc : Thread Cert.ReferenceInMixIdeal.nD Cert.ReferenceInMixIdeal.τ).loc Cert.ReferenceInMixIdeal.main_arg0) = m ((c.tc : Thread Cert.ReferenceInMixIdeal.nD Cert.ReferenceInMixIdeal.τ).loc Cert.ReferenceInMixIdeal.main_arg0)
      ∧ r.2.mem ((c.tc : Thread Cert.ReferenceInMixIdeal.nD Cert.ReferenceInMixIdeal.τ).loc Cert.ReferenceInMixIdeal.main_arg1) = m ((c.tc : Thread Cert.ReferenceInMixIdeal.nD Cert.ReferenceInMixIdeal.τ).loc Cert.ReferenceInMixIdeal.main_arg1)
      ∧ r.2.mem ((c.tc : Thread Cert.ReferenceInMixIdeal.nD Cert.ReferenceInMixIdeal.τ).loc Cert.ReferenceInMixIdeal.main_arg2) = m ((c.tc : Thread Cert.ReferenceInMixIdeal.nD Cert.ReferenceInMixIdeal.τ).loc Cert.ReferenceInMixIdeal.main_arg2)
      ∧ r.2.mem ((c.tc : Thread Cert.ReferenceInMixIdeal.nD Cert.ReferenceInMixIdeal.τ).loc Cert.ReferenceInMixIdeal.main_arg3) = m ((c.tc : Thread Cert.ReferenceInMixIdeal.nD Cert.ReferenceInMixIdeal.τ).loc Cert.ReferenceInMixIdeal.main_arg3)
      ∧ r.2.mem ((c.tc : Thread Cert.ReferenceInMixIdeal.nD Cert.ReferenceInMixIdeal.τ).loc Cert.ReferenceInMixIdeal.main_arg4) = m ((c.tc : Thread Cert.ReferenceInMixIdeal.nD Cert.ReferenceInMixIdeal.τ).loc Cert.ReferenceInMixIdeal.main_arg4)
      ∧ r.2.mem ((c.tc : Thread Cert.ReferenceInMixIdeal.nD Cert.ReferenceInMixIdeal.τ).loc Cert.ReferenceInMixIdeal.main_arg5) = m ((c.tc : Thread Cert.ReferenceInMixIdeal.nD Cert.ReferenceInMixIdeal.τ).loc Cert.ReferenceInMixIdeal.main_arg5)
      ∧ r.2.mem ((c.tc : Thread Cert.ReferenceInMixIdeal.nD Cert.ReferenceInMixIdeal.τ).loc Cert.ReferenceInMixIdeal.main_arg6) = m ((c.tc : Thread Cert.ReferenceInMixIdeal.nD Cert.ReferenceInMixIdeal.τ).loc Cert.ReferenceInMixIdeal.main_arg6)
      ∧ r.2.mem ((c.tc : Thread Cert.ReferenceInMixIdeal.nD Cert.ReferenceInMixIdeal.τ).loc Cert.ReferenceInMixIdeal.main_arg7) = m ((c.tc : Thread Cert.ReferenceInMixIdeal.nD Cert.ReferenceInMixIdeal.τ).loc Cert.ReferenceInMixIdeal.main_arg7)
      ∧ r.2.mem ((c.tc : Thread Cert.ReferenceInMixIdeal.nD Cert.ReferenceInMixIdeal.τ).loc Cert.ReferenceInMixIdeal.main_arg8) = m ((c.tc : Thread Cert.ReferenceInMixIdeal.nD Cert.ReferenceInMixIdeal.τ).loc Cert.ReferenceInMixIdeal.main_arg8)
      ∧ r.2.mem ((c.tc : Thread Cert.ReferenceInMixIdeal.nD Cert.ReferenceInMixIdeal.τ).loc Cert.ReferenceInMixIdeal.main_arg9) = m ((c.tc : Thread Cert.ReferenceInMixIdeal.nD Cert.ReferenceInMixIdeal.τ).loc Cert.ReferenceInMixIdeal.main_arg9))
      ∧ r.2.sem = fun _ => 0)

def quiescent_KernelInCell [hKernelInCell : Cert.KernelInCell.Facts] : Prop :=
  ∀ (m : (ℓ : Loc Cert.KernelInCell.nD Cert.KernelInCell.τ Cert.KernelInCell.sig) → Buf (Elt Bits) ℓ) (g : Dev Cert.KernelInCell.nD → PrngReg), Pre_KernelInCell m →
    θ_run (Cert.KernelInCell.defs (F := Bits)) (onTc (τ := Cert.KernelInCell.τ) (Cert.KernelInCell.main (F := Bits))) ⟨m, fun _ => 0, g⟩ (fun r => (∀ c : Dev Cert.KernelInCell.nD,
      r.2.mem ((c.tc : Thread Cert.KernelInCell.nD Cert.KernelInCell.τ).loc Cert.KernelInCell.main_arg0) = m ((c.tc : Thread Cert.KernelInCell.nD Cert.KernelInCell.τ).loc Cert.KernelInCell.main_arg0)
      ∧ r.2.mem ((c.tc : Thread Cert.KernelInCell.nD Cert.KernelInCell.τ).loc Cert.KernelInCell.main_arg1) = m ((c.tc : Thread Cert.KernelInCell.nD Cert.KernelInCell.τ).loc Cert.KernelInCell.main_arg1)
      ∧ r.2.mem ((c.tc : Thread Cert.KernelInCell.nD Cert.KernelInCell.τ).loc Cert.KernelInCell.main_arg2) = m ((c.tc : Thread Cert.KernelInCell.nD Cert.KernelInCell.τ).loc Cert.KernelInCell.main_arg2)
      ∧ r.2.mem ((c.tc : Thread Cert.KernelInCell.nD Cert.KernelInCell.τ).loc Cert.KernelInCell.main_arg3) = m ((c.tc : Thread Cert.KernelInCell.nD Cert.KernelInCell.τ).loc Cert.KernelInCell.main_arg3)
      ∧ r.2.mem ((c.tc : Thread Cert.KernelInCell.nD Cert.KernelInCell.τ).loc Cert.KernelInCell.main_arg4) = m ((c.tc : Thread Cert.KernelInCell.nD Cert.KernelInCell.τ).loc Cert.KernelInCell.main_arg4)
      ∧ r.2.mem ((c.tc : Thread Cert.KernelInCell.nD Cert.KernelInCell.τ).loc Cert.KernelInCell.main_arg5) = m ((c.tc : Thread Cert.KernelInCell.nD Cert.KernelInCell.τ).loc Cert.KernelInCell.main_arg5)
      ∧ r.2.mem ((c.tc : Thread Cert.KernelInCell.nD Cert.KernelInCell.τ).loc Cert.KernelInCell.main_arg6) = m ((c.tc : Thread Cert.KernelInCell.nD Cert.KernelInCell.τ).loc Cert.KernelInCell.main_arg6)
      ∧ r.2.mem ((c.tc : Thread Cert.KernelInCell.nD Cert.KernelInCell.τ).loc Cert.KernelInCell.main_arg7) = m ((c.tc : Thread Cert.KernelInCell.nD Cert.KernelInCell.τ).loc Cert.KernelInCell.main_arg7)
      ∧ r.2.mem ((c.tc : Thread Cert.KernelInCell.nD Cert.KernelInCell.τ).loc Cert.KernelInCell.main_arg8) = m ((c.tc : Thread Cert.KernelInCell.nD Cert.KernelInCell.τ).loc Cert.KernelInCell.main_arg8)
      ∧ r.2.mem ((c.tc : Thread Cert.KernelInCell.nD Cert.KernelInCell.τ).loc Cert.KernelInCell.main_arg9) = m ((c.tc : Thread Cert.KernelInCell.nD Cert.KernelInCell.τ).loc Cert.KernelInCell.main_arg9))
      ∧ r.2.sem = fun _ => 0)

def quiescent_KernelInCellIdeal [hKernelInCellIdeal : Cert.KernelInCellIdeal.Facts] : Prop :=
  ∀ (m : (ℓ : Loc Cert.KernelInCellIdeal.nD Cert.KernelInCellIdeal.τ Cert.KernelInCellIdeal.sig) → Buf (Elt Ideal) ℓ) (g : Dev Cert.KernelInCellIdeal.nD → PrngReg), Pre_KernelInCellIdeal m →
    θ_run (Cert.KernelInCellIdeal.defs (F := Ideal)) (onTc (τ := Cert.KernelInCellIdeal.τ) (Cert.KernelInCellIdeal.main (F := Ideal))) ⟨m, fun _ => 0, g⟩ (fun r => (∀ c : Dev Cert.KernelInCellIdeal.nD,
      r.2.mem ((c.tc : Thread Cert.KernelInCellIdeal.nD Cert.KernelInCellIdeal.τ).loc Cert.KernelInCellIdeal.main_arg0) = m ((c.tc : Thread Cert.KernelInCellIdeal.nD Cert.KernelInCellIdeal.τ).loc Cert.KernelInCellIdeal.main_arg0)
      ∧ r.2.mem ((c.tc : Thread Cert.KernelInCellIdeal.nD Cert.KernelInCellIdeal.τ).loc Cert.KernelInCellIdeal.main_arg1) = m ((c.tc : Thread Cert.KernelInCellIdeal.nD Cert.KernelInCellIdeal.τ).loc Cert.KernelInCellIdeal.main_arg1)
      ∧ r.2.mem ((c.tc : Thread Cert.KernelInCellIdeal.nD Cert.KernelInCellIdeal.τ).loc Cert.KernelInCellIdeal.main_arg2) = m ((c.tc : Thread Cert.KernelInCellIdeal.nD Cert.KernelInCellIdeal.τ).loc Cert.KernelInCellIdeal.main_arg2)
      ∧ r.2.mem ((c.tc : Thread Cert.KernelInCellIdeal.nD Cert.KernelInCellIdeal.τ).loc Cert.KernelInCellIdeal.main_arg3) = m ((c.tc : Thread Cert.KernelInCellIdeal.nD Cert.KernelInCellIdeal.τ).loc Cert.KernelInCellIdeal.main_arg3)
      ∧ r.2.mem ((c.tc : Thread Cert.KernelInCellIdeal.nD Cert.KernelInCellIdeal.τ).loc Cert.KernelInCellIdeal.main_arg4) = m ((c.tc : Thread Cert.KernelInCellIdeal.nD Cert.KernelInCellIdeal.τ).loc Cert.KernelInCellIdeal.main_arg4)
      ∧ r.2.mem ((c.tc : Thread Cert.KernelInCellIdeal.nD Cert.KernelInCellIdeal.τ).loc Cert.KernelInCellIdeal.main_arg5) = m ((c.tc : Thread Cert.KernelInCellIdeal.nD Cert.KernelInCellIdeal.τ).loc Cert.KernelInCellIdeal.main_arg5)
      ∧ r.2.mem ((c.tc : Thread Cert.KernelInCellIdeal.nD Cert.KernelInCellIdeal.τ).loc Cert.KernelInCellIdeal.main_arg6) = m ((c.tc : Thread Cert.KernelInCellIdeal.nD Cert.KernelInCellIdeal.τ).loc Cert.KernelInCellIdeal.main_arg6)
      ∧ r.2.mem ((c.tc : Thread Cert.KernelInCellIdeal.nD Cert.KernelInCellIdeal.τ).loc Cert.KernelInCellIdeal.main_arg7) = m ((c.tc : Thread Cert.KernelInCellIdeal.nD Cert.KernelInCellIdeal.τ).loc Cert.KernelInCellIdeal.main_arg7)
      ∧ r.2.mem ((c.tc : Thread Cert.KernelInCellIdeal.nD Cert.KernelInCellIdeal.τ).loc Cert.KernelInCellIdeal.main_arg8) = m ((c.tc : Thread Cert.KernelInCellIdeal.nD Cert.KernelInCellIdeal.τ).loc Cert.KernelInCellIdeal.main_arg8)
      ∧ r.2.mem ((c.tc : Thread Cert.KernelInCellIdeal.nD Cert.KernelInCellIdeal.τ).loc Cert.KernelInCellIdeal.main_arg9) = m ((c.tc : Thread Cert.KernelInCellIdeal.nD Cert.KernelInCellIdeal.τ).loc Cert.KernelInCellIdeal.main_arg9))
      ∧ r.2.sem = fun _ => 0)

def quiescent_ReferenceInCellIdeal [hReferenceInCellIdeal : Cert.ReferenceInCellIdeal.Facts] : Prop :=
  ∀ (m : (ℓ : Loc Cert.ReferenceInCellIdeal.nD Cert.ReferenceInCellIdeal.τ Cert.ReferenceInCellIdeal.sig) → Buf (Elt Ideal) ℓ) (g : Dev Cert.ReferenceInCellIdeal.nD → PrngReg), Pre_ReferenceInCellIdeal m →
    θ_run (Cert.ReferenceInCellIdeal.defs (F := Ideal)) (onTc (τ := Cert.ReferenceInCellIdeal.τ) (Cert.ReferenceInCellIdeal.main (F := Ideal))) ⟨m, fun _ => 0, g⟩ (fun r => (∀ c : Dev Cert.ReferenceInCellIdeal.nD,
      r.2.mem ((c.tc : Thread Cert.ReferenceInCellIdeal.nD Cert.ReferenceInCellIdeal.τ).loc Cert.ReferenceInCellIdeal.main_arg0) = m ((c.tc : Thread Cert.ReferenceInCellIdeal.nD Cert.ReferenceInCellIdeal.τ).loc Cert.ReferenceInCellIdeal.main_arg0)
      ∧ r.2.mem ((c.tc : Thread Cert.ReferenceInCellIdeal.nD Cert.ReferenceInCellIdeal.τ).loc Cert.ReferenceInCellIdeal.main_arg1) = m ((c.tc : Thread Cert.ReferenceInCellIdeal.nD Cert.ReferenceInCellIdeal.τ).loc Cert.ReferenceInCellIdeal.main_arg1)
      ∧ r.2.mem ((c.tc : Thread Cert.ReferenceInCellIdeal.nD Cert.ReferenceInCellIdeal.τ).loc Cert.ReferenceInCellIdeal.main_arg2) = m ((c.tc : Thread Cert.ReferenceInCellIdeal.nD Cert.ReferenceInCellIdeal.τ).loc Cert.ReferenceInCellIdeal.main_arg2)
      ∧ r.2.mem ((c.tc : Thread Cert.ReferenceInCellIdeal.nD Cert.ReferenceInCellIdeal.τ).loc Cert.ReferenceInCellIdeal.main_arg3) = m ((c.tc : Thread Cert.ReferenceInCellIdeal.nD Cert.ReferenceInCellIdeal.τ).loc Cert.ReferenceInCellIdeal.main_arg3)
      ∧ r.2.mem ((c.tc : Thread Cert.ReferenceInCellIdeal.nD Cert.ReferenceInCellIdeal.τ).loc Cert.ReferenceInCellIdeal.main_arg4) = m ((c.tc : Thread Cert.ReferenceInCellIdeal.nD Cert.ReferenceInCellIdeal.τ).loc Cert.ReferenceInCellIdeal.main_arg4)
      ∧ r.2.mem ((c.tc : Thread Cert.ReferenceInCellIdeal.nD Cert.ReferenceInCellIdeal.τ).loc Cert.ReferenceInCellIdeal.main_arg5) = m ((c.tc : Thread Cert.ReferenceInCellIdeal.nD Cert.ReferenceInCellIdeal.τ).loc Cert.ReferenceInCellIdeal.main_arg5)
      ∧ r.2.mem ((c.tc : Thread Cert.ReferenceInCellIdeal.nD Cert.ReferenceInCellIdeal.τ).loc Cert.ReferenceInCellIdeal.main_arg6) = m ((c.tc : Thread Cert.ReferenceInCellIdeal.nD Cert.ReferenceInCellIdeal.τ).loc Cert.ReferenceInCellIdeal.main_arg6)
      ∧ r.2.mem ((c.tc : Thread Cert.ReferenceInCellIdeal.nD Cert.ReferenceInCellIdeal.τ).loc Cert.ReferenceInCellIdeal.main_arg7) = m ((c.tc : Thread Cert.ReferenceInCellIdeal.nD Cert.ReferenceInCellIdeal.τ).loc Cert.ReferenceInCellIdeal.main_arg7)
      ∧ r.2.mem ((c.tc : Thread Cert.ReferenceInCellIdeal.nD Cert.ReferenceInCellIdeal.τ).loc Cert.ReferenceInCellIdeal.main_arg8) = m ((c.tc : Thread Cert.ReferenceInCellIdeal.nD Cert.ReferenceInCellIdeal.τ).loc Cert.ReferenceInCellIdeal.main_arg8)
      ∧ r.2.mem ((c.tc : Thread Cert.ReferenceInCellIdeal.nD Cert.ReferenceInCellIdeal.τ).loc Cert.ReferenceInCellIdeal.main_arg9) = m ((c.tc : Thread Cert.ReferenceInCellIdeal.nD Cert.ReferenceInCellIdeal.τ).loc Cert.ReferenceInCellIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v3) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v54) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelFfnFirst_KernelFfnFirstIdeal : Prop :=
  True

def algebraic_KernelFfnFirstIdeal_ReferenceFfnFirstIdeal [hKernelFfnFirstIdeal : Cert.KernelFfnFirstIdeal.Facts] [hReferenceFfnFirstIdeal : Cert.ReferenceFfnFirstIdeal.Facts] : Prop :=
  ∀ (m : (ℓ : Loc Cert.KernelFfnFirstIdeal.nD Cert.KernelFfnFirstIdeal.τ Cert.KernelFfnFirstIdeal.sig) → Buf (Elt Ideal) ℓ) (g : Dev Cert.KernelFfnFirstIdeal.nD → PrngReg)
    (m' : (ℓ : Loc Cert.ReferenceFfnFirstIdeal.nD Cert.ReferenceFfnFirstIdeal.τ Cert.ReferenceFfnFirstIdeal.sig) → Buf (Elt Ideal) ℓ) (g' : Dev Cert.ReferenceFfnFirstIdeal.nD → PrngReg), Pre_KernelFfnFirstIdeal m →
    (∀ c : Dev Cert.KernelFfnFirstIdeal.nD,
      m' ((c.tc : Thread Cert.ReferenceFfnFirstIdeal.nD Cert.ReferenceFfnFirstIdeal.τ).loc Cert.ReferenceFfnFirstIdeal.main_arg0) = m ((c.tc : Thread Cert.KernelFfnFirstIdeal.nD Cert.KernelFfnFirstIdeal.τ).loc Cert.KernelFfnFirstIdeal.main_arg0)
      ∧ m' ((c.tc : Thread Cert.ReferenceFfnFirstIdeal.nD Cert.ReferenceFfnFirstIdeal.τ).loc Cert.ReferenceFfnFirstIdeal.main_arg1) = m ((c.tc : Thread Cert.KernelFfnFirstIdeal.nD Cert.KernelFfnFirstIdeal.τ).loc Cert.KernelFfnFirstIdeal.main_arg1)
      ∧ m' ((c.tc : Thread Cert.ReferenceFfnFirstIdeal.nD Cert.ReferenceFfnFirstIdeal.τ).loc Cert.ReferenceFfnFirstIdeal.main_arg2) = m ((c.tc : Thread Cert.KernelFfnFirstIdeal.nD Cert.KernelFfnFirstIdeal.τ).loc Cert.KernelFfnFirstIdeal.main_arg2)
      ∧ m' ((c.tc : Thread Cert.ReferenceFfnFirstIdeal.nD Cert.ReferenceFfnFirstIdeal.τ).loc Cert.ReferenceFfnFirstIdeal.main_arg3) = m ((c.tc : Thread Cert.KernelFfnFirstIdeal.nD Cert.KernelFfnFirstIdeal.τ).loc Cert.KernelFfnFirstIdeal.main_arg3)
      ∧ m' ((c.tc : Thread Cert.ReferenceFfnFirstIdeal.nD Cert.ReferenceFfnFirstIdeal.τ).loc Cert.ReferenceFfnFirstIdeal.main_arg4) = m ((c.tc : Thread Cert.KernelFfnFirstIdeal.nD Cert.KernelFfnFirstIdeal.τ).loc Cert.KernelFfnFirstIdeal.main_arg4)) →
    ∃ (v0 : (c : Dev Cert.KernelFfnFirstIdeal.nD) → Buf (Elt Ideal) ((c.tc : Thread Cert.KernelFfnFirstIdeal.nD Cert.KernelFfnFirstIdeal.τ).loc Cert.KernelFfnFirstIdeal.main_v2)),
      θ_run (Cert.KernelFfnFirstIdeal.defs (F := Ideal)) (onTc (τ := Cert.KernelFfnFirstIdeal.τ) (Cert.KernelFfnFirstIdeal.main (F := Ideal))) ⟨m, fun _ => 0, g⟩ (fun r => ∀ c : Dev Cert.KernelFfnFirstIdeal.nD,
          r.2.mem ((c.tc : Thread Cert.KernelFfnFirstIdeal.nD Cert.KernelFfnFirstIdeal.τ).loc Cert.KernelFfnFirstIdeal.main_v2) = v0 c
          ∧ r.2.mem ((c.tc : Thread Cert.KernelFfnFirstIdeal.nD Cert.KernelFfnFirstIdeal.τ).loc Cert.KernelFfnFirstIdeal.main_arg0) = m ((c.tc : Thread Cert.KernelFfnFirstIdeal.nD Cert.KernelFfnFirstIdeal.τ).loc Cert.KernelFfnFirstIdeal.main_arg0)
          ∧ r.2.mem ((c.tc : Thread Cert.KernelFfnFirstIdeal.nD Cert.KernelFfnFirstIdeal.τ).loc Cert.KernelFfnFirstIdeal.main_arg1) = m ((c.tc : Thread Cert.KernelFfnFirstIdeal.nD Cert.KernelFfnFirstIdeal.τ).loc Cert.KernelFfnFirstIdeal.main_arg1)
          ∧ r.2.mem ((c.tc : Thread Cert.KernelFfnFirstIdeal.nD Cert.KernelFfnFirstIdeal.τ).loc Cert.KernelFfnFirstIdeal.main_arg2) = m ((c.tc : Thread Cert.KernelFfnFirstIdeal.nD Cert.KernelFfnFirstIdeal.τ).loc Cert.KernelFfnFirstIdeal.main_arg2)
          ∧ r.2.mem ((c.tc : Thread Cert.KernelFfnFirstIdeal.nD Cert.KernelFfnFirstIdeal.τ).loc Cert.KernelFfnFirstIdeal.main_arg3) = m ((c.tc : Thread Cert.KernelFfnFirstIdeal.nD Cert.KernelFfnFirstIdeal.τ).loc Cert.KernelFfnFirstIdeal.main_arg3)
          ∧ r.2.mem ((c.tc : Thread Cert.KernelFfnFirstIdeal.nD Cert.KernelFfnFirstIdeal.τ).loc Cert.KernelFfnFirstIdeal.main_arg4) = m ((c.tc : Thread Cert.KernelFfnFirstIdeal.nD Cert.KernelFfnFirstIdeal.τ).loc Cert.KernelFfnFirstIdeal.main_arg4))
      ∧ θ_run (Cert.ReferenceFfnFirstIdeal.defs (F := Ideal)) (onTc (τ := Cert.ReferenceFfnFirstIdeal.τ) (Cert.ReferenceFfnFirstIdeal.main (F := Ideal))) ⟨m', fun _ => 0, g'⟩ (fun r => ∀ c : Dev Cert.ReferenceFfnFirstIdeal.nD,
          r.2.mem ((c.tc : Thread Cert.ReferenceFfnFirstIdeal.nD Cert.ReferenceFfnFirstIdeal.τ).loc Cert.ReferenceFfnFirstIdeal.main_v41) = v0 c
          ∧ r.2.mem ((c.tc : Thread Cert.ReferenceFfnFirstIdeal.nD Cert.ReferenceFfnFirstIdeal.τ).loc Cert.ReferenceFfnFirstIdeal.main_arg0) = m' ((c.tc : Thread Cert.ReferenceFfnFirstIdeal.nD Cert.ReferenceFfnFirstIdeal.τ).loc Cert.ReferenceFfnFirstIdeal.main_arg0)
          ∧ r.2.mem ((c.tc : Thread Cert.ReferenceFfnFirstIdeal.nD Cert.ReferenceFfnFirstIdeal.τ).loc Cert.ReferenceFfnFirstIdeal.main_arg1) = m' ((c.tc : Thread Cert.ReferenceFfnFirstIdeal.nD Cert.ReferenceFfnFirstIdeal.τ).loc Cert.ReferenceFfnFirstIdeal.main_arg1)
          ∧ r.2.mem ((c.tc : Thread Cert.ReferenceFfnFirstIdeal.nD Cert.ReferenceFfnFirstIdeal.τ).loc Cert.ReferenceFfnFirstIdeal.main_arg2) = m' ((c.tc : Thread Cert.ReferenceFfnFirstIdeal.nD Cert.ReferenceFfnFirstIdeal.τ).loc Cert.ReferenceFfnFirstIdeal.main_arg2)
          ∧ r.2.mem ((c.tc : Thread Cert.ReferenceFfnFirstIdeal.nD Cert.ReferenceFfnFirstIdeal.τ).loc Cert.ReferenceFfnFirstIdeal.main_arg3) = m' ((c.tc : Thread Cert.ReferenceFfnFirstIdeal.nD Cert.ReferenceFfnFirstIdeal.τ).loc Cert.ReferenceFfnFirstIdeal.main_arg3)
          ∧ r.2.mem ((c.tc : Thread Cert.ReferenceFfnFirstIdeal.nD Cert.ReferenceFfnFirstIdeal.τ).loc Cert.ReferenceFfnFirstIdeal.main_arg4) = m' ((c.tc : Thread Cert.ReferenceFfnFirstIdeal.nD Cert.ReferenceFfnFirstIdeal.τ).loc Cert.ReferenceFfnFirstIdeal.main_arg4))

def preserves_KernelFfnSecond_KernelFfnSecondIdeal : Prop :=
  True

def algebraic_KernelFfnSecondIdeal_ReferenceFfnSecondIdeal [hKernelFfnSecondIdeal : Cert.KernelFfnSecondIdeal.Facts] [hReferenceFfnSecondIdeal : Cert.ReferenceFfnSecondIdeal.Facts] : Prop :=
  ∀ (m : (ℓ : Loc Cert.KernelFfnSecondIdeal.nD Cert.KernelFfnSecondIdeal.τ Cert.KernelFfnSecondIdeal.sig) → Buf (Elt Ideal) ℓ) (g : Dev Cert.KernelFfnSecondIdeal.nD → PrngReg)
    (m' : (ℓ : Loc Cert.ReferenceFfnSecondIdeal.nD Cert.ReferenceFfnSecondIdeal.τ Cert.ReferenceFfnSecondIdeal.sig) → Buf (Elt Ideal) ℓ) (g' : Dev Cert.ReferenceFfnSecondIdeal.nD → PrngReg), Pre_KernelFfnSecondIdeal m →
    (∀ c : Dev Cert.KernelFfnSecondIdeal.nD,
      m' ((c.tc : Thread Cert.ReferenceFfnSecondIdeal.nD Cert.ReferenceFfnSecondIdeal.τ).loc Cert.ReferenceFfnSecondIdeal.main_arg0) = m ((c.tc : Thread Cert.KernelFfnSecondIdeal.nD Cert.KernelFfnSecondIdeal.τ).loc Cert.KernelFfnSecondIdeal.main_arg0)
      ∧ m' ((c.tc : Thread Cert.ReferenceFfnSecondIdeal.nD Cert.ReferenceFfnSecondIdeal.τ).loc Cert.ReferenceFfnSecondIdeal.main_arg1) = m ((c.tc : Thread Cert.KernelFfnSecondIdeal.nD Cert.KernelFfnSecondIdeal.τ).loc Cert.KernelFfnSecondIdeal.main_arg1)
      ∧ m' ((c.tc : Thread Cert.ReferenceFfnSecondIdeal.nD Cert.ReferenceFfnSecondIdeal.τ).loc Cert.ReferenceFfnSecondIdeal.main_arg2) = m ((c.tc : Thread Cert.KernelFfnSecondIdeal.nD Cert.KernelFfnSecondIdeal.τ).loc Cert.KernelFfnSecondIdeal.main_arg2)
      ∧ m' ((c.tc : Thread Cert.ReferenceFfnSecondIdeal.nD Cert.ReferenceFfnSecondIdeal.τ).loc Cert.ReferenceFfnSecondIdeal.main_arg3) = m ((c.tc : Thread Cert.KernelFfnSecondIdeal.nD Cert.KernelFfnSecondIdeal.τ).loc Cert.KernelFfnSecondIdeal.main_arg3)
      ∧ m' ((c.tc : Thread Cert.ReferenceFfnSecondIdeal.nD Cert.ReferenceFfnSecondIdeal.τ).loc Cert.ReferenceFfnSecondIdeal.main_arg4) = m ((c.tc : Thread Cert.KernelFfnSecondIdeal.nD Cert.KernelFfnSecondIdeal.τ).loc Cert.KernelFfnSecondIdeal.main_arg4)) →
    ∃ (v0 : (c : Dev Cert.KernelFfnSecondIdeal.nD) → Buf (Elt Ideal) ((c.tc : Thread Cert.KernelFfnSecondIdeal.nD Cert.KernelFfnSecondIdeal.τ).loc Cert.KernelFfnSecondIdeal.main_v2)),
      θ_run (Cert.KernelFfnSecondIdeal.defs (F := Ideal)) (onTc (τ := Cert.KernelFfnSecondIdeal.τ) (Cert.KernelFfnSecondIdeal.main (F := Ideal))) ⟨m, fun _ => 0, g⟩ (fun r => ∀ c : Dev Cert.KernelFfnSecondIdeal.nD,
          r.2.mem ((c.tc : Thread Cert.KernelFfnSecondIdeal.nD Cert.KernelFfnSecondIdeal.τ).loc Cert.KernelFfnSecondIdeal.main_v2) = v0 c
          ∧ r.2.mem ((c.tc : Thread Cert.KernelFfnSecondIdeal.nD Cert.KernelFfnSecondIdeal.τ).loc Cert.KernelFfnSecondIdeal.main_arg0) = m ((c.tc : Thread Cert.KernelFfnSecondIdeal.nD Cert.KernelFfnSecondIdeal.τ).loc Cert.KernelFfnSecondIdeal.main_arg0)
          ∧ r.2.mem ((c.tc : Thread Cert.KernelFfnSecondIdeal.nD Cert.KernelFfnSecondIdeal.τ).loc Cert.KernelFfnSecondIdeal.main_arg1) = m ((c.tc : Thread Cert.KernelFfnSecondIdeal.nD Cert.KernelFfnSecondIdeal.τ).loc Cert.KernelFfnSecondIdeal.main_arg1)
          ∧ r.2.mem ((c.tc : Thread Cert.KernelFfnSecondIdeal.nD Cert.KernelFfnSecondIdeal.τ).loc Cert.KernelFfnSecondIdeal.main_arg2) = m ((c.tc : Thread Cert.KernelFfnSecondIdeal.nD Cert.KernelFfnSecondIdeal.τ).loc Cert.KernelFfnSecondIdeal.main_arg2)
          ∧ r.2.mem ((c.tc : Thread Cert.KernelFfnSecondIdeal.nD Cert.KernelFfnSecondIdeal.τ).loc Cert.KernelFfnSecondIdeal.main_arg3) = m ((c.tc : Thread Cert.KernelFfnSecondIdeal.nD Cert.KernelFfnSecondIdeal.τ).loc Cert.KernelFfnSecondIdeal.main_arg3)
          ∧ r.2.mem ((c.tc : Thread Cert.KernelFfnSecondIdeal.nD Cert.KernelFfnSecondIdeal.τ).loc Cert.KernelFfnSecondIdeal.main_arg4) = m ((c.tc : Thread Cert.KernelFfnSecondIdeal.nD Cert.KernelFfnSecondIdeal.τ).loc Cert.KernelFfnSecondIdeal.main_arg4))
      ∧ θ_run (Cert.ReferenceFfnSecondIdeal.defs (F := Ideal)) (onTc (τ := Cert.ReferenceFfnSecondIdeal.τ) (Cert.ReferenceFfnSecondIdeal.main (F := Ideal))) ⟨m', fun _ => 0, g'⟩ (fun r => ∀ c : Dev Cert.ReferenceFfnSecondIdeal.nD,
          r.2.mem ((c.tc : Thread Cert.ReferenceFfnSecondIdeal.nD Cert.ReferenceFfnSecondIdeal.τ).loc Cert.ReferenceFfnSecondIdeal.main_v41) = v0 c
          ∧ r.2.mem ((c.tc : Thread Cert.ReferenceFfnSecondIdeal.nD Cert.ReferenceFfnSecondIdeal.τ).loc Cert.ReferenceFfnSecondIdeal.main_arg0) = m' ((c.tc : Thread Cert.ReferenceFfnSecondIdeal.nD Cert.ReferenceFfnSecondIdeal.τ).loc Cert.ReferenceFfnSecondIdeal.main_arg0)
          ∧ r.2.mem ((c.tc : Thread Cert.ReferenceFfnSecondIdeal.nD Cert.ReferenceFfnSecondIdeal.τ).loc Cert.ReferenceFfnSecondIdeal.main_arg1) = m' ((c.tc : Thread Cert.ReferenceFfnSecondIdeal.nD Cert.ReferenceFfnSecondIdeal.τ).loc Cert.ReferenceFfnSecondIdeal.main_arg1)
          ∧ r.2.mem ((c.tc : Thread Cert.ReferenceFfnSecondIdeal.nD Cert.ReferenceFfnSecondIdeal.τ).loc Cert.ReferenceFfnSecondIdeal.main_arg2) = m' ((c.tc : Thread Cert.ReferenceFfnSecondIdeal.nD Cert.ReferenceFfnSecondIdeal.τ).loc Cert.ReferenceFfnSecondIdeal.main_arg2)
          ∧ r.2.mem ((c.tc : Thread Cert.ReferenceFfnSecondIdeal.nD Cert.ReferenceFfnSecondIdeal.τ).loc Cert.ReferenceFfnSecondIdeal.main_arg3) = m' ((c.tc : Thread Cert.ReferenceFfnSecondIdeal.nD Cert.ReferenceFfnSecondIdeal.τ).loc Cert.ReferenceFfnSecondIdeal.main_arg3)
          ∧ r.2.mem ((c.tc : Thread Cert.ReferenceFfnSecondIdeal.nD Cert.ReferenceFfnSecondIdeal.τ).loc Cert.ReferenceFfnSecondIdeal.main_arg4) = m' ((c.tc : Thread Cert.ReferenceFfnSecondIdeal.nD Cert.ReferenceFfnSecondIdeal.τ).loc Cert.ReferenceFfnSecondIdeal.main_arg4))

def preserves_KernelFfnContext_KernelFfnContextIdeal : Prop :=
  True

def algebraic_KernelFfnContextIdeal_ReferenceFfnContextIdeal [hKernelFfnContextIdeal : Cert.KernelFfnContextIdeal.Facts] [hReferenceFfnContextIdeal : Cert.ReferenceFfnContextIdeal.Facts] : Prop :=
  ∀ (m : (ℓ : Loc Cert.KernelFfnContextIdeal.nD Cert.KernelFfnContextIdeal.τ Cert.KernelFfnContextIdeal.sig) → Buf (Elt Ideal) ℓ) (g : Dev Cert.KernelFfnContextIdeal.nD → PrngReg)
    (m' : (ℓ : Loc Cert.ReferenceFfnContextIdeal.nD Cert.ReferenceFfnContextIdeal.τ Cert.ReferenceFfnContextIdeal.sig) → Buf (Elt Ideal) ℓ) (g' : Dev Cert.ReferenceFfnContextIdeal.nD → PrngReg), Pre_KernelFfnContextIdeal m →
    (∀ c : Dev Cert.KernelFfnContextIdeal.nD,
      m' ((c.tc : Thread Cert.ReferenceFfnContextIdeal.nD Cert.ReferenceFfnContextIdeal.τ).loc Cert.ReferenceFfnContextIdeal.main_arg0) = m ((c.tc : Thread Cert.KernelFfnContextIdeal.nD Cert.KernelFfnContextIdeal.τ).loc Cert.KernelFfnContextIdeal.main_arg0)
      ∧ m' ((c.tc : Thread Cert.ReferenceFfnContextIdeal.nD Cert.ReferenceFfnContextIdeal.τ).loc Cert.ReferenceFfnContextIdeal.main_arg1) = m ((c.tc : Thread Cert.KernelFfnContextIdeal.nD Cert.KernelFfnContextIdeal.τ).loc Cert.KernelFfnContextIdeal.main_arg1)
      ∧ m' ((c.tc : Thread Cert.ReferenceFfnContextIdeal.nD Cert.ReferenceFfnContextIdeal.τ).loc Cert.ReferenceFfnContextIdeal.main_arg2) = m ((c.tc : Thread Cert.KernelFfnContextIdeal.nD Cert.KernelFfnContextIdeal.τ).loc Cert.KernelFfnContextIdeal.main_arg2)
      ∧ m' ((c.tc : Thread Cert.ReferenceFfnContextIdeal.nD Cert.ReferenceFfnContextIdeal.τ).loc Cert.ReferenceFfnContextIdeal.main_arg3) = m ((c.tc : Thread Cert.KernelFfnContextIdeal.nD Cert.KernelFfnContextIdeal.τ).loc Cert.KernelFfnContextIdeal.main_arg3)
      ∧ m' ((c.tc : Thread Cert.ReferenceFfnContextIdeal.nD Cert.ReferenceFfnContextIdeal.τ).loc Cert.ReferenceFfnContextIdeal.main_arg4) = m ((c.tc : Thread Cert.KernelFfnContextIdeal.nD Cert.KernelFfnContextIdeal.τ).loc Cert.KernelFfnContextIdeal.main_arg4)) →
    ∃ (v0 : (c : Dev Cert.KernelFfnContextIdeal.nD) → Buf (Elt Ideal) ((c.tc : Thread Cert.KernelFfnContextIdeal.nD Cert.KernelFfnContextIdeal.τ).loc Cert.KernelFfnContextIdeal.main_v2)),
      θ_run (Cert.KernelFfnContextIdeal.defs (F := Ideal)) (onTc (τ := Cert.KernelFfnContextIdeal.τ) (Cert.KernelFfnContextIdeal.main (F := Ideal))) ⟨m, fun _ => 0, g⟩ (fun r => ∀ c : Dev Cert.KernelFfnContextIdeal.nD,
          r.2.mem ((c.tc : Thread Cert.KernelFfnContextIdeal.nD Cert.KernelFfnContextIdeal.τ).loc Cert.KernelFfnContextIdeal.main_v2) = v0 c
          ∧ r.2.mem ((c.tc : Thread Cert.KernelFfnContextIdeal.nD Cert.KernelFfnContextIdeal.τ).loc Cert.KernelFfnContextIdeal.main_arg0) = m ((c.tc : Thread Cert.KernelFfnContextIdeal.nD Cert.KernelFfnContextIdeal.τ).loc Cert.KernelFfnContextIdeal.main_arg0)
          ∧ r.2.mem ((c.tc : Thread Cert.KernelFfnContextIdeal.nD Cert.KernelFfnContextIdeal.τ).loc Cert.KernelFfnContextIdeal.main_arg1) = m ((c.tc : Thread Cert.KernelFfnContextIdeal.nD Cert.KernelFfnContextIdeal.τ).loc Cert.KernelFfnContextIdeal.main_arg1)
          ∧ r.2.mem ((c.tc : Thread Cert.KernelFfnContextIdeal.nD Cert.KernelFfnContextIdeal.τ).loc Cert.KernelFfnContextIdeal.main_arg2) = m ((c.tc : Thread Cert.KernelFfnContextIdeal.nD Cert.KernelFfnContextIdeal.τ).loc Cert.KernelFfnContextIdeal.main_arg2)
          ∧ r.2.mem ((c.tc : Thread Cert.KernelFfnContextIdeal.nD Cert.KernelFfnContextIdeal.τ).loc Cert.KernelFfnContextIdeal.main_arg3) = m ((c.tc : Thread Cert.KernelFfnContextIdeal.nD Cert.KernelFfnContextIdeal.τ).loc Cert.KernelFfnContextIdeal.main_arg3)
          ∧ r.2.mem ((c.tc : Thread Cert.KernelFfnContextIdeal.nD Cert.KernelFfnContextIdeal.τ).loc Cert.KernelFfnContextIdeal.main_arg4) = m ((c.tc : Thread Cert.KernelFfnContextIdeal.nD Cert.KernelFfnContextIdeal.τ).loc Cert.KernelFfnContextIdeal.main_arg4))
      ∧ θ_run (Cert.ReferenceFfnContextIdeal.defs (F := Ideal)) (onTc (τ := Cert.ReferenceFfnContextIdeal.τ) (Cert.ReferenceFfnContextIdeal.main (F := Ideal))) ⟨m', fun _ => 0, g'⟩ (fun r => ∀ c : Dev Cert.ReferenceFfnContextIdeal.nD,
          r.2.mem ((c.tc : Thread Cert.ReferenceFfnContextIdeal.nD Cert.ReferenceFfnContextIdeal.τ).loc Cert.ReferenceFfnContextIdeal.main_v41) = v0 c
          ∧ r.2.mem ((c.tc : Thread Cert.ReferenceFfnContextIdeal.nD Cert.ReferenceFfnContextIdeal.τ).loc Cert.ReferenceFfnContextIdeal.main_arg0) = m' ((c.tc : Thread Cert.ReferenceFfnContextIdeal.nD Cert.ReferenceFfnContextIdeal.τ).loc Cert.ReferenceFfnContextIdeal.main_arg0)
          ∧ r.2.mem ((c.tc : Thread Cert.ReferenceFfnContextIdeal.nD Cert.ReferenceFfnContextIdeal.τ).loc Cert.ReferenceFfnContextIdeal.main_arg1) = m' ((c.tc : Thread Cert.ReferenceFfnContextIdeal.nD Cert.ReferenceFfnContextIdeal.τ).loc Cert.ReferenceFfnContextIdeal.main_arg1)
          ∧ r.2.mem ((c.tc : Thread Cert.ReferenceFfnContextIdeal.nD Cert.ReferenceFfnContextIdeal.τ).loc Cert.ReferenceFfnContextIdeal.main_arg2) = m' ((c.tc : Thread Cert.ReferenceFfnContextIdeal.nD Cert.ReferenceFfnContextIdeal.τ).loc Cert.ReferenceFfnContextIdeal.main_arg2)
          ∧ r.2.mem ((c.tc : Thread Cert.ReferenceFfnContextIdeal.nD Cert.ReferenceFfnContextIdeal.τ).loc Cert.ReferenceFfnContextIdeal.main_arg3) = m' ((c.tc : Thread Cert.ReferenceFfnContextIdeal.nD Cert.ReferenceFfnContextIdeal.τ).loc Cert.ReferenceFfnContextIdeal.main_arg3)
          ∧ r.2.mem ((c.tc : Thread Cert.ReferenceFfnContextIdeal.nD Cert.ReferenceFfnContextIdeal.τ).loc Cert.ReferenceFfnContextIdeal.main_arg4) = m' ((c.tc : Thread Cert.ReferenceFfnContextIdeal.nD Cert.ReferenceFfnContextIdeal.τ).loc Cert.ReferenceFfnContextIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v9) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelDft_KernelDftIdeal : Prop :=
  True

def algebraic_KernelDftIdeal_ReferenceDftIdeal [hKernelDftIdeal : Cert.KernelDftIdeal.Facts] [hReferenceDftIdeal : Cert.ReferenceDftIdeal.Facts] : Prop :=
  ∀ (m : (ℓ : Loc Cert.KernelDftIdeal.nD Cert.KernelDftIdeal.τ Cert.KernelDftIdeal.sig) → Buf (Elt Ideal) ℓ) (g : Dev Cert.KernelDftIdeal.nD → PrngReg)
    (m' : (ℓ : Loc Cert.ReferenceDftIdeal.nD Cert.ReferenceDftIdeal.τ Cert.ReferenceDftIdeal.sig) → Buf (Elt Ideal) ℓ) (g' : Dev Cert.ReferenceDftIdeal.nD → PrngReg), Pre_KernelDftIdeal m →
    (∀ c : Dev Cert.KernelDftIdeal.nD,
      m' ((c.tc : Thread Cert.ReferenceDftIdeal.nD Cert.ReferenceDftIdeal.τ).loc Cert.ReferenceDftIdeal.main_arg0) = m ((c.tc : Thread Cert.KernelDftIdeal.nD Cert.KernelDftIdeal.τ).loc Cert.KernelDftIdeal.main_arg0)
      ∧ m' ((c.tc : Thread Cert.ReferenceDftIdeal.nD Cert.ReferenceDftIdeal.τ).loc Cert.ReferenceDftIdeal.main_arg1) = m ((c.tc : Thread Cert.KernelDftIdeal.nD Cert.KernelDftIdeal.τ).loc Cert.KernelDftIdeal.main_arg1)
      ∧ m' ((c.tc : Thread Cert.ReferenceDftIdeal.nD Cert.ReferenceDftIdeal.τ).loc Cert.ReferenceDftIdeal.main_arg2) = m ((c.tc : Thread Cert.KernelDftIdeal.nD Cert.KernelDftIdeal.τ).loc Cert.KernelDftIdeal.main_arg2)) →
    ∃ (v0 : (c : Dev Cert.KernelDftIdeal.nD) → Buf (Elt Ideal) ((c.tc : Thread Cert.KernelDftIdeal.nD Cert.KernelDftIdeal.τ).loc Cert.KernelDftIdeal.main_v3)),
      θ_run (Cert.KernelDftIdeal.defs (F := Ideal)) (onTc (τ := Cert.KernelDftIdeal.τ) (Cert.KernelDftIdeal.main (F := Ideal))) ⟨m, fun _ => 0, g⟩ (fun r => ∀ c : Dev Cert.KernelDftIdeal.nD,
          r.2.mem ((c.tc : Thread Cert.KernelDftIdeal.nD Cert.KernelDftIdeal.τ).loc Cert.KernelDftIdeal.main_v3) = v0 c
          ∧ r.2.mem ((c.tc : Thread Cert.KernelDftIdeal.nD Cert.KernelDftIdeal.τ).loc Cert.KernelDftIdeal.main_arg0) = m ((c.tc : Thread Cert.KernelDftIdeal.nD Cert.KernelDftIdeal.τ).loc Cert.KernelDftIdeal.main_arg0)
          ∧ r.2.mem ((c.tc : Thread Cert.KernelDftIdeal.nD Cert.KernelDftIdeal.τ).loc Cert.KernelDftIdeal.main_arg1) = m ((c.tc : Thread Cert.KernelDftIdeal.nD Cert.KernelDftIdeal.τ).loc Cert.KernelDftIdeal.main_arg1)
          ∧ r.2.mem ((c.tc : Thread Cert.KernelDftIdeal.nD Cert.KernelDftIdeal.τ).loc Cert.KernelDftIdeal.main_arg2) = m ((c.tc : Thread Cert.KernelDftIdeal.nD Cert.KernelDftIdeal.τ).loc Cert.KernelDftIdeal.main_arg2))
      ∧ θ_run (Cert.ReferenceDftIdeal.defs (F := Ideal)) (onTc (τ := Cert.ReferenceDftIdeal.τ) (Cert.ReferenceDftIdeal.main (F := Ideal))) ⟨m', fun _ => 0, g'⟩ (fun r => ∀ c : Dev Cert.ReferenceDftIdeal.nD,
          r.2.mem ((c.tc : Thread Cert.ReferenceDftIdeal.nD Cert.ReferenceDftIdeal.τ).loc Cert.ReferenceDftIdeal.main_v7) = v0 c
          ∧ r.2.mem ((c.tc : Thread Cert.ReferenceDftIdeal.nD Cert.ReferenceDftIdeal.τ).loc Cert.ReferenceDftIdeal.main_arg0) = m' ((c.tc : Thread Cert.ReferenceDftIdeal.nD Cert.ReferenceDftIdeal.τ).loc Cert.ReferenceDftIdeal.main_arg0)
          ∧ r.2.mem ((c.tc : Thread Cert.ReferenceDftIdeal.nD Cert.ReferenceDftIdeal.τ).loc Cert.ReferenceDftIdeal.main_arg1) = m' ((c.tc : Thread Cert.ReferenceDftIdeal.nD Cert.ReferenceDftIdeal.τ).loc Cert.ReferenceDftIdeal.main_arg1)
          ∧ r.2.mem ((c.tc : Thread Cert.ReferenceDftIdeal.nD Cert.ReferenceDftIdeal.τ).loc Cert.ReferenceDftIdeal.main_arg2) = m' ((c.tc : Thread Cert.ReferenceDftIdeal.nD Cert.ReferenceDftIdeal.τ).loc Cert.ReferenceDftIdeal.main_arg2))

def preserves_KernelFfnContextSecond_KernelFfnContextSecondIdeal : Prop :=
  True

def algebraic_KernelFfnContextSecondIdeal_ReferenceFfnContextSecondIdeal [hKernelFfnContextSecondIdeal : Cert.KernelFfnContextSecondIdeal.Facts] [hReferenceFfnContextSecondIdeal : Cert.ReferenceFfnContextSecondIdeal.Facts] : Prop :=
  ∀ (m : (ℓ : Loc Cert.KernelFfnContextSecondIdeal.nD Cert.KernelFfnContextSecondIdeal.τ Cert.KernelFfnContextSecondIdeal.sig) → Buf (Elt Ideal) ℓ) (g : Dev Cert.KernelFfnContextSecondIdeal.nD → PrngReg)
    (m' : (ℓ : Loc Cert.ReferenceFfnContextSecondIdeal.nD Cert.ReferenceFfnContextSecondIdeal.τ Cert.ReferenceFfnContextSecondIdeal.sig) → Buf (Elt Ideal) ℓ) (g' : Dev Cert.ReferenceFfnContextSecondIdeal.nD → PrngReg), Pre_KernelFfnContextSecondIdeal m →
    (∀ c : Dev Cert.KernelFfnContextSecondIdeal.nD,
      m' ((c.tc : Thread Cert.ReferenceFfnContextSecondIdeal.nD Cert.ReferenceFfnContextSecondIdeal.τ).loc Cert.ReferenceFfnContextSecondIdeal.main_arg0) = m ((c.tc : Thread Cert.KernelFfnContextSecondIdeal.nD Cert.KernelFfnContextSecondIdeal.τ).loc Cert.KernelFfnContextSecondIdeal.main_arg0)
      ∧ m' ((c.tc : Thread Cert.ReferenceFfnContextSecondIdeal.nD Cert.ReferenceFfnContextSecondIdeal.τ).loc Cert.ReferenceFfnContextSecondIdeal.main_arg1) = m ((c.tc : Thread Cert.KernelFfnContextSecondIdeal.nD Cert.KernelFfnContextSecondIdeal.τ).loc Cert.KernelFfnContextSecondIdeal.main_arg1)
      ∧ m' ((c.tc : Thread Cert.ReferenceFfnContextSecondIdeal.nD Cert.ReferenceFfnContextSecondIdeal.τ).loc Cert.ReferenceFfnContextSecondIdeal.main_arg2) = m ((c.tc : Thread Cert.KernelFfnContextSecondIdeal.nD Cert.KernelFfnContextSecondIdeal.τ).loc Cert.KernelFfnContextSecondIdeal.main_arg2)
      ∧ m' ((c.tc : Thread Cert.ReferenceFfnContextSecondIdeal.nD Cert.ReferenceFfnContextSecondIdeal.τ).loc Cert.ReferenceFfnContextSecondIdeal.main_arg3) = m ((c.tc : Thread Cert.KernelFfnContextSecondIdeal.nD Cert.KernelFfnContextSecondIdeal.τ).loc Cert.KernelFfnContextSecondIdeal.main_arg3)
      ∧ m' ((c.tc : Thread Cert.ReferenceFfnContextSecondIdeal.nD Cert.ReferenceFfnContextSecondIdeal.τ).loc Cert.ReferenceFfnContextSecondIdeal.main_arg4) = m ((c.tc : Thread Cert.KernelFfnContextSecondIdeal.nD Cert.KernelFfnContextSecondIdeal.τ).loc Cert.KernelFfnContextSecondIdeal.main_arg4)) →
    ∃ (v0 : (c : Dev Cert.KernelFfnContextSecondIdeal.nD) → Buf (Elt Ideal) ((c.tc : Thread Cert.KernelFfnContextSecondIdeal.nD Cert.KernelFfnContextSecondIdeal.τ).loc Cert.KernelFfnContextSecondIdeal.main_v2)),
      θ_run (Cert.KernelFfnContextSecondIdeal.defs (F := Ideal)) (onTc (τ := Cert.KernelFfnContextSecondIdeal.τ) (Cert.KernelFfnContextSecondIdeal.main (F := Ideal))) ⟨m, fun _ => 0, g⟩ (fun r => ∀ c : Dev Cert.KernelFfnContextSecondIdeal.nD,
          r.2.mem ((c.tc : Thread Cert.KernelFfnContextSecondIdeal.nD Cert.KernelFfnContextSecondIdeal.τ).loc Cert.KernelFfnContextSecondIdeal.main_v2) = v0 c
          ∧ r.2.mem ((c.tc : Thread Cert.KernelFfnContextSecondIdeal.nD Cert.KernelFfnContextSecondIdeal.τ).loc Cert.KernelFfnContextSecondIdeal.main_arg0) = m ((c.tc : Thread Cert.KernelFfnContextSecondIdeal.nD Cert.KernelFfnContextSecondIdeal.τ).loc Cert.KernelFfnContextSecondIdeal.main_arg0)
          ∧ r.2.mem ((c.tc : Thread Cert.KernelFfnContextSecondIdeal.nD Cert.KernelFfnContextSecondIdeal.τ).loc Cert.KernelFfnContextSecondIdeal.main_arg1) = m ((c.tc : Thread Cert.KernelFfnContextSecondIdeal.nD Cert.KernelFfnContextSecondIdeal.τ).loc Cert.KernelFfnContextSecondIdeal.main_arg1)
          ∧ r.2.mem ((c.tc : Thread Cert.KernelFfnContextSecondIdeal.nD Cert.KernelFfnContextSecondIdeal.τ).loc Cert.KernelFfnContextSecondIdeal.main_arg2) = m ((c.tc : Thread Cert.KernelFfnContextSecondIdeal.nD Cert.KernelFfnContextSecondIdeal.τ).loc Cert.KernelFfnContextSecondIdeal.main_arg2)
          ∧ r.2.mem ((c.tc : Thread Cert.KernelFfnContextSecondIdeal.nD Cert.KernelFfnContextSecondIdeal.τ).loc Cert.KernelFfnContextSecondIdeal.main_arg3) = m ((c.tc : Thread Cert.KernelFfnContextSecondIdeal.nD Cert.KernelFfnContextSecondIdeal.τ).loc Cert.KernelFfnContextSecondIdeal.main_arg3)
          ∧ r.2.mem ((c.tc : Thread Cert.KernelFfnContextSecondIdeal.nD Cert.KernelFfnContextSecondIdeal.τ).loc Cert.KernelFfnContextSecondIdeal.main_arg4) = m ((c.tc : Thread Cert.KernelFfnContextSecondIdeal.nD Cert.KernelFfnContextSecondIdeal.τ).loc Cert.KernelFfnContextSecondIdeal.main_arg4))
      ∧ θ_run (Cert.ReferenceFfnContextSecondIdeal.defs (F := Ideal)) (onTc (τ := Cert.ReferenceFfnContextSecondIdeal.τ) (Cert.ReferenceFfnContextSecondIdeal.main (F := Ideal))) ⟨m', fun _ => 0, g'⟩ (fun r => ∀ c : Dev Cert.ReferenceFfnContextSecondIdeal.nD,
          r.2.mem ((c.tc : Thread Cert.ReferenceFfnContextSecondIdeal.nD Cert.ReferenceFfnContextSecondIdeal.τ).loc Cert.ReferenceFfnContextSecondIdeal.main_v41) = v0 c
          ∧ r.2.mem ((c.tc : Thread Cert.ReferenceFfnContextSecondIdeal.nD Cert.ReferenceFfnContextSecondIdeal.τ).loc Cert.ReferenceFfnContextSecondIdeal.main_arg0) = m' ((c.tc : Thread Cert.ReferenceFfnContextSecondIdeal.nD Cert.ReferenceFfnContextSecondIdeal.τ).loc Cert.ReferenceFfnContextSecondIdeal.main_arg0)
          ∧ r.2.mem ((c.tc : Thread Cert.ReferenceFfnContextSecondIdeal.nD Cert.ReferenceFfnContextSecondIdeal.τ).loc Cert.ReferenceFfnContextSecondIdeal.main_arg1) = m' ((c.tc : Thread Cert.ReferenceFfnContextSecondIdeal.nD Cert.ReferenceFfnContextSecondIdeal.τ).loc Cert.ReferenceFfnContextSecondIdeal.main_arg1)
          ∧ r.2.mem ((c.tc : Thread Cert.ReferenceFfnContextSecondIdeal.nD Cert.ReferenceFfnContextSecondIdeal.τ).loc Cert.ReferenceFfnContextSecondIdeal.main_arg2) = m' ((c.tc : Thread Cert.ReferenceFfnContextSecondIdeal.nD Cert.ReferenceFfnContextSecondIdeal.τ).loc Cert.ReferenceFfnContextSecondIdeal.main_arg2)
          ∧ r.2.mem ((c.tc : Thread Cert.ReferenceFfnContextSecondIdeal.nD Cert.ReferenceFfnContextSecondIdeal.τ).loc Cert.ReferenceFfnContextSecondIdeal.main_arg3) = m' ((c.tc : Thread Cert.ReferenceFfnContextSecondIdeal.nD Cert.ReferenceFfnContextSecondIdeal.τ).loc Cert.ReferenceFfnContextSecondIdeal.main_arg3)
          ∧ r.2.mem ((c.tc : Thread Cert.ReferenceFfnContextSecondIdeal.nD Cert.ReferenceFfnContextSecondIdeal.τ).loc Cert.ReferenceFfnContextSecondIdeal.main_arg4) = m' ((c.tc : Thread Cert.ReferenceFfnContextSecondIdeal.nD Cert.ReferenceFfnContextSecondIdeal.τ).loc Cert.ReferenceFfnContextSecondIdeal.main_arg4))

def preserves_KernelOutContext_KernelOutContextIdeal : Prop :=
  True

def algebraic_KernelOutContextIdeal_ReferenceOutContextIdeal [hKernelOutContextIdeal : Cert.KernelOutContextIdeal.Facts] [hReferenceOutContextIdeal : Cert.ReferenceOutContextIdeal.Facts] : Prop :=
  ∀ (m : (ℓ : Loc Cert.KernelOutContextIdeal.nD Cert.KernelOutContextIdeal.τ Cert.KernelOutContextIdeal.sig) → Buf (Elt Ideal) ℓ) (g : Dev Cert.KernelOutContextIdeal.nD → PrngReg)
    (m' : (ℓ : Loc Cert.ReferenceOutContextIdeal.nD Cert.ReferenceOutContextIdeal.τ Cert.ReferenceOutContextIdeal.sig) → Buf (Elt Ideal) ℓ) (g' : Dev Cert.ReferenceOutContextIdeal.nD → PrngReg), Pre_KernelOutContextIdeal m →
    (∀ c : Dev Cert.KernelOutContextIdeal.nD,
      m' ((c.tc : Thread Cert.ReferenceOutContextIdeal.nD Cert.ReferenceOutContextIdeal.τ).loc Cert.ReferenceOutContextIdeal.main_arg0) = m ((c.tc : Thread Cert.KernelOutContextIdeal.nD Cert.KernelOutContextIdeal.τ).loc Cert.KernelOutContextIdeal.main_arg0)
      ∧ m' ((c.tc : Thread Cert.ReferenceOutContextIdeal.nD Cert.ReferenceOutContextIdeal.τ).loc Cert.ReferenceOutContextIdeal.main_arg1) = m ((c.tc : Thread Cert.KernelOutContextIdeal.nD Cert.KernelOutContextIdeal.τ).loc Cert.KernelOutContextIdeal.main_arg1)
      ∧ m' ((c.tc : Thread Cert.ReferenceOutContextIdeal.nD Cert.ReferenceOutContextIdeal.τ).loc Cert.ReferenceOutContextIdeal.main_arg2) = m ((c.tc : Thread Cert.KernelOutContextIdeal.nD Cert.KernelOutContextIdeal.τ).loc Cert.KernelOutContextIdeal.main_arg2)
      ∧ m' ((c.tc : Thread Cert.ReferenceOutContextIdeal.nD Cert.ReferenceOutContextIdeal.τ).loc Cert.ReferenceOutContextIdeal.main_arg3) = m ((c.tc : Thread Cert.KernelOutContextIdeal.nD Cert.KernelOutContextIdeal.τ).loc Cert.KernelOutContextIdeal.main_arg3)
      ∧ m' ((c.tc : Thread Cert.ReferenceOutContextIdeal.nD Cert.ReferenceOutContextIdeal.τ).loc Cert.ReferenceOutContextIdeal.main_arg4) = m ((c.tc : Thread Cert.KernelOutContextIdeal.nD Cert.KernelOutContextIdeal.τ).loc Cert.KernelOutContextIdeal.main_arg4)
      ∧ m' ((c.tc : Thread Cert.ReferenceOutContextIdeal.nD Cert.ReferenceOutContextIdeal.τ).loc Cert.ReferenceOutContextIdeal.main_arg5) = m ((c.tc : Thread Cert.KernelOutContextIdeal.nD Cert.KernelOutContextIdeal.τ).loc Cert.KernelOutContextIdeal.main_arg5)
      ∧ m' ((c.tc : Thread Cert.ReferenceOutContextIdeal.nD Cert.ReferenceOutContextIdeal.τ).loc Cert.ReferenceOutContextIdeal.main_arg6) = m ((c.tc : Thread Cert.KernelOutContextIdeal.nD Cert.KernelOutContextIdeal.τ).loc Cert.KernelOutContextIdeal.main_arg6)
      ∧ m' ((c.tc : Thread Cert.ReferenceOutContextIdeal.nD Cert.ReferenceOutContextIdeal.τ).loc Cert.ReferenceOutContextIdeal.main_arg7) = m ((c.tc : Thread Cert.KernelOutContextIdeal.nD Cert.KernelOutContextIdeal.τ).loc Cert.KernelOutContextIdeal.main_arg7)) →
    ∃ (v0 : (c : Dev Cert.KernelOutContextIdeal.nD) → Buf (Elt Ideal) ((c.tc : Thread Cert.KernelOutContextIdeal.nD Cert.KernelOutContextIdeal.τ).loc Cert.KernelOutContextIdeal.main_v7)),
      θ_run (Cert.KernelOutContextIdeal.defs (F := Ideal)) (onTc (τ := Cert.KernelOutContextIdeal.τ) (Cert.KernelOutContextIdeal.main (F := Ideal))) ⟨m, fun _ => 0, g⟩ (fun r => ∀ c : Dev Cert.KernelOutContextIdeal.nD,
          r.2.mem ((c.tc : Thread Cert.KernelOutContextIdeal.nD Cert.KernelOutContextIdeal.τ).loc Cert.KernelOutContextIdeal.main_v7) = v0 c
          ∧ r.2.mem ((c.tc : Thread Cert.KernelOutContextIdeal.nD Cert.KernelOutContextIdeal.τ).loc Cert.KernelOutContextIdeal.main_arg0) = m ((c.tc : Thread Cert.KernelOutContextIdeal.nD Cert.KernelOutContextIdeal.τ).loc Cert.KernelOutContextIdeal.main_arg0)
          ∧ r.2.mem ((c.tc : Thread Cert.KernelOutContextIdeal.nD Cert.KernelOutContextIdeal.τ).loc Cert.KernelOutContextIdeal.main_arg1) = m ((c.tc : Thread Cert.KernelOutContextIdeal.nD Cert.KernelOutContextIdeal.τ).loc Cert.KernelOutContextIdeal.main_arg1)
          ∧ r.2.mem ((c.tc : Thread Cert.KernelOutContextIdeal.nD Cert.KernelOutContextIdeal.τ).loc Cert.KernelOutContextIdeal.main_arg2) = m ((c.tc : Thread Cert.KernelOutContextIdeal.nD Cert.KernelOutContextIdeal.τ).loc Cert.KernelOutContextIdeal.main_arg2)
          ∧ r.2.mem ((c.tc : Thread Cert.KernelOutContextIdeal.nD Cert.KernelOutContextIdeal.τ).loc Cert.KernelOutContextIdeal.main_arg3) = m ((c.tc : Thread Cert.KernelOutContextIdeal.nD Cert.KernelOutContextIdeal.τ).loc Cert.KernelOutContextIdeal.main_arg3)
          ∧ r.2.mem ((c.tc : Thread Cert.KernelOutContextIdeal.nD Cert.KernelOutContextIdeal.τ).loc Cert.KernelOutContextIdeal.main_arg4) = m ((c.tc : Thread Cert.KernelOutContextIdeal.nD Cert.KernelOutContextIdeal.τ).loc Cert.KernelOutContextIdeal.main_arg4)
          ∧ r.2.mem ((c.tc : Thread Cert.KernelOutContextIdeal.nD Cert.KernelOutContextIdeal.τ).loc Cert.KernelOutContextIdeal.main_arg5) = m ((c.tc : Thread Cert.KernelOutContextIdeal.nD Cert.KernelOutContextIdeal.τ).loc Cert.KernelOutContextIdeal.main_arg5)
          ∧ r.2.mem ((c.tc : Thread Cert.KernelOutContextIdeal.nD Cert.KernelOutContextIdeal.τ).loc Cert.KernelOutContextIdeal.main_arg6) = m ((c.tc : Thread Cert.KernelOutContextIdeal.nD Cert.KernelOutContextIdeal.τ).loc Cert.KernelOutContextIdeal.main_arg6)
          ∧ r.2.mem ((c.tc : Thread Cert.KernelOutContextIdeal.nD Cert.KernelOutContextIdeal.τ).loc Cert.KernelOutContextIdeal.main_arg7) = m ((c.tc : Thread Cert.KernelOutContextIdeal.nD Cert.KernelOutContextIdeal.τ).loc Cert.KernelOutContextIdeal.main_arg7))
      ∧ θ_run (Cert.ReferenceOutContextIdeal.defs (F := Ideal)) (onTc (τ := Cert.ReferenceOutContextIdeal.τ) (Cert.ReferenceOutContextIdeal.main (F := Ideal))) ⟨m', fun _ => 0, g'⟩ (fun r => ∀ c : Dev Cert.ReferenceOutContextIdeal.nD,
          r.2.mem ((c.tc : Thread Cert.ReferenceOutContextIdeal.nD Cert.ReferenceOutContextIdeal.τ).loc Cert.ReferenceOutContextIdeal.main_v9) = v0 c
          ∧ r.2.mem ((c.tc : Thread Cert.ReferenceOutContextIdeal.nD Cert.ReferenceOutContextIdeal.τ).loc Cert.ReferenceOutContextIdeal.main_arg0) = m' ((c.tc : Thread Cert.ReferenceOutContextIdeal.nD Cert.ReferenceOutContextIdeal.τ).loc Cert.ReferenceOutContextIdeal.main_arg0)
          ∧ r.2.mem ((c.tc : Thread Cert.ReferenceOutContextIdeal.nD Cert.ReferenceOutContextIdeal.τ).loc Cert.ReferenceOutContextIdeal.main_arg1) = m' ((c.tc : Thread Cert.ReferenceOutContextIdeal.nD Cert.ReferenceOutContextIdeal.τ).loc Cert.ReferenceOutContextIdeal.main_arg1)
          ∧ r.2.mem ((c.tc : Thread Cert.ReferenceOutContextIdeal.nD Cert.ReferenceOutContextIdeal.τ).loc Cert.ReferenceOutContextIdeal.main_arg2) = m' ((c.tc : Thread Cert.ReferenceOutContextIdeal.nD Cert.ReferenceOutContextIdeal.τ).loc Cert.ReferenceOutContextIdeal.main_arg2)
          ∧ r.2.mem ((c.tc : Thread Cert.ReferenceOutContextIdeal.nD Cert.ReferenceOutContextIdeal.τ).loc Cert.ReferenceOutContextIdeal.main_arg3) = m' ((c.tc : Thread Cert.ReferenceOutContextIdeal.nD Cert.ReferenceOutContextIdeal.τ).loc Cert.ReferenceOutContextIdeal.main_arg3)
          ∧ r.2.mem ((c.tc : Thread Cert.ReferenceOutContextIdeal.nD Cert.ReferenceOutContextIdeal.τ).loc Cert.ReferenceOutContextIdeal.main_arg4) = m' ((c.tc : Thread Cert.ReferenceOutContextIdeal.nD Cert.ReferenceOutContextIdeal.τ).loc Cert.ReferenceOutContextIdeal.main_arg4)
          ∧ r.2.mem ((c.tc : Thread Cert.ReferenceOutContextIdeal.nD Cert.ReferenceOutContextIdeal.τ).loc Cert.ReferenceOutContextIdeal.main_arg5) = m' ((c.tc : Thread Cert.ReferenceOutContextIdeal.nD Cert.ReferenceOutContextIdeal.τ).loc Cert.ReferenceOutContextIdeal.main_arg5)
          ∧ r.2.mem ((c.tc : Thread Cert.ReferenceOutContextIdeal.nD Cert.ReferenceOutContextIdeal.τ).loc Cert.ReferenceOutContextIdeal.main_arg6) = m' ((c.tc : Thread Cert.ReferenceOutContextIdeal.nD Cert.ReferenceOutContextIdeal.τ).loc Cert.ReferenceOutContextIdeal.main_arg6)
          ∧ r.2.mem ((c.tc : Thread Cert.ReferenceOutContextIdeal.nD Cert.ReferenceOutContextIdeal.τ).loc Cert.ReferenceOutContextIdeal.main_arg7) = m' ((c.tc : Thread Cert.ReferenceOutContextIdeal.nD Cert.ReferenceOutContextIdeal.τ).loc Cert.ReferenceOutContextIdeal.main_arg7))

def preserves_KernelInMix_KernelInMixIdeal : Prop :=
  True

def algebraic_KernelInMixIdeal_ReferenceInMixIdeal [hKernelInMixIdeal : Cert.KernelInMixIdeal.Facts] [hReferenceInMixIdeal : Cert.ReferenceInMixIdeal.Facts] : Prop :=
  ∀ (m : (ℓ : Loc Cert.KernelInMixIdeal.nD Cert.KernelInMixIdeal.τ Cert.KernelInMixIdeal.sig) → Buf (Elt Ideal) ℓ) (g : Dev Cert.KernelInMixIdeal.nD → PrngReg)
    (m' : (ℓ : Loc Cert.ReferenceInMixIdeal.nD Cert.ReferenceInMixIdeal.τ Cert.ReferenceInMixIdeal.sig) → Buf (Elt Ideal) ℓ) (g' : Dev Cert.ReferenceInMixIdeal.nD → PrngReg), Pre_KernelInMixIdeal m →
    (∀ c : Dev Cert.KernelInMixIdeal.nD,
      m' ((c.tc : Thread Cert.ReferenceInMixIdeal.nD Cert.ReferenceInMixIdeal.τ).loc Cert.ReferenceInMixIdeal.main_arg0) = m ((c.tc : Thread Cert.KernelInMixIdeal.nD Cert.KernelInMixIdeal.τ).loc Cert.KernelInMixIdeal.main_arg0)
      ∧ m' ((c.tc : Thread Cert.ReferenceInMixIdeal.nD Cert.ReferenceInMixIdeal.τ).loc Cert.ReferenceInMixIdeal.main_arg1) = m ((c.tc : Thread Cert.KernelInMixIdeal.nD Cert.KernelInMixIdeal.τ).loc Cert.KernelInMixIdeal.main_arg1)
      ∧ m' ((c.tc : Thread Cert.ReferenceInMixIdeal.nD Cert.ReferenceInMixIdeal.τ).loc Cert.ReferenceInMixIdeal.main_arg2) = m ((c.tc : Thread Cert.KernelInMixIdeal.nD Cert.KernelInMixIdeal.τ).loc Cert.KernelInMixIdeal.main_arg2)
      ∧ m' ((c.tc : Thread Cert.ReferenceInMixIdeal.nD Cert.ReferenceInMixIdeal.τ).loc Cert.ReferenceInMixIdeal.main_arg3) = m ((c.tc : Thread Cert.KernelInMixIdeal.nD Cert.KernelInMixIdeal.τ).loc Cert.KernelInMixIdeal.main_arg3)
      ∧ m' ((c.tc : Thread Cert.ReferenceInMixIdeal.nD Cert.ReferenceInMixIdeal.τ).loc Cert.ReferenceInMixIdeal.main_arg4) = m ((c.tc : Thread Cert.KernelInMixIdeal.nD Cert.KernelInMixIdeal.τ).loc Cert.KernelInMixIdeal.main_arg4)
      ∧ m' ((c.tc : Thread Cert.ReferenceInMixIdeal.nD Cert.ReferenceInMixIdeal.τ).loc Cert.ReferenceInMixIdeal.main_arg5) = m ((c.tc : Thread Cert.KernelInMixIdeal.nD Cert.KernelInMixIdeal.τ).loc Cert.KernelInMixIdeal.main_arg5)
      ∧ m' ((c.tc : Thread Cert.ReferenceInMixIdeal.nD Cert.ReferenceInMixIdeal.τ).loc Cert.ReferenceInMixIdeal.main_arg6) = m ((c.tc : Thread Cert.KernelInMixIdeal.nD Cert.KernelInMixIdeal.τ).loc Cert.KernelInMixIdeal.main_arg6)
      ∧ m' ((c.tc : Thread Cert.ReferenceInMixIdeal.nD Cert.ReferenceInMixIdeal.τ).loc Cert.ReferenceInMixIdeal.main_arg7) = m ((c.tc : Thread Cert.KernelInMixIdeal.nD Cert.KernelInMixIdeal.τ).loc Cert.KernelInMixIdeal.main_arg7)
      ∧ m' ((c.tc : Thread Cert.ReferenceInMixIdeal.nD Cert.ReferenceInMixIdeal.τ).loc Cert.ReferenceInMixIdeal.main_arg8) = m ((c.tc : Thread Cert.KernelInMixIdeal.nD Cert.KernelInMixIdeal.τ).loc Cert.KernelInMixIdeal.main_arg8)
      ∧ m' ((c.tc : Thread Cert.ReferenceInMixIdeal.nD Cert.ReferenceInMixIdeal.τ).loc Cert.ReferenceInMixIdeal.main_arg9) = m ((c.tc : Thread Cert.KernelInMixIdeal.nD Cert.KernelInMixIdeal.τ).loc Cert.KernelInMixIdeal.main_arg9)) →
    ∃ (v0 : (c : Dev Cert.KernelInMixIdeal.nD) → Buf (Elt Ideal) ((c.tc : Thread Cert.KernelInMixIdeal.nD Cert.KernelInMixIdeal.τ).loc Cert.KernelInMixIdeal.main_v29_0)) (v1 : (c : Dev Cert.KernelInMixIdeal.nD) → Buf (Elt Ideal) ((c.tc : Thread Cert.KernelInMixIdeal.nD Cert.KernelInMixIdeal.τ).loc Cert.KernelInMixIdeal.main_v29_1)) (v2 : (c : Dev Cert.KernelInMixIdeal.nD) → Buf (Elt Ideal) ((c.tc : Thread Cert.KernelInMixIdeal.nD Cert.KernelInMixIdeal.τ).loc Cert.KernelInMixIdeal.main_v29_2)) (v3 : (c : Dev Cert.KernelInMixIdeal.nD) → Buf (Elt Ideal) ((c.tc : Thread Cert.KernelInMixIdeal.nD Cert.KernelInMixIdeal.τ).loc Cert.KernelInMixIdeal.main_v29_3)),
      θ_run (Cert.KernelInMixIdeal.defs (F := Ideal)) (onTc (τ := Cert.KernelInMixIdeal.τ) (Cert.KernelInMixIdeal.main (F := Ideal))) ⟨m, fun _ => 0, g⟩ (fun r => ∀ c : Dev Cert.KernelInMixIdeal.nD,
          r.2.mem ((c.tc : Thread Cert.KernelInMixIdeal.nD Cert.KernelInMixIdeal.τ).loc Cert.KernelInMixIdeal.main_v29_0) = v0 c
          ∧ r.2.mem ((c.tc : Thread Cert.KernelInMixIdeal.nD Cert.KernelInMixIdeal.τ).loc Cert.KernelInMixIdeal.main_v29_1) = v1 c
          ∧ r.2.mem ((c.tc : Thread Cert.KernelInMixIdeal.nD Cert.KernelInMixIdeal.τ).loc Cert.KernelInMixIdeal.main_v29_2) = v2 c
          ∧ r.2.mem ((c.tc : Thread Cert.KernelInMixIdeal.nD Cert.KernelInMixIdeal.τ).loc Cert.KernelInMixIdeal.main_v29_3) = v3 c
          ∧ r.2.mem ((c.tc : Thread Cert.KernelInMixIdeal.nD Cert.KernelInMixIdeal.τ).loc Cert.KernelInMixIdeal.main_arg0) = m ((c.tc : Thread Cert.KernelInMixIdeal.nD Cert.KernelInMixIdeal.τ).loc Cert.KernelInMixIdeal.main_arg0)
          ∧ r.2.mem ((c.tc : Thread Cert.KernelInMixIdeal.nD Cert.KernelInMixIdeal.τ).loc Cert.KernelInMixIdeal.main_arg1) = m ((c.tc : Thread Cert.KernelInMixIdeal.nD Cert.KernelInMixIdeal.τ).loc Cert.KernelInMixIdeal.main_arg1)
          ∧ r.2.mem ((c.tc : Thread Cert.KernelInMixIdeal.nD Cert.KernelInMixIdeal.τ).loc Cert.KernelInMixIdeal.main_arg2) = m ((c.tc : Thread Cert.KernelInMixIdeal.nD Cert.KernelInMixIdeal.τ).loc Cert.KernelInMixIdeal.main_arg2)
          ∧ r.2.mem ((c.tc : Thread Cert.KernelInMixIdeal.nD Cert.KernelInMixIdeal.τ).loc Cert.KernelInMixIdeal.main_arg3) = m ((c.tc : Thread Cert.KernelInMixIdeal.nD Cert.KernelInMixIdeal.τ).loc Cert.KernelInMixIdeal.main_arg3)
          ∧ r.2.mem ((c.tc : Thread Cert.KernelInMixIdeal.nD Cert.KernelInMixIdeal.τ).loc Cert.KernelInMixIdeal.main_arg4) = m ((c.tc : Thread Cert.KernelInMixIdeal.nD Cert.KernelInMixIdeal.τ).loc Cert.KernelInMixIdeal.main_arg4)
          ∧ r.2.mem ((c.tc : Thread Cert.KernelInMixIdeal.nD Cert.KernelInMixIdeal.τ).loc Cert.KernelInMixIdeal.main_arg5) = m ((c.tc : Thread Cert.KernelInMixIdeal.nD Cert.KernelInMixIdeal.τ).loc Cert.KernelInMixIdeal.main_arg5)
          ∧ r.2.mem ((c.tc : Thread Cert.KernelInMixIdeal.nD Cert.KernelInMixIdeal.τ).loc Cert.KernelInMixIdeal.main_arg6) = m ((c.tc : Thread Cert.KernelInMixIdeal.nD Cert.KernelInMixIdeal.τ).loc Cert.KernelInMixIdeal.main_arg6)
          ∧ r.2.mem ((c.tc : Thread Cert.KernelInMixIdeal.nD Cert.KernelInMixIdeal.τ).loc Cert.KernelInMixIdeal.main_arg7) = m ((c.tc : Thread Cert.KernelInMixIdeal.nD Cert.KernelInMixIdeal.τ).loc Cert.KernelInMixIdeal.main_arg7)
          ∧ r.2.mem ((c.tc : Thread Cert.KernelInMixIdeal.nD Cert.KernelInMixIdeal.τ).loc Cert.KernelInMixIdeal.main_arg8) = m ((c.tc : Thread Cert.KernelInMixIdeal.nD Cert.KernelInMixIdeal.τ).loc Cert.KernelInMixIdeal.main_arg8)
          ∧ r.2.mem ((c.tc : Thread Cert.KernelInMixIdeal.nD Cert.KernelInMixIdeal.τ).loc Cert.KernelInMixIdeal.main_arg9) = m ((c.tc : Thread Cert.KernelInMixIdeal.nD Cert.KernelInMixIdeal.τ).loc Cert.KernelInMixIdeal.main_arg9))
      ∧ θ_run (Cert.ReferenceInMixIdeal.defs (F := Ideal)) (onTc (τ := Cert.ReferenceInMixIdeal.τ) (Cert.ReferenceInMixIdeal.main (F := Ideal))) ⟨m', fun _ => 0, g'⟩ (fun r => ∀ c : Dev Cert.ReferenceInMixIdeal.nD,
          r.2.mem ((c.tc : Thread Cert.ReferenceInMixIdeal.nD Cert.ReferenceInMixIdeal.τ).loc Cert.ReferenceInMixIdeal.main_v71) = v0 c
          ∧ r.2.mem ((c.tc : Thread Cert.ReferenceInMixIdeal.nD Cert.ReferenceInMixIdeal.τ).loc Cert.ReferenceInMixIdeal.main_v74) = v1 c
          ∧ r.2.mem ((c.tc : Thread Cert.ReferenceInMixIdeal.nD Cert.ReferenceInMixIdeal.τ).loc Cert.ReferenceInMixIdeal.main_v77) = v2 c
          ∧ r.2.mem ((c.tc : Thread Cert.ReferenceInMixIdeal.nD Cert.ReferenceInMixIdeal.τ).loc Cert.ReferenceInMixIdeal.main_v80) = v3 c
          ∧ r.2.mem ((c.tc : Thread Cert.ReferenceInMixIdeal.nD Cert.ReferenceInMixIdeal.τ).loc Cert.ReferenceInMixIdeal.main_arg0) = m' ((c.tc : Thread Cert.ReferenceInMixIdeal.nD Cert.ReferenceInMixIdeal.τ).loc Cert.ReferenceInMixIdeal.main_arg0)
          ∧ r.2.mem ((c.tc : Thread Cert.ReferenceInMixIdeal.nD Cert.ReferenceInMixIdeal.τ).loc Cert.ReferenceInMixIdeal.main_arg1) = m' ((c.tc : Thread Cert.ReferenceInMixIdeal.nD Cert.ReferenceInMixIdeal.τ).loc Cert.ReferenceInMixIdeal.main_arg1)
          ∧ r.2.mem ((c.tc : Thread Cert.ReferenceInMixIdeal.nD Cert.ReferenceInMixIdeal.τ).loc Cert.ReferenceInMixIdeal.main_arg2) = m' ((c.tc : Thread Cert.ReferenceInMixIdeal.nD Cert.ReferenceInMixIdeal.τ).loc Cert.ReferenceInMixIdeal.main_arg2)
          ∧ r.2.mem ((c.tc : Thread Cert.ReferenceInMixIdeal.nD Cert.ReferenceInMixIdeal.τ).loc Cert.ReferenceInMixIdeal.main_arg3) = m' ((c.tc : Thread Cert.ReferenceInMixIdeal.nD Cert.ReferenceInMixIdeal.τ).loc Cert.ReferenceInMixIdeal.main_arg3)
          ∧ r.2.mem ((c.tc : Thread Cert.ReferenceInMixIdeal.nD Cert.ReferenceInMixIdeal.τ).loc Cert.ReferenceInMixIdeal.main_arg4) = m' ((c.tc : Thread Cert.ReferenceInMixIdeal.nD Cert.ReferenceInMixIdeal.τ).loc Cert.ReferenceInMixIdeal.main_arg4)
          ∧ r.2.mem ((c.tc : Thread Cert.ReferenceInMixIdeal.nD Cert.ReferenceInMixIdeal.τ).loc Cert.ReferenceInMixIdeal.main_arg5) = m' ((c.tc : Thread Cert.ReferenceInMixIdeal.nD Cert.ReferenceInMixIdeal.τ).loc Cert.ReferenceInMixIdeal.main_arg5)
          ∧ r.2.mem ((c.tc : Thread Cert.ReferenceInMixIdeal.nD Cert.ReferenceInMixIdeal.τ).loc Cert.ReferenceInMixIdeal.main_arg6) = m' ((c.tc : Thread Cert.ReferenceInMixIdeal.nD Cert.ReferenceInMixIdeal.τ).loc Cert.ReferenceInMixIdeal.main_arg6)
          ∧ r.2.mem ((c.tc : Thread Cert.ReferenceInMixIdeal.nD Cert.ReferenceInMixIdeal.τ).loc Cert.ReferenceInMixIdeal.main_arg7) = m' ((c.tc : Thread Cert.ReferenceInMixIdeal.nD Cert.ReferenceInMixIdeal.τ).loc Cert.ReferenceInMixIdeal.main_arg7)
          ∧ r.2.mem ((c.tc : Thread Cert.ReferenceInMixIdeal.nD Cert.ReferenceInMixIdeal.τ).loc Cert.ReferenceInMixIdeal.main_arg8) = m' ((c.tc : Thread Cert.ReferenceInMixIdeal.nD Cert.ReferenceInMixIdeal.τ).loc Cert.ReferenceInMixIdeal.main_arg8)
          ∧ r.2.mem ((c.tc : Thread Cert.ReferenceInMixIdeal.nD Cert.ReferenceInMixIdeal.τ).loc Cert.ReferenceInMixIdeal.main_arg9) = m' ((c.tc : Thread Cert.ReferenceInMixIdeal.nD Cert.ReferenceInMixIdeal.τ).loc Cert.ReferenceInMixIdeal.main_arg9))

def preserves_KernelInCell_KernelInCellIdeal : Prop :=
  True

def algebraic_KernelInCellIdeal_ReferenceInCellIdeal [hKernelInCellIdeal : Cert.KernelInCellIdeal.Facts] [hReferenceInCellIdeal : Cert.ReferenceInCellIdeal.Facts] : Prop :=
  ∀ (m : (ℓ : Loc Cert.KernelInCellIdeal.nD Cert.KernelInCellIdeal.τ Cert.KernelInCellIdeal.sig) → Buf (Elt Ideal) ℓ) (g : Dev Cert.KernelInCellIdeal.nD → PrngReg)
    (m' : (ℓ : Loc Cert.ReferenceInCellIdeal.nD Cert.ReferenceInCellIdeal.τ Cert.ReferenceInCellIdeal.sig) → Buf (Elt Ideal) ℓ) (g' : Dev Cert.ReferenceInCellIdeal.nD → PrngReg), Pre_KernelInCellIdeal m →
    (∀ c : Dev Cert.KernelInCellIdeal.nD,
      m' ((c.tc : Thread Cert.ReferenceInCellIdeal.nD Cert.ReferenceInCellIdeal.τ).loc Cert.ReferenceInCellIdeal.main_arg0) = m ((c.tc : Thread Cert.KernelInCellIdeal.nD Cert.KernelInCellIdeal.τ).loc Cert.KernelInCellIdeal.main_arg0)
      ∧ m' ((c.tc : Thread Cert.ReferenceInCellIdeal.nD Cert.ReferenceInCellIdeal.τ).loc Cert.ReferenceInCellIdeal.main_arg1) = m ((c.tc : Thread Cert.KernelInCellIdeal.nD Cert.KernelInCellIdeal.τ).loc Cert.KernelInCellIdeal.main_arg1)
      ∧ m' ((c.tc : Thread Cert.ReferenceInCellIdeal.nD Cert.ReferenceInCellIdeal.τ).loc Cert.ReferenceInCellIdeal.main_arg2) = m ((c.tc : Thread Cert.KernelInCellIdeal.nD Cert.KernelInCellIdeal.τ).loc Cert.KernelInCellIdeal.main_arg2)
      ∧ m' ((c.tc : Thread Cert.ReferenceInCellIdeal.nD Cert.ReferenceInCellIdeal.τ).loc Cert.ReferenceInCellIdeal.main_arg3) = m ((c.tc : Thread Cert.KernelInCellIdeal.nD Cert.KernelInCellIdeal.τ).loc Cert.KernelInCellIdeal.main_arg3)
      ∧ m' ((c.tc : Thread Cert.ReferenceInCellIdeal.nD Cert.ReferenceInCellIdeal.τ).loc Cert.ReferenceInCellIdeal.main_arg4) = m ((c.tc : Thread Cert.KernelInCellIdeal.nD Cert.KernelInCellIdeal.τ).loc Cert.KernelInCellIdeal.main_arg4)
      ∧ m' ((c.tc : Thread Cert.ReferenceInCellIdeal.nD Cert.ReferenceInCellIdeal.τ).loc Cert.ReferenceInCellIdeal.main_arg5) = m ((c.tc : Thread Cert.KernelInCellIdeal.nD Cert.KernelInCellIdeal.τ).loc Cert.KernelInCellIdeal.main_arg5)
      ∧ m' ((c.tc : Thread Cert.ReferenceInCellIdeal.nD Cert.ReferenceInCellIdeal.τ).loc Cert.ReferenceInCellIdeal.main_arg6) = m ((c.tc : Thread Cert.KernelInCellIdeal.nD Cert.KernelInCellIdeal.τ).loc Cert.KernelInCellIdeal.main_arg6)
      ∧ m' ((c.tc : Thread Cert.ReferenceInCellIdeal.nD Cert.ReferenceInCellIdeal.τ).loc Cert.ReferenceInCellIdeal.main_arg7) = m ((c.tc : Thread Cert.KernelInCellIdeal.nD Cert.KernelInCellIdeal.τ).loc Cert.KernelInCellIdeal.main_arg7)
      ∧ m' ((c.tc : Thread Cert.ReferenceInCellIdeal.nD Cert.ReferenceInCellIdeal.τ).loc Cert.ReferenceInCellIdeal.main_arg8) = m ((c.tc : Thread Cert.KernelInCellIdeal.nD Cert.KernelInCellIdeal.τ).loc Cert.KernelInCellIdeal.main_arg8)
      ∧ m' ((c.tc : Thread Cert.ReferenceInCellIdeal.nD Cert.ReferenceInCellIdeal.τ).loc Cert.ReferenceInCellIdeal.main_arg9) = m ((c.tc : Thread Cert.KernelInCellIdeal.nD Cert.KernelInCellIdeal.τ).loc Cert.KernelInCellIdeal.main_arg9)) →
    ∃ (v0 : (c : Dev Cert.KernelInCellIdeal.nD) → Buf (Elt Ideal) ((c.tc : Thread Cert.KernelInCellIdeal.nD Cert.KernelInCellIdeal.τ).loc Cert.KernelInCellIdeal.main_v29_4)) (v1 : (c : Dev Cert.KernelInCellIdeal.nD) → Buf (Elt Ideal) ((c.tc : Thread Cert.KernelInCellIdeal.nD Cert.KernelInCellIdeal.τ).loc Cert.KernelInCellIdeal.main_v29_5)) (v2 : (c : Dev Cert.KernelInCellIdeal.nD) → Buf (Elt Ideal) ((c.tc : Thread Cert.KernelInCellIdeal.nD Cert.KernelInCellIdeal.τ).loc Cert.KernelInCellIdeal.main_v29_6)) (v3 : (c : Dev Cert.KernelInCellIdeal.nD) → Buf (Elt Ideal) ((c.tc : Thread Cert.KernelInCellIdeal.nD Cert.KernelInCellIdeal.τ).loc Cert.KernelInCellIdeal.main_v29_7)) (v4 : (c : Dev Cert.KernelInCellIdeal.nD) → Buf (Elt Ideal) ((c.tc : Thread Cert.KernelInCellIdeal.nD Cert.KernelInCellIdeal.τ).loc Cert.KernelInCellIdeal.main_v29_8)) (v5 : (c : Dev Cert.KernelInCellIdeal.nD) → Buf (Elt Ideal) ((c.tc : Thread Cert.KernelInCellIdeal.nD Cert.KernelInCellIdeal.τ).loc Cert.KernelInCellIdeal.main_v29_9)),
      θ_run (Cert.KernelInCellIdeal.defs (F := Ideal)) (onTc (τ := Cert.KernelInCellIdeal.τ) (Cert.KernelInCellIdeal.main (F := Ideal))) ⟨m, fun _ => 0, g⟩ (fun r => ∀ c : Dev Cert.KernelInCellIdeal.nD,
          r.2.mem ((c.tc : Thread Cert.KernelInCellIdeal.nD Cert.KernelInCellIdeal.τ).loc Cert.KernelInCellIdeal.main_v29_4) = v0 c
          ∧ r.2.mem ((c.tc : Thread Cert.KernelInCellIdeal.nD Cert.KernelInCellIdeal.τ).loc Cert.KernelInCellIdeal.main_v29_5) = v1 c
          ∧ r.2.mem ((c.tc : Thread Cert.KernelInCellIdeal.nD Cert.KernelInCellIdeal.τ).loc Cert.KernelInCellIdeal.main_v29_6) = v2 c
          ∧ r.2.mem ((c.tc : Thread Cert.KernelInCellIdeal.nD Cert.KernelInCellIdeal.τ).loc Cert.KernelInCellIdeal.main_v29_7) = v3 c
          ∧ r.2.mem ((c.tc : Thread Cert.KernelInCellIdeal.nD Cert.KernelInCellIdeal.τ).loc Cert.KernelInCellIdeal.main_v29_8) = v4 c
          ∧ r.2.mem ((c.tc : Thread Cert.KernelInCellIdeal.nD Cert.KernelInCellIdeal.τ).loc Cert.KernelInCellIdeal.main_v29_9) = v5 c
          ∧ r.2.mem ((c.tc : Thread Cert.KernelInCellIdeal.nD Cert.KernelInCellIdeal.τ).loc Cert.KernelInCellIdeal.main_arg0) = m ((c.tc : Thread Cert.KernelInCellIdeal.nD Cert.KernelInCellIdeal.τ).loc Cert.KernelInCellIdeal.main_arg0)
          ∧ r.2.mem ((c.tc : Thread Cert.KernelInCellIdeal.nD Cert.KernelInCellIdeal.τ).loc Cert.KernelInCellIdeal.main_arg1) = m ((c.tc : Thread Cert.KernelInCellIdeal.nD Cert.KernelInCellIdeal.τ).loc Cert.KernelInCellIdeal.main_arg1)
          ∧ r.2.mem ((c.tc : Thread Cert.KernelInCellIdeal.nD Cert.KernelInCellIdeal.τ).loc Cert.KernelInCellIdeal.main_arg2) = m ((c.tc : Thread Cert.KernelInCellIdeal.nD Cert.KernelInCellIdeal.τ).loc Cert.KernelInCellIdeal.main_arg2)
          ∧ r.2.mem ((c.tc : Thread Cert.KernelInCellIdeal.nD Cert.KernelInCellIdeal.τ).loc Cert.KernelInCellIdeal.main_arg3) = m ((c.tc : Thread Cert.KernelInCellIdeal.nD Cert.KernelInCellIdeal.τ).loc Cert.KernelInCellIdeal.main_arg3)
          ∧ r.2.mem ((c.tc : Thread Cert.KernelInCellIdeal.nD Cert.KernelInCellIdeal.τ).loc Cert.KernelInCellIdeal.main_arg4) = m ((c.tc : Thread Cert.KernelInCellIdeal.nD Cert.KernelInCellIdeal.τ).loc Cert.KernelInCellIdeal.main_arg4)
          ∧ r.2.mem ((c.tc : Thread Cert.KernelInCellIdeal.nD Cert.KernelInCellIdeal.τ).loc Cert.KernelInCellIdeal.main_arg5) = m ((c.tc : Thread Cert.KernelInCellIdeal.nD Cert.KernelInCellIdeal.τ).loc Cert.KernelInCellIdeal.main_arg5)
          ∧ r.2.mem ((c.tc : Thread Cert.KernelInCellIdeal.nD Cert.KernelInCellIdeal.τ).loc Cert.KernelInCellIdeal.main_arg6) = m ((c.tc : Thread Cert.KernelInCellIdeal.nD Cert.KernelInCellIdeal.τ).loc Cert.KernelInCellIdeal.main_arg6)
          ∧ r.2.mem ((c.tc : Thread Cert.KernelInCellIdeal.nD Cert.KernelInCellIdeal.τ).loc Cert.KernelInCellIdeal.main_arg7) = m ((c.tc : Thread Cert.KernelInCellIdeal.nD Cert.KernelInCellIdeal.τ).loc Cert.KernelInCellIdeal.main_arg7)
          ∧ r.2.mem ((c.tc : Thread Cert.KernelInCellIdeal.nD Cert.KernelInCellIdeal.τ).loc Cert.KernelInCellIdeal.main_arg8) = m ((c.tc : Thread Cert.KernelInCellIdeal.nD Cert.KernelInCellIdeal.τ).loc Cert.KernelInCellIdeal.main_arg8)
          ∧ r.2.mem ((c.tc : Thread Cert.KernelInCellIdeal.nD Cert.KernelInCellIdeal.τ).loc Cert.KernelInCellIdeal.main_arg9) = m ((c.tc : Thread Cert.KernelInCellIdeal.nD Cert.KernelInCellIdeal.τ).loc Cert.KernelInCellIdeal.main_arg9))
      ∧ θ_run (Cert.ReferenceInCellIdeal.defs (F := Ideal)) (onTc (τ := Cert.ReferenceInCellIdeal.τ) (Cert.ReferenceInCellIdeal.main (F := Ideal))) ⟨m', fun _ => 0, g'⟩ (fun r => ∀ c : Dev Cert.ReferenceInCellIdeal.nD,
          r.2.mem ((c.tc : Thread Cert.ReferenceInCellIdeal.nD Cert.ReferenceInCellIdeal.τ).loc Cert.ReferenceInCellIdeal.main_v69) = v0 c
          ∧ r.2.mem ((c.tc : Thread Cert.ReferenceInCellIdeal.nD Cert.ReferenceInCellIdeal.τ).loc Cert.ReferenceInCellIdeal.main_v72) = v1 c
          ∧ r.2.mem ((c.tc : Thread Cert.ReferenceInCellIdeal.nD Cert.ReferenceInCellIdeal.τ).loc Cert.ReferenceInCellIdeal.main_v73) = v2 c
          ∧ r.2.mem ((c.tc : Thread Cert.ReferenceInCellIdeal.nD Cert.ReferenceInCellIdeal.τ).loc Cert.ReferenceInCellIdeal.main_v80) = v3 c
          ∧ r.2.mem ((c.tc : Thread Cert.ReferenceInCellIdeal.nD Cert.ReferenceInCellIdeal.τ).loc Cert.ReferenceInCellIdeal.main_v81) = v4 c
          ∧ r.2.mem ((c.tc : Thread Cert.ReferenceInCellIdeal.nD Cert.ReferenceInCellIdeal.τ).loc Cert.ReferenceInCellIdeal.main_v82) = v5 c
          ∧ r.2.mem ((c.tc : Thread Cert.ReferenceInCellIdeal.nD Cert.ReferenceInCellIdeal.τ).loc Cert.ReferenceInCellIdeal.main_arg0) = m' ((c.tc : Thread Cert.ReferenceInCellIdeal.nD Cert.ReferenceInCellIdeal.τ).loc Cert.ReferenceInCellIdeal.main_arg0)
          ∧ r.2.mem ((c.tc : Thread Cert.ReferenceInCellIdeal.nD Cert.ReferenceInCellIdeal.τ).loc Cert.ReferenceInCellIdeal.main_arg1) = m' ((c.tc : Thread Cert.ReferenceInCellIdeal.nD Cert.ReferenceInCellIdeal.τ).loc Cert.ReferenceInCellIdeal.main_arg1)
          ∧ r.2.mem ((c.tc : Thread Cert.ReferenceInCellIdeal.nD Cert.ReferenceInCellIdeal.τ).loc Cert.ReferenceInCellIdeal.main_arg2) = m' ((c.tc : Thread Cert.ReferenceInCellIdeal.nD Cert.ReferenceInCellIdeal.τ).loc Cert.ReferenceInCellIdeal.main_arg2)
          ∧ r.2.mem ((c.tc : Thread Cert.ReferenceInCellIdeal.nD Cert.ReferenceInCellIdeal.τ).loc Cert.ReferenceInCellIdeal.main_arg3) = m' ((c.tc : Thread Cert.ReferenceInCellIdeal.nD Cert.ReferenceInCellIdeal.τ).loc Cert.ReferenceInCellIdeal.main_arg3)
          ∧ r.2.mem ((c.tc : Thread Cert.ReferenceInCellIdeal.nD Cert.ReferenceInCellIdeal.τ).loc Cert.ReferenceInCellIdeal.main_arg4) = m' ((c.tc : Thread Cert.ReferenceInCellIdeal.nD Cert.ReferenceInCellIdeal.τ).loc Cert.ReferenceInCellIdeal.main_arg4)
          ∧ r.2.mem ((c.tc : Thread Cert.ReferenceInCellIdeal.nD Cert.ReferenceInCellIdeal.τ).loc Cert.ReferenceInCellIdeal.main_arg5) = m' ((c.tc : Thread Cert.ReferenceInCellIdeal.nD Cert.ReferenceInCellIdeal.τ).loc Cert.ReferenceInCellIdeal.main_arg5)
          ∧ r.2.mem ((c.tc : Thread Cert.ReferenceInCellIdeal.nD Cert.ReferenceInCellIdeal.τ).loc Cert.ReferenceInCellIdeal.main_arg6) = m' ((c.tc : Thread Cert.ReferenceInCellIdeal.nD Cert.ReferenceInCellIdeal.τ).loc Cert.ReferenceInCellIdeal.main_arg6)
          ∧ r.2.mem ((c.tc : Thread Cert.ReferenceInCellIdeal.nD Cert.ReferenceInCellIdeal.τ).loc Cert.ReferenceInCellIdeal.main_arg7) = m' ((c.tc : Thread Cert.ReferenceInCellIdeal.nD Cert.ReferenceInCellIdeal.τ).loc Cert.ReferenceInCellIdeal.main_arg7)
          ∧ r.2.mem ((c.tc : Thread Cert.ReferenceInCellIdeal.nD Cert.ReferenceInCellIdeal.τ).loc Cert.ReferenceInCellIdeal.main_arg8) = m' ((c.tc : Thread Cert.ReferenceInCellIdeal.nD Cert.ReferenceInCellIdeal.τ).loc Cert.ReferenceInCellIdeal.main_arg8)
          ∧ r.2.mem ((c.tc : Thread Cert.ReferenceInCellIdeal.nD Cert.ReferenceInCellIdeal.τ).loc Cert.ReferenceInCellIdeal.main_arg9) = m' ((c.tc : Thread Cert.ReferenceInCellIdeal.nD Cert.ReferenceInCellIdeal.τ).loc Cert.ReferenceInCellIdeal.main_arg9))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelFfnFirst : Cert.KernelFfnFirst.Facts) (hKernelFfnFirstIdeal : Cert.KernelFfnFirstIdeal.Facts) (hReferenceFfnFirstIdeal : Cert.ReferenceFfnFirstIdeal.Facts) (hKernelFfnSecond : Cert.KernelFfnSecond.Facts) (hKernelFfnSecondIdeal : Cert.KernelFfnSecondIdeal.Facts) (hReferenceFfnSecondIdeal : Cert.ReferenceFfnSecondIdeal.Facts) (hKernelFfnContext : Cert.KernelFfnContext.Facts) (hKernelFfnContextIdeal : Cert.KernelFfnContextIdeal.Facts) (hReferenceFfnContextIdeal : Cert.ReferenceFfnContextIdeal.Facts) (hKernelOut : Cert.KernelOut.Facts) (hKernelOutIdeal : Cert.KernelOutIdeal.Facts) (hReferenceOutIdeal : Cert.ReferenceOutIdeal.Facts) (hKernelDft : Cert.KernelDft.Facts) (hKernelDftIdeal : Cert.KernelDftIdeal.Facts) (hReferenceDftIdeal : Cert.ReferenceDftIdeal.Facts) (hKernelFfnContextSecond : Cert.KernelFfnContextSecond.Facts) (hKernelFfnContextSecondIdeal : Cert.KernelFfnContextSecondIdeal.Facts) (hReferenceFfnContextSecondIdeal : Cert.ReferenceFfnContextSecondIdeal.Facts) (hKernelOutContext : Cert.KernelOutContext.Facts) (hKernelOutContextIdeal : Cert.KernelOutContextIdeal.Facts) (hReferenceOutContextIdeal : Cert.ReferenceOutContextIdeal.Facts) (hKernelInMix : Cert.KernelInMix.Facts) (hKernelInMixIdeal : Cert.KernelInMixIdeal.Facts) (hReferenceInMixIdeal : Cert.ReferenceInMixIdeal.Facts) (hKernelInCell : Cert.KernelInCell.Facts) (hKernelInCellIdeal : Cert.KernelInCellIdeal.Facts) (hReferenceInCellIdeal : Cert.ReferenceInCellIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelFfnFirst (hKernelFfnFirst := hKernelFfnFirst)
    ∧ quiescent_KernelFfnFirstIdeal (hKernelFfnFirstIdeal := hKernelFfnFirstIdeal)
    ∧ quiescent_ReferenceFfnFirstIdeal (hReferenceFfnFirstIdeal := hReferenceFfnFirstIdeal)
    ∧ quiescent_KernelFfnSecond (hKernelFfnSecond := hKernelFfnSecond)
    ∧ quiescent_KernelFfnSecondIdeal (hKernelFfnSecondIdeal := hKernelFfnSecondIdeal)
    ∧ quiescent_ReferenceFfnSecondIdeal (hReferenceFfnSecondIdeal := hReferenceFfnSecondIdeal)
    ∧ quiescent_KernelFfnContext (hKernelFfnContext := hKernelFfnContext)
    ∧ quiescent_KernelFfnContextIdeal (hKernelFfnContextIdeal := hKernelFfnContextIdeal)
    ∧ quiescent_ReferenceFfnContextIdeal (hReferenceFfnContextIdeal := hReferenceFfnContextIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDft (hKernelDft := hKernelDft)
    ∧ quiescent_KernelDftIdeal (hKernelDftIdeal := hKernelDftIdeal)
    ∧ quiescent_ReferenceDftIdeal (hReferenceDftIdeal := hReferenceDftIdeal)
    ∧ quiescent_KernelFfnContextSecond (hKernelFfnContextSecond := hKernelFfnContextSecond)
    ∧ quiescent_KernelFfnContextSecondIdeal (hKernelFfnContextSecondIdeal := hKernelFfnContextSecondIdeal)
    ∧ quiescent_ReferenceFfnContextSecondIdeal (hReferenceFfnContextSecondIdeal := hReferenceFfnContextSecondIdeal)
    ∧ quiescent_KernelOutContext (hKernelOutContext := hKernelOutContext)
    ∧ quiescent_KernelOutContextIdeal (hKernelOutContextIdeal := hKernelOutContextIdeal)
    ∧ quiescent_ReferenceOutContextIdeal (hReferenceOutContextIdeal := hReferenceOutContextIdeal)
    ∧ quiescent_KernelInMix (hKernelInMix := hKernelInMix)
    ∧ quiescent_KernelInMixIdeal (hKernelInMixIdeal := hKernelInMixIdeal)
    ∧ quiescent_ReferenceInMixIdeal (hReferenceInMixIdeal := hReferenceInMixIdeal)
    ∧ quiescent_KernelInCell (hKernelInCell := hKernelInCell)
    ∧ quiescent_KernelInCellIdeal (hKernelInCellIdeal := hKernelInCellIdeal)
    ∧ quiescent_ReferenceInCellIdeal (hReferenceInCellIdeal := hReferenceInCellIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelFfnFirst_KernelFfnFirstIdeal
    ∧ algebraic_KernelFfnFirstIdeal_ReferenceFfnFirstIdeal (hKernelFfnFirstIdeal := hKernelFfnFirstIdeal) (hReferenceFfnFirstIdeal := hReferenceFfnFirstIdeal)
    ∧ preserves_KernelFfnSecond_KernelFfnSecondIdeal
    ∧ algebraic_KernelFfnSecondIdeal_ReferenceFfnSecondIdeal (hKernelFfnSecondIdeal := hKernelFfnSecondIdeal) (hReferenceFfnSecondIdeal := hReferenceFfnSecondIdeal)
    ∧ preserves_KernelFfnContext_KernelFfnContextIdeal
    ∧ algebraic_KernelFfnContextIdeal_ReferenceFfnContextIdeal (hKernelFfnContextIdeal := hKernelFfnContextIdeal) (hReferenceFfnContextIdeal := hReferenceFfnContextIdeal)
    ∧ preserves_KernelOut_KernelOutIdeal
    ∧ algebraic_KernelOutIdeal_ReferenceOutIdeal (hKernelOutIdeal := hKernelOutIdeal) (hReferenceOutIdeal := hReferenceOutIdeal)
    ∧ preserves_KernelDft_KernelDftIdeal
    ∧ algebraic_KernelDftIdeal_ReferenceDftIdeal (hKernelDftIdeal := hKernelDftIdeal) (hReferenceDftIdeal := hReferenceDftIdeal)
    ∧ preserves_KernelFfnContextSecond_KernelFfnContextSecondIdeal
    ∧ algebraic_KernelFfnContextSecondIdeal_ReferenceFfnContextSecondIdeal (hKernelFfnContextSecondIdeal := hKernelFfnContextSecondIdeal) (hReferenceFfnContextSecondIdeal := hReferenceFfnContextSecondIdeal)
    ∧ preserves_KernelOutContext_KernelOutContextIdeal
    ∧ algebraic_KernelOutContextIdeal_ReferenceOutContextIdeal (hKernelOutContextIdeal := hKernelOutContextIdeal) (hReferenceOutContextIdeal := hReferenceOutContextIdeal)
    ∧ preserves_KernelInMix_KernelInMixIdeal
    ∧ algebraic_KernelInMixIdeal_ReferenceInMixIdeal (hKernelInMixIdeal := hKernelInMixIdeal) (hReferenceInMixIdeal := hReferenceInMixIdeal)
    ∧ preserves_KernelInCell_KernelInCellIdeal
    ∧ algebraic_KernelInCellIdeal_ReferenceInCellIdeal (hKernelInCellIdeal := hKernelInCellIdeal) (hReferenceInCellIdeal := hReferenceInCellIdeal)
-- ==== Pre_finite_scores.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩

class Facts : Prop where
  bcast_S_S8 : S_.BroadcastsInDim S8 (![] : Fin 0 → Fin S8.rank)
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S4x256x128 : S_.BroadcastsInDim S4x256x128 (![] : Fin 0 → Fin S4x256x128.rank)

variable [Facts]

def fn {F : FTy → Type} [FloatOps F] (main_arg0 : FVec F S8 .f32) (main_arg1 : FVec F S4x4096x512 .f32) (main_arg2 : FVec F S4x4096x128 .f32) (main_arg3 : FVec F S4x4096x128 .f32) (main_arg4 : FVec F S4x256x128 .f32) (main_arg5 : FVec F S4x256x128 .f32) : IVec S8 1 × IVec S4x4096x512 1 × IVec S4x4096x128 1 × IVec S4x256x128 1 :=
  let main_cst : FVec F S_ .f32 := constant S_ .f32 0x7F800000#32
  let main_v0 : FVec F S8 .f32 := broadcastInDim S8 ![] bcast_S_S8 main_cst
  let main_v1 : IVec S8 1 := cmpf .olt main_arg0 main_v0
  let main_v2 : FVec F S4x4096x512 .f32 := Host.absf main_arg1
  let main_cst_0 : FVec F S_ .f32 := constant S_ .f32 0x7F800000#32
  let main_v3 : FVec F S4x4096x512 .f32 := broadcastInDim S4x4096x512 ![] bcast_S_S4x4096x512 main_cst_0
  let main_v4 : IVec S4x4096x512 1 := cmpf .olt main_v2 main_v3
  let main_v5 : FVec F S4x4096x128 .f32 := Host.absf main_arg2
  let main_cst_1 : FVec F S_ .f32 := constant S_ .f32 0x7F800000#32
  let main_v6 : FVec F S4x4096x128 .f32 := broadcastInDim S4x4096x128 ![] bcast_S_S4x4096x128 main_cst_1
  let main_v7 : IVec S4x4096x128 1 := cmpf .olt main_v5 main_v6
  let main_v8 : FVec F S4x256x128 .f32 := Host.absf main_arg4
  let main_cst_2 : FVec F S_ .f32 := constant S_ .f32 0x7F800000#32
  let main_v9 : FVec F S4x256x128 .f32 := broadcastInDim S4x256x128 ![] bcast_S_S4x256x128 main_cst_2
  let main_v10 : IVec S4x256x128 1 := cmpf .olt main_v8 main_v9
  (main_v1, main_v4, main_v7, main_v10)
-- ==== Kernel.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S_ : Shape := ⟨0, ![]⟩
abbrev S4x4096x64 : Shape := ⟨3, ![4, 4096, 64]⟩
abbrev S4x4096x256 : Shape := ⟨3, ![4, 4096, 256]⟩
abbrev S4x256x64 : Shape := ⟨3, ![4, 256, 64]⟩
abbrev S4x256x256 : Shape := ⟨3, ![4, 256, 256]⟩
abbrev S1x128x512 : Shape := ⟨3, ![1, 128, 512]⟩
abbrev S1x128x256 : Shape := ⟨3, ![1, 128, 256]⟩
abbrev S1x256x256 : Shape := ⟨3, ![1, 256, 256]⟩
abbrev S1x128 : Shape := ⟨2, ![1, 128]⟩
abbrev S128x256 : Shape := ⟨2, ![128, 256]⟩
abbrev S384x256 : Shape := ⟨2, ![384, 256]⟩
abbrev S512x384 : Shape := ⟨2, ![512, 384]⟩
abbrev S1x128x128 : Shape := ⟨3, ![1, 128, 128]⟩
abbrev S128x128 : Shape := ⟨2, ![128, 128]⟩
abbrev S1 : Shape := ⟨1, ![1]⟩
abbrev S128x1 : Shape := ⟨2, ![128, 1]⟩
abbrev S512x128 : Shape := ⟨2, ![512, 128]⟩
abbrev S512x1 : Shape := ⟨2, ![512, 1]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S384x128 : Shape := ⟨2, ![384, 128]⟩

abbrev nBuf : Space → Nat
  | .hbm => 27
  | .vmem => 20
  | .smem => 1
  | _ => 0

abbrev bufTy : (tb : Table) → Fin (tcTables nBuf tb) → BufTy
  | .hbm, ⟨0, _⟩ => ⟨S8, .f32⟩
  | .hbm, ⟨1, _⟩ => ⟨S4x4096x512, .f32⟩
  | .hbm, ⟨2, _⟩ => ⟨S4x4096x128, .f32⟩
  | .hbm, ⟨3, _⟩ => ⟨S4x4096x128, .f32⟩
  | .hbm, ⟨4, _⟩ => ⟨S4x256x128, .f32⟩
  | .hbm, ⟨5, _⟩ => ⟨S4x256x128, .f32⟩
  | .hbm, ⟨6, _⟩ => ⟨S_, .f32⟩
  | .hbm, ⟨7, _⟩ => ⟨S4x4096x512, .f32⟩
  | .hbm, ⟨8, _⟩ => ⟨S4x4096x512, .f32⟩
  | .hbm, ⟨9, _⟩ => ⟨S4x4096x512, .bf16⟩
  | .hbm, ⟨10, _⟩ => ⟨S4x4096x64, .f32⟩
  | .hbm, ⟨11, _⟩ => ⟨S4x4096x64, .f32⟩
  | .hbm, ⟨12, _⟩ => ⟨S4x4096x256, .f32⟩
  | .hbm, ⟨13, _⟩ => ⟨S4x4096x256, .bf16⟩
  | .hbm, ⟨14, _⟩ => ⟨S4x4096x64, .f32⟩
  | .hbm, ⟨15, _⟩ => ⟨S4x4096x64, .f32⟩
  | .hbm, ⟨16, _⟩ => ⟨S4x4096x256, .f32⟩
  | .hbm, ⟨17, _⟩ => ⟨S4x4096x256, .bf16⟩
  | .hbm, ⟨18, _⟩ => ⟨S4x256x64, .f32⟩
  | .hbm, ⟨19, _⟩ => ⟨S4x256x64, .f32⟩
  | .hbm, ⟨20, _⟩ => ⟨S4x256x256, .f32⟩
  | .hbm, ⟨21, _⟩ => ⟨S4x256x256, .bf16⟩
  | .hbm, ⟨22, _⟩ => ⟨S4x256x64, .f32⟩
  | .hbm, ⟨23, _⟩ => ⟨S4x256x64, .f32⟩
  | .hbm, ⟨24, _⟩ => ⟨S4x256x256, .f32⟩
  | .hbm, ⟨25, _⟩ => ⟨S4x256x256, .bf16⟩
  | .hbm, ⟨26, _⟩ => ⟨S4x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S4x4096x512 : Shape := ⟨3, ![4, 4096, 512]⟩
abbrev S4x4096x128 : Shape := ⟨3, ![4, 4096, 128]⟩
abbrev S4x256x128 : Shape := ⟨3, ![4, 256, 128]⟩
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S4x32x128x2x4x64 : Shape := ⟨6, ![4, 32, 128, 2, 4, 64]⟩
abbrev S_ : Shape := ⟨0, ![]⟩
abbrev S4x128x2x64 : Shape := ⟨4, ![4, 128, 2, 64]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S128x384 : Shape := ⟨2, ![128, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S4x2x256x32x128x4 : Shape := ⟨6, ![4, 2, 256, 32, 128, 4]⟩
abbrev S4x32x2x4x128x256 : Shape := ⟨6, ![4, 32, 2, 4, 128, 256]⟩
abbrev S2x4 : Shape := ⟨2, ![2, 4]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x64x4x128 : Shape := ⟨6, ![4, 32, 2, 64, 4, 128]⟩
abbrev S4x2x64x32x4x128 : Shape := ⟨6, ![4, 2, 64, 32, 4, 128]⟩

abbrev nBuf : Space → Nat
  | .hbm => 109
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x4096x512, .f32⟩
  | .hbm, ⟨2, _⟩ => ⟨S4x4096x128, .f32⟩
  | .hbm, ⟨3, _⟩ => ⟨S4x4096x128, .f32⟩
  | .hbm, ⟨4, _⟩ => ⟨S4x256x128, .f32⟩
  | .hbm, ⟨5, _⟩ => ⟨S4x256x128, .f32⟩
  | .hbm, ⟨6, _⟩ => ⟨S4x4096x8x64, .f32⟩
  | .hbm, ⟨7, _⟩ => ⟨S4x4096x2x64, .f32⟩
  | .hbm, ⟨8, _⟩ => ⟨S4x4096x2x64, .f32⟩
  | .hbm, ⟨9, _⟩ => ⟨S4x256x2x64, .f32⟩
  | .hbm, ⟨10, _⟩ => ⟨S4x256x2x64, .f32⟩
  | .hbm, ⟨11, _⟩ => ⟨S4x32x128x2x4x64, .f32⟩
  | .hbm, ⟨12, _⟩ => ⟨S_, .f32⟩
  | .hbm, ⟨13, _⟩ => ⟨S4x128x2x64, .f32⟩
  | .hbm, ⟨14, _⟩ => ⟨S4x4352x2x64, .f32⟩
  | .hbm, ⟨15, _⟩ => ⟨S4x34x128x2x64, .f32⟩
  | .hbm, ⟨16, _⟩ => ⟨S4x32x128x2x64, .f32⟩
  | .hbm, ⟨17, _⟩ => ⟨S4x32x128x2x64, .f32⟩
  | .hbm, ⟨18, _⟩ => ⟨S4x32x128x2x64, .f32⟩
  | .hbm, ⟨19, _⟩ => ⟨S4x32x384x2x64, .f32⟩
  | .hbm, ⟨20, _⟩ => ⟨S_, .f32⟩
  | .hbm, ⟨21, _⟩ => ⟨S4x128x2x64, .f32⟩
  | .hbm, ⟨22, _⟩ => ⟨S4x4352x2x64, .f32⟩
  | .hbm, ⟨23, _⟩ => ⟨S4x34x128x2x64, .f32⟩
  | .hbm, ⟨24, _⟩ => ⟨S4x32x128x2x64, .f32⟩
  | .hbm, ⟨25, _⟩ => ⟨S4x32x128x2x64, .f32⟩
  | .hbm, ⟨26, _⟩ => ⟨S4x32x128x2x64, .f32⟩
  | .hbm, ⟨27, _⟩ => ⟨S4x32x384x2x64, .f32⟩
  | .hbm, ⟨28, _⟩ => ⟨S4x32x2x384x128x4, .f32⟩
  | .hbm, ⟨29, _⟩ => ⟨S4x32x2x4x128x384, .f32⟩
  | .hbm, ⟨30, _⟩ => ⟨S_, .f32⟩
  | .hbm, ⟨31, _⟩ => ⟨S4x32x2x4x128x384, .f32⟩
  | .hbm, ⟨32, _⟩ => ⟨S4x32x2x4x128x384, .f32⟩
  | .hbm, ⟨33, _⟩ => ⟨S128, .i32⟩
  | .hbm, ⟨34, _⟩ => ⟨S128x1, .i32⟩
  | .hbm, ⟨35, _⟩ => ⟨S384, .i32⟩
  | .hbm, ⟨36, _⟩ => ⟨S1x384, .i32⟩
  | .hbm, ⟨37, _⟩ => ⟨S32, .i32⟩
  | .hbm, ⟨38, _⟩ => ⟨S32x1x1, .i32⟩
  | .hbm, ⟨39, _⟩ => ⟨S_, .i32⟩
  | .hbm, ⟨40, _⟩ => ⟨S32x1x1, .i32⟩
  | .hbm, ⟨41, _⟩ => ⟨S32x1x1, .i32⟩
  | .hbm, ⟨42, _⟩ => ⟨S1x1x384, .i32⟩
  | .hbm, ⟨43, _⟩ => ⟨S32x1x384, .i32⟩
  | .hbm, ⟨44, _⟩ => ⟨S32x1x384, .i32⟩
  | .hbm, ⟨45, _⟩ => ⟨S32x1x384, .i32⟩
  | .hbm, ⟨46, _⟩ => ⟨S_, .i32⟩
  | .hbm, ⟨47, _⟩ => ⟨S32x1x384, .i32⟩
  | .hbm, ⟨48, _⟩ => ⟨S32x1x384, .i32⟩
  | .hbm, ⟨49, _⟩ => ⟨S_, .i32⟩
  | .hbm, ⟨50, _⟩ => ⟨S1x384, .i32⟩
  | .hbm, ⟨51, _⟩ => ⟨S1x384, .i32⟩
  | .hbm, ⟨52, _⟩ => ⟨S128x384, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S_, .i32⟩
  | .hbm, ⟨57, _⟩ => ⟨S128x384, .i32⟩
  | .hbm, ⟨58, _⟩ => ⟨S128x384, .i1⟩
  | .hbm, ⟨59, _⟩ => ⟨S1x128x384, .i1⟩
  | .hbm, ⟨60, _⟩ => ⟨S_, .i32⟩
  | .hbm, ⟨61, _⟩ => ⟨S32x1x384, .i32⟩
  | .hbm, ⟨62, _⟩ => ⟨S32x1x384, .i1⟩
  | .hbm, ⟨63, _⟩ => ⟨S32x128x384, .i1⟩
  | .hbm, ⟨64, _⟩ => ⟨S32x128x384, .i1⟩
  | .hbm, ⟨65, _⟩ => ⟨S32x128x384, .i1⟩
  | .hbm, ⟨66, _⟩ => ⟨S_, .i32⟩
  | .hbm, ⟨67, _⟩ => ⟨S32x1x384, .i32⟩
  | .hbm, ⟨68, _⟩ => ⟨S32x1x384, .i1⟩
  | .hbm, ⟨69, _⟩ => ⟨S32x128x384, .i1⟩
  | .hbm, ⟨70, _⟩ => ⟨S32x128x384, .i1⟩
  | .hbm, ⟨71, _⟩ => ⟨S1x32x1x1x128x384, .i1⟩
  | .hbm, ⟨72, _⟩ => ⟨S_, .f32⟩
  | .hbm, ⟨73, _⟩ => ⟨S_, .f32⟩
  | .hbm, ⟨74, _⟩ => ⟨S4x32x2x4x128x384, .i1⟩
  | .hbm, ⟨75, _⟩ => ⟨S4x32x2x4x128x384, .f32⟩
  | .hbm, ⟨76, _⟩ => ⟨S4x32x2x4x128x384, .f32⟩
  | .hbm, ⟨77, _⟩ => ⟨S4x2x256x32x128x4, .f32⟩
  | .hbm, ⟨78, _⟩ => ⟨S4x32x2x4x128x256, .f32⟩
  | .hbm, ⟨79, _⟩ => ⟨S_, .f32⟩
  | .hbm, ⟨80, _⟩ => ⟨S4x32x2x4x128x256, .f32⟩
  | .hbm, ⟨81, _⟩ => ⟨S4x32x2x4x128x256, .f32⟩
  | .hbm, ⟨82, _⟩ => ⟨S2x4, .f32⟩
  | .hbm, ⟨83, _⟩ => ⟨S1x1x2x4x1x1, .f32⟩
  | .hbm, ⟨84, _⟩ => ⟨S4x32x2x4x128x1, .f32⟩
  | .hbm, ⟨85, _⟩ => ⟨S4x32x2x4x128x641, .f32⟩
  | .hbm, ⟨86, _⟩ => ⟨S_, .f32⟩
  | .hbm, ⟨87, _⟩ => ⟨S4x32x2x4x128, .f32⟩
  | .hbm, ⟨88, _⟩ => ⟨S_, .f32⟩
  | .hbm, ⟨89, _⟩ => ⟨S4x32x2x4x128, .f32⟩
  | .hbm, ⟨90, _⟩ => ⟨S4x32x2x4x128, .f32⟩
  | .hbm, ⟨91, _⟩ => ⟨S4x32x2x4x128x1, .f32⟩
  | .hbm, ⟨92, _⟩ => ⟨S4x32x2x4x128x641, .f32⟩
  | .hbm, ⟨93, _⟩ => ⟨S4x32x2x4x128x641, .f32⟩
  | .hbm, ⟨94, _⟩ => ⟨S4x32x2x4x128x641, .f32⟩
  | .hbm, ⟨95, _⟩ => ⟨S_, .f32⟩
  | .hbm, ⟨96, _⟩ => ⟨S4x32x2x4x128, .f32⟩
  | .hbm, ⟨97, _⟩ => ⟨S4x32x2x4x128x1, .f32⟩
  | .hbm, ⟨98, _⟩ => ⟨S4x32x2x4x128x641, .f32⟩
  | .hbm, ⟨99, _⟩ => ⟨S4x32x2x4x128x641, .f32⟩
  | .hbm, ⟨100, _⟩ => ⟨S4x32x2x4x128x384, .f32⟩
  | .hbm, ⟨101, _⟩ => ⟨S4x32x2x64x4x128, .f32⟩
  | .hbm, ⟨102, _⟩ => ⟨S4x32x128x2x4x64, .f32⟩
  | .hbm, ⟨103, _⟩ => ⟨S4x32x2x4x128x256, .f32⟩
  | .hbm, ⟨104, _⟩ => ⟨S4x2x64x32x4x128, .f32⟩
  | .hbm, ⟨105, _⟩ => ⟨S4x32x128x2x4x64, .f32⟩
  | .hbm, ⟨106, _⟩ => ⟨S4x32x128x2x4x64, .f32⟩
  | .hbm, ⟨107, _⟩ => ⟨S4x4096x512, .f32⟩
  | .hbm, ⟨108, _⟩ => ⟨S4x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_2 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== KernelFfn.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnIdeal.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1024 : Shape := ⟨1, ![1024]⟩
abbrev S4x9x1024 : Shape := ⟨3, ![4, 9, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x5632 : Shape := ⟨3, ![4, 4096, 5632]⟩
abbrev S4x4096x2816 : Shape := ⟨3, ![4, 4096, 2816]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x9x1024, .f32⟩
  | .hbm, ⟨7, _⟩ => ⟨S1x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1024, .f32⟩
  | .hbm, ⟨26, _⟩ => ⟨S4x1024, .f32⟩
  | .hbm, ⟨27, _⟩ => ⟨S4x1x1024, .f32⟩
  | .hbm, ⟨28, _⟩ => ⟨S4x1x1024, .f32⟩
  | .hbm, ⟨29, _⟩ => ⟨S4x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x4096x5632, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S_, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S1x1x1024, .f32⟩
  | .hbm, ⟨75, _⟩ => ⟨S4x4096x1024, .f32⟩
  | .hbm, ⟨76, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== KernelFfnFirst.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnFirstIdeal.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S4x9x1024 : Shape := ⟨3, ![4, 9, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x5632 : Shape := ⟨3, ![4, 4096, 5632]⟩
abbrev S4x4096x2816 : Shape := ⟨3, ![4, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S4x9x1024, .f32⟩
  | .hbm, ⟨6, _⟩ => ⟨S1x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S4x1024, .f32⟩
  | .hbm, ⟨39, _⟩ => ⟨S4x1x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x4096x5632, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== KernelFfnSecond.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnSecondIdeal.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S4x9x1024 : Shape := ⟨3, ![4, 9, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x5632 : Shape := ⟨3, ![4, 4096, 5632]⟩
abbrev S4x4096x2816 : Shape := ⟨3, ![4, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S4x9x1024, .f32⟩
  | .hbm, ⟨6, _⟩ => ⟨S1x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S4x1024, .f32⟩
  | .hbm, ⟨39, _⟩ => ⟨S4x1x1024, .f32⟩
  | .hbm, ⟨40, _⟩ => ⟨S_, .f32⟩
  | .hbm, ⟨41, _⟩ => ⟨S4x1x1024, .f32⟩
  | .hbm, ⟨42, _⟩ => ⟨S4x1x1024, .f32⟩
  | .hbm, ⟨43, _⟩ => ⟨S4x4096x5632, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S_, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== KernelFfnContext.lean ====
abbrev S4x256x1024 : Shape := ⟨3, ![4, 256, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x256x1024 : Shape := ⟨3, ![1, 256, 1024]⟩
abbrev S1x9x1024 : Shape := ⟨3, ![1, 9, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnContextIdeal.lean ====
abbrev S4x256x1024 : Shape := ⟨3, ![4, 256, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x9x1024 : Shape := ⟨3, ![1, 9, 1024]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x5632 : Shape := ⟨3, ![4, 256, 5632]⟩
abbrev S4x256x2816 : Shape := ⟨3, ![4, 256, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1x9x1024, .f32⟩
  | .hbm, ⟨6, _⟩ => ⟨S1x1024, .f32⟩
  | .hbm, ⟨7, _⟩ => ⟨S1024, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S1x1x1024, .f32⟩
  | .hbm, ⟨25, _⟩ => ⟨S1x1024, .f32⟩
  | .hbm, ⟨26, _⟩ => ⟨S1x1x1024, .f32⟩
  | .hbm, ⟨27, _⟩ => ⟨S1x1x1024, .f32⟩
  | .hbm, ⟨28, _⟩ => ⟨S1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S4x256x5632, .f32⟩
  | .hbm, ⟨44, _⟩ => ⟨S4x256x2816, .f32⟩
  | .hbm, ⟨45, _⟩ => ⟨S4x256x2816, .f32⟩
  | .hbm, ⟨46, _⟩ => ⟨S4x256x2816, .f32⟩
  | .hbm, ⟨47, _⟩ => ⟨S4x256x2816, .f32⟩
  | .hbm, ⟨48, _⟩ => ⟨S_, .f32⟩
  | .hbm, ⟨49, _⟩ => ⟨S4x256x2816, .f32⟩
  | .hbm, ⟨50, _⟩ => ⟨S4x256x2816, .f32⟩
  | .hbm, ⟨51, _⟩ => ⟨S_, .f32⟩
  | .hbm, ⟨52, _⟩ => ⟨S4x256x2816, .f32⟩
  | .hbm, ⟨53, _⟩ => ⟨S4x256x2816, .f32⟩
  | .hbm, ⟨54, _⟩ => ⟨S4x256x2816, .f32⟩
  | .hbm, ⟨55, _⟩ => ⟨S4x256x2816, .f32⟩
  | .hbm, ⟨56, _⟩ => ⟨S4x256x1024, .f32⟩
  | .hbm, ⟨57, _⟩ => ⟨S4x256x1024, .f32⟩
  | .hbm, ⟨58, _⟩ => ⟨S4x256x1024, .f32⟩
  | .hbm, ⟨59, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== KernelOut.lean ====
abbrev S4x4096x1024 : Shape := ⟨3, ![4, 4096, 1024]⟩
abbrev S8x9x1024 : Shape := ⟨3, ![8, 9, 1024]⟩
abbrev S4x4096x256 : Shape := ⟨3, ![4, 4096, 256]⟩
abbrev S4x4096x512 : Shape := ⟨3, ![4, 4096, 512]⟩
abbrev S1024x1024 : Shape := ⟨2, ![1024, 1024]⟩
abbrev S256x1024 : Shape := ⟨2, ![256, 1024]⟩
abbrev S512x1024 : Shape := ⟨2, ![512, 1024]⟩
abbrev S1x512x1024 : Shape := ⟨3, ![1, 512, 1024]⟩
abbrev S1x9x1024 : Shape := ⟨3, ![1, 9, 1024]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 16
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S4x4096x256, .f32⟩
  | .hbm, ⟨3, _⟩ => ⟨S4x4096x512, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S1024x1024, .f32⟩
  | .hbm, ⟨8, _⟩ => ⟨S1024x1024, .bf16⟩
  | .hbm, ⟨9, _⟩ => ⟨S4x4096x256, .bf16⟩
  | .hbm, ⟨10, _⟩ => ⟨S4x4096x512, .bf16⟩
  | .hbm, ⟨11, _⟩ => ⟨S4x4096x256, .bf16⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .bf16⟩
  | .local _ .vmem, ⟨13, _⟩ => ⟨S1x512x256, .bf16⟩
  | .local _ .vmem, ⟨14, _⟩ => ⟨S256x1024, .bf16⟩
  | .local _ .vmem, ⟨15, _⟩ => ⟨S512x1024, .bf16⟩
  | .local _ .vmem, ⟨16, _⟩ => ⟨S256x1024, .bf16⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOutIdeal.lean ====
abbrev S4x4096x1024 : Shape := ⟨3, ![4, 4096, 1024]⟩
abbrev S8x9x1024 : Shape := ⟨3, ![8, 9, 1024]⟩
abbrev S4x4096x256 : Shape := ⟨3, ![4, 4096, 256]⟩
abbrev S4x4096x512 : Shape := ⟨3, ![4, 4096, 512]⟩
abbrev S1024x1024 : Shape := ⟨2, ![1024, 1024]⟩
abbrev S4x1x1024 : Shape := ⟨3, ![4, 1, 1024]⟩
abbrev S4x1024 : Shape := ⟨2, ![4, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S4x4096x256, .f32⟩
  | .hbm, ⟨3, _⟩ => ⟨S4x4096x512, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S1024x1024, .f32⟩
  | .hbm, ⟨8, _⟩ => ⟨S4x4096x256, .f32⟩
  | .hbm, ⟨9, _⟩ => ⟨S4x4096x256, .f32⟩
  | .hbm, ⟨10, _⟩ => ⟨S4x4096x1024, .f32⟩
  | .hbm, ⟨11, _⟩ => ⟨S4x4096x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== KernelDft.lean ====
abbrev S4096x4096 : Shape := ⟨2, ![4096, 4096]⟩
abbrev S4x4096x512 : Shape := ⟨3, ![4, 4096, 512]⟩
abbrev S4x4096x256 : Shape := ⟨3, ![4, 4096, 256]⟩
abbrev S512x4096 : Shape := ⟨2, ![512, 4096]⟩
abbrev S1x4096x512 : Shape := ⟨3, ![1, 4096, 512]⟩
abbrev S1x512x256 : Shape := ⟨3, ![1, 512, 256]⟩
abbrev S1x4096x256 : Shape := ⟨3, ![1, 4096, 256]⟩
abbrev S4096x256 : Shape := ⟨2, ![4096, 256]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4x4096x512, .f32⟩
  | .hbm, ⟨3, _⟩ => ⟨S4096x4096, .bf16⟩
  | .hbm, ⟨4, _⟩ => ⟨S4096x4096, .bf16⟩
  | .hbm, ⟨5, _⟩ => ⟨S4x4096x512, .bf16⟩
  | .hbm, ⟨6, _⟩ => ⟨S4x4096x256, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x256, .bf16⟩
  | .local _ .vmem, ⟨7, _⟩ => ⟨S1x512x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDftIdeal.lean ====
abbrev S4096x4096 : Shape := ⟨2, ![4096, 4096]⟩
abbrev S4x4096x512 : Shape := ⟨3, ![4, 4096, 512]⟩
abbrev S4x4096x256 : Shape := ⟨3, ![4, 4096, 256]⟩
abbrev S4x256x4096 : Shape := ⟨3, ![4, 256, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4x4096x512, .f32⟩
  | .hbm, ⟨3, _⟩ => ⟨S4x4096x256, .f32⟩
  | .hbm, ⟨4, _⟩ => ⟨S4x4096x256, .f32⟩
  | .hbm, ⟨5, _⟩ => ⟨S4x256x4096, .f32⟩
  | .hbm, ⟨6, _⟩ => ⟨S4x4096x256, .f32⟩
  | .hbm, ⟨7, _⟩ => ⟨S4x256x4096, .f32⟩
  | .hbm, ⟨8, _⟩ => ⟨S4x4096x256, .f32⟩
  | .hbm, ⟨9, _⟩ => ⟨S4x4096x256, .f32⟩
  | .hbm, ⟨10, _⟩ => ⟨S4x4096x256, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelFfnContextSecond.lean ====
abbrev S4x256x1024 : Shape := ⟨3, ![4, 256, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x256x1024 : Shape := ⟨3, ![1, 256, 1024]⟩
abbrev S1x9x1024 : Shape := ⟨3, ![1, 9, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFfnContextSecondIdeal.lean ====
abbrev S4x256x1024 : Shape := ⟨3, ![4, 256, 1024]⟩
abbrev S8x9x1024 : Shape := ⟨3, ![8, 9, 1024]⟩
abbrev S3x1024 : Shape := ⟨2, ![3, 1024]⟩
abbrev S1024x5632 : Shape := ⟨2, ![1024, 5632]⟩
abbrev S2816x1024 : Shape := ⟨2, ![2816, 1024]⟩
abbrev S1x9x1024 : Shape := ⟨3, ![1, 9, 1024]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x5632 : Shape := ⟨3, ![4, 256, 5632]⟩
abbrev S4x256x2816 : Shape := ⟨3, ![4, 256, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1x9x1024, .f32⟩
  | .hbm, ⟨6, _⟩ => ⟨S1x1024, .f32⟩
  | .hbm, ⟨7, _⟩ => ⟨S1024, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S1x1x1024, .f32⟩
  | .hbm, ⟨25, _⟩ => ⟨S1x1024, .f32⟩
  | .hbm, ⟨26, _⟩ => ⟨S1x1x1024, .f32⟩
  | .hbm, ⟨27, _⟩ => ⟨S1x1x1024, .f32⟩
  | .hbm, ⟨28, _⟩ => ⟨S1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S4x256x5632, .f32⟩
  | .hbm, ⟨44, _⟩ => ⟨S4x256x2816, .f32⟩
  | .hbm, ⟨45, _⟩ => ⟨S4x256x2816, .f32⟩
  | .hbm, ⟨46, _⟩ => ⟨S4x256x2816, .f32⟩
  | .hbm, ⟨47, _⟩ => ⟨S4x256x2816, .f32⟩
  | .hbm, ⟨48, _⟩ => ⟨S_, .f32⟩
  | .hbm, ⟨49, _⟩ => ⟨S4x256x2816, .f32⟩
  | .hbm, ⟨50, _⟩ => ⟨S4x256x2816, .f32⟩
  | .hbm, ⟨51, _⟩ => ⟨S_, .f32⟩
  | .hbm, ⟨52, _⟩ => ⟨S4x256x2816, .f32⟩
  | .hbm, ⟨53, _⟩ => ⟨S4x256x2816, .f32⟩
  | .hbm, ⟨54, _⟩ => ⟨S4x256x2816, .f32⟩
  | .hbm, ⟨55, _⟩ => ⟨S4x256x2816, .f32⟩
  | .hbm, ⟨56, _⟩ => ⟨S4x256x1024, .f32⟩
  | .hbm, ⟨57, _⟩ => ⟨S4x256x1024, .f32⟩
  | .hbm, ⟨58, _⟩ => ⟨S4x256x1024, .f32⟩
  | .hbm, ⟨59, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== KernelOutContext.lean ====
abbrev S4x256x1024 : Shape := ⟨3, ![4, 256, 1024]⟩
abbrev S8x9x1024 : Shape := ⟨3, ![8, 9, 1024]⟩
abbrev S4x256x256 : Shape := ⟨3, ![4, 256, 256]⟩
abbrev S4x256x512 : Shape := ⟨3, ![4, 256, 512]⟩
abbrev S1024x1024 : Shape := ⟨2, ![1024, 1024]⟩
abbrev S256x1024 : Shape := ⟨2, ![256, 1024]⟩
abbrev S512x1024 : Shape := ⟨2, ![512, 1024]⟩
abbrev S1x256x1024 : Shape := ⟨3, ![1, 256, 1024]⟩
abbrev S1x9x1024 : Shape := ⟨3, ![1, 9, 1024]⟩
abbrev S1x256x256 : Shape := ⟨3, ![1, 256, 256]⟩
abbrev S1x256x512 : Shape := ⟨3, ![1, 256, 512]⟩
abbrev S256x256 : Shape := ⟨2, ![256, 256]⟩
abbrev S256x512 : Shape := ⟨2, ![256, 512]⟩
abbrev S1x1x1024 : Shape := ⟨3, ![1, 1, 1024]⟩
abbrev S1x1024 : Shape := ⟨2, ![1, 1024]⟩

abbrev nBuf : Space → Nat
  | .hbm => 16
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S4x256x256, .f32⟩
  | .hbm, ⟨3, _⟩ => ⟨S4x256x512, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S1024x1024, .f32⟩
  | .hbm, ⟨8, _⟩ => ⟨S1024x1024, .bf16⟩
  | .hbm, ⟨9, _⟩ => ⟨S4x256x256, .bf16⟩
  | .hbm, ⟨10, _⟩ => ⟨S4x256x512, .bf16⟩
  | .hbm, ⟨11, _⟩ => ⟨S4x256x256, .bf16⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x256x256, .bf16⟩
  | .local _ .vmem, ⟨4, _⟩ => ⟨S1x256x256, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .bf16⟩
  | .local _ .vmem, ⟨12, _⟩ => ⟨S1x256x256, .bf16⟩
  | .local _ .vmem, ⟨13, _⟩ => ⟨S256x1024, .bf16⟩
  | .local _ .vmem, ⟨14, _⟩ => ⟨S512x1024, .bf16⟩
  | .local _ .vmem, ⟨15, _⟩ => ⟨S256x1024, .bf16⟩
  | .local _ .vmem, ⟨16, _⟩ => ⟨S1x256x1024, .f32⟩
  | .local _ .vmem, ⟨17, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceOutContextIdeal.lean ====
abbrev S4x256x1024 : Shape := ⟨3, ![4, 256, 1024]⟩
abbrev S8x9x1024 : Shape := ⟨3, ![8, 9, 1024]⟩
abbrev S4x256x256 : Shape := ⟨3, ![4, 256, 256]⟩
abbrev S4x256x512 : Shape := ⟨3, ![4, 256, 512]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x9x1024, .f32⟩
  | .hbm, ⟨2, _⟩ => ⟨S4x256x256, .f32⟩
  | .hbm, ⟨3, _⟩ => ⟨S4x256x512, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S1024x1024, .f32⟩
  | .hbm, ⟨8, _⟩ => ⟨S4x256x256, .f32⟩
  | .hbm, ⟨9, _⟩ => ⟨S4x256x256, .f32⟩
  | .hbm, ⟨10, _⟩ => ⟨S4x256x1024, .f32⟩
  | .hbm, ⟨11, _⟩ => ⟨S4x256x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S4x256x1024, .f32⟩
  | .hbm, ⟨16, _⟩ => ⟨S4x256x1024, .f32⟩
  | .hbm, ⟨17, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== KernelInMix.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x512 : Shape := ⟨2, ![1024, 512]⟩
abbrev S1024x2064 : Shape := ⟨2, ![1024, 2064]⟩
abbrev S2x4 : Shape := ⟨2, ![2, 4]⟩
abbrev S3x512 : Shape := ⟨2, ![3, 512]⟩
abbrev S4096x64 : Shape := ⟨2, ![4096, 64]⟩
abbrev S1024x1792 : Shape := ⟨2, ![1024, 1792]⟩
abbrev S1024x16 : Shape := ⟨2, ![1024, 16]⟩
abbrev S_ : Shape := ⟨0, ![]⟩
abbrev S1024x112 : Shape := ⟨2, ![1024, 112]⟩
abbrev S1024x2432 : Shape := ⟨2, ![1024, 2432]⟩
abbrev S8 : Shape := ⟨1, ![8]⟩
abbrev S16 : Shape := ⟨1, ![16]⟩
abbrev S128 : Shape := ⟨1, ![128]⟩
abbrev S1x128 : Shape := ⟨2, ![1, 128]⟩
abbrev S64 : Shape := ⟨1, ![64]⟩
abbrev S16x1024 : Shape := ⟨2, ![16, 1024]⟩
abbrev S16x1 : Shape := ⟨2, ![16, 1]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S4x4096x512 : Shape := ⟨3, ![4, 4096, 512]⟩
abbrev S4x4096x256 : Shape := ⟨3, ![4, 4096, 256]⟩
abbrev S4x4096x128 : Shape := ⟨3, ![4, 4096, 128]⟩
abbrev S4x16x4096 : Shape := ⟨3, ![4, 16, 4096]⟩
abbrev S1x512x1024 : Shape := ⟨3, ![1, 512, 1024]⟩
abbrev S1x8x1024 : Shape := ⟨3, ![1, 8, 1024]⟩
abbrev S1x9x1024 : Shape := ⟨3, ![1, 9, 1024]⟩
abbrev S512x128 : Shape := ⟨2, ![512, 128]⟩
abbrev S1x512x512 : Shape := ⟨3, ![1, 512, 512]⟩
abbrev S1x512x256 : Shape := ⟨3, ![1, 512, 256]⟩
abbrev S1x512x128 : Shape := ⟨3, ![1, 512, 128]⟩
abbrev S1x16x512 : Shape := ⟨3, ![1, 16, 512]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2432 : Shape := ⟨2, ![512, 2432]⟩
abbrev S512x512 : Shape := ⟨2, ![512, 512]⟩
abbrev S8x1024 : Shape := ⟨2, ![8, 1024]⟩
abbrev S16x512 : Shape := ⟨2, ![16, 512]⟩
abbrev S1x512 : Shape := ⟨2, ![1, 512]⟩
abbrev S512x256 : Shape := ⟨2, ![512, 256]⟩

abbrev nBuf : Space → Nat
  | .hbm => 58
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x512, .f32⟩
  | .hbm, ⟨4, _⟩ => ⟨S1024x2064, .f32⟩
  | .hbm, ⟨5, _⟩ => ⟨S2x4, .f32⟩
  | .hbm, ⟨6, _⟩ => ⟨S2x4, .f32⟩
  | .hbm, ⟨7, _⟩ => ⟨S3x512, .f32⟩
  | .hbm, ⟨8, _⟩ => ⟨S4096x64, .f32⟩
  | .hbm, ⟨9, _⟩ => ⟨S4096x64, .f32⟩
  | .hbm, ⟨10, _⟩ => ⟨S1024x1792, .f32⟩
  | .hbm, ⟨11, _⟩ => ⟨S1024x16, .f32⟩
  | .hbm, ⟨12, _⟩ => ⟨S_, .f32⟩
  | .hbm, ⟨13, _⟩ => ⟨S1024x112, .f32⟩
  | .hbm, ⟨14, _⟩ => ⟨S1024x2432, .f32⟩
  | .hbm, ⟨15, _⟩ => ⟨S1024x2432, .bf16⟩
  | .hbm, ⟨16, _⟩ => ⟨S8, .f32⟩
  | .hbm, ⟨17, _⟩ => ⟨S8, .f32⟩
  | .hbm, ⟨18, _⟩ => ⟨S16, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S16x1024, .f32⟩
  | .hbm, ⟨37, _⟩ => ⟨S16x1024, .bf16⟩
  | .hbm, ⟨38, _⟩ => ⟨S16x1, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x64, .f32⟩
  | .hbm, ⟨43, _⟩ => ⟨S4096x64, .f32⟩
  | .hbm, ⟨44, _⟩ => ⟨S4096x64, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S4x4096x512, .bf16⟩
  | .hbm, ⟨49, _⟩ => ⟨S4x4096x512, .bf16⟩
  | .hbm, ⟨50, _⟩ => ⟨S4x4096x256, .bf16⟩
  | .hbm, ⟨51, _⟩ => ⟨S4x4096x256, .bf16⟩
  | .hbm, ⟨52, _⟩ => ⟨S4x4096x256, .bf16⟩
  | .hbm, ⟨53, _⟩ => ⟨S4x4096x256, .bf16⟩
  | .hbm, ⟨54, _⟩ => ⟨S4x4096x256, .bf16⟩
  | .hbm, ⟨55, _⟩ => ⟨S4x4096x256, .bf16⟩
  | .hbm, ⟨56, _⟩ => ⟨S4x4096x128, .f32⟩
  | .hbm, ⟨57, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x9x1024, .f32⟩
  | .local _ .vmem, ⟨7, _⟩ => ⟨S1x9x1024, .f32⟩
  | .local _ .vmem, ⟨8, _⟩ => ⟨S3x1024, .f32⟩
  | .local _ .vmem, ⟨9, _⟩ => ⟨S1024x2432, .bf16⟩
  | .local _ .vmem, ⟨10, _⟩ => ⟨S16x1024, .bf16⟩
  | .local _ .vmem, ⟨11, _⟩ => ⟨S1x128, .f32⟩
  | .local _ .vmem, ⟨12, _⟩ => ⟨S16x1, .f32⟩
  | .local _ .vmem, ⟨13, _⟩ => ⟨S3x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x128, .f32⟩
  | .local _ .vmem, ⟨35, _⟩ => ⟨S1x512x128, .f32⟩
  | .local _ .vmem, ⟨36, _⟩ => ⟨S1x16x512, .f32⟩
  | .local _ .vmem, ⟨37, _⟩ => ⟨S1x16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_v29_4 : Ref sig .tc := ⟨.hbm, 52, rfl⟩
abbrev main_v29_5 : Ref sig .tc := ⟨.hbm, 53, rfl⟩
abbrev main_v29_6 : Ref sig .tc := ⟨.hbm, 54, rfl⟩
abbrev main_v29_7 : Ref sig .tc := ⟨.hbm, 55, rfl⟩
abbrev main_v29_8 : Ref sig .tc := ⟨.hbm, 56, rfl⟩
abbrev main_v29_9 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceInMixIdeal.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x512 : Shape := ⟨2, ![1024, 512]⟩
abbrev S1024x2064 : Shape := ⟨2, ![1024, 2064]⟩
abbrev S2x4 : Shape := ⟨2, ![2, 4]⟩
abbrev S3x512 : Shape := ⟨2, ![3, 512]⟩
abbrev S4096x64 : Shape := ⟨2, ![4096, 64]⟩
abbrev S4x9x1024 : Shape := ⟨3, ![4, 9, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x2064 : Shape := ⟨3, ![4, 4096, 2064]⟩
abbrev S4x4096x256 : Shape := ⟨3, ![4, 4096, 256]⟩
abbrev S4x4096x512 : Shape := ⟨3, ![4, 4096, 512]⟩
abbrev S4x4096x128 : Shape := ⟨3, ![4, 4096, 128]⟩
abbrev S4x4096x1040 : Shape := ⟨3, ![4, 4096, 1040]⟩
abbrev S4x4096x8x64 : Shape := ⟨4, ![4, 4096, 8, 64]⟩
abbrev S4x4096x8x16 : Shape := ⟨4, ![4, 4096, 8, 16]⟩
abbrev S4096x1x64 : Shape := ⟨3, ![4096, 1, 64]⟩
abbrev S1x4096x1x64 : Shape := ⟨4, ![1, 4096, 1, 64]⟩
abbrev S4x4096x2x64 : Shape := ⟨4, ![4, 4096, 2, 64]⟩
abbrev S4x4096x2x16 : Shape := ⟨4, ![4, 4096, 2, 16]⟩
abbrev S4x4096x2x128 : Shape := ⟨4, ![4, 4096, 2, 128]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x512, .f32⟩
  | .hbm, ⟨4, _⟩ => ⟨S1024x2064, .f32⟩
  | .hbm, ⟨5, _⟩ => ⟨S2x4, .f32⟩
  | .hbm, ⟨6, _⟩ => ⟨S2x4, .f32⟩
  | .hbm, ⟨7, _⟩ => ⟨S3x512, .f32⟩
  | .hbm, ⟨8, _⟩ => ⟨S4096x64, .f32⟩
  | .hbm, ⟨9, _⟩ => ⟨S4096x64, .f32⟩
  | .hbm, ⟨10, _⟩ => ⟨S4x9x1024, .f32⟩
  | .hbm, ⟨11, _⟩ => ⟨S1x1024, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x1x1024, .f32⟩
  | .hbm, ⟨33, _⟩ => ⟨S4x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x2064, .f32⟩
  | .hbm, ⟨43, _⟩ => ⟨S4x4096x256, .f32⟩
  | .hbm, ⟨44, _⟩ => ⟨S4x4096x512, .f32⟩
  | .hbm, ⟨45, _⟩ => ⟨S4x4096x128, .f32⟩
  | .hbm, ⟨46, _⟩ => ⟨S4x4096x128, .f32⟩
  | .hbm, ⟨47, _⟩ => ⟨S4x4096x1040, .f32⟩
  | .hbm, ⟨48, _⟩ => ⟨S4x4096x8x64, .f32⟩
  | .hbm, ⟨49, _⟩ => ⟨S4x4096x8x16, .f32⟩
  | .hbm, ⟨50, _⟩ => ⟨S4x4096x8x16, .f32⟩
  | .hbm, ⟨51, _⟩ => ⟨S4x4096x8x16, .f32⟩
  | .hbm, ⟨52, _⟩ => ⟨S4x4096x8x16, .f32⟩
  | .hbm, ⟨53, _⟩ => ⟨S4x4096x8x16, .f32⟩
  | .hbm, ⟨54, _⟩ => ⟨S4x4096x8x16, .f32⟩
  | .hbm, ⟨55, _⟩ => ⟨S4x4096x8x64, .f32⟩
  | .hbm, ⟨56, _⟩ => ⟨S4096x1x64, .f32⟩
  | .hbm, ⟨57, _⟩ => ⟨S1x4096x1x64, .f32⟩
  | .hbm, ⟨58, _⟩ => ⟨S4x4096x8x64, .f32⟩
  | .hbm, ⟨59, _⟩ => ⟨S4x4096x8x64, .f32⟩
  | .hbm, ⟨60, _⟩ => ⟨S4096x1x64, .f32⟩
  | .hbm, ⟨61, _⟩ => ⟨S1x4096x1x64, .f32⟩
  | .hbm, ⟨62, _⟩ => ⟨S4x4096x8x64, .f32⟩
  | .hbm, ⟨63, _⟩ => ⟨S4x4096x8x64, .f32⟩
  | .hbm, ⟨64, _⟩ => ⟨S4x4096x8x64, .f32⟩
  | .hbm, ⟨65, _⟩ => ⟨S4x4096x512, .f32⟩
  | .hbm, ⟨66, _⟩ => ⟨S4x4096x2x64, .f32⟩
  | .hbm, ⟨67, _⟩ => ⟨S4x4096x2x16, .f32⟩
  | .hbm, ⟨68, _⟩ => ⟨S4x4096x2x16, .f32⟩
  | .hbm, ⟨69, _⟩ => ⟨S4x4096x2x16, .f32⟩
  | .hbm, ⟨70, _⟩ => ⟨S4x4096x2x16, .f32⟩
  | .hbm, ⟨71, _⟩ => ⟨S4x4096x2x16, .f32⟩
  | .hbm, ⟨72, _⟩ => ⟨S4x4096x2x16, .f32⟩
  | .hbm, ⟨73, _⟩ => ⟨S4x4096x2x64, .f32⟩
  | .hbm, ⟨74, _⟩ => ⟨S4096x1x64, .f32⟩
  | .hbm, ⟨75, _⟩ => ⟨S1x4096x1x64, .f32⟩
  | .hbm, ⟨76, _⟩ => ⟨S4x4096x2x64, .f32⟩
  | .hbm, ⟨77, _⟩ => ⟨S4x4096x2x64, .f32⟩
  | .hbm, ⟨78, _⟩ => ⟨S4096x1x64, .f32⟩
  | .hbm, ⟨79, _⟩ => ⟨S1x4096x1x64, .f32⟩
  | .hbm, ⟨80, _⟩ => ⟨S4x4096x2x64, .f32⟩
  | .hbm, ⟨81, _⟩ => ⟨S4x4096x2x64, .f32⟩
  | .hbm, ⟨82, _⟩ => ⟨S4x4096x2x64, .f32⟩
  | .hbm, ⟨83, _⟩ => ⟨S4x4096x2x64, .f32⟩
  | .hbm, ⟨84, _⟩ => ⟨S4x4096x512, .f32⟩
  | .hbm, ⟨85, _⟩ => ⟨S4x4096x512, .bf16⟩
  | .hbm, ⟨86, _⟩ => ⟨S_, .f32⟩
  | .hbm, ⟨87, _⟩ => ⟨S4x4096x512, .f32⟩
  | .hbm, ⟨88, _⟩ => ⟨S4x4096x512, .f32⟩
  | .hbm, ⟨89, _⟩ => ⟨S4x4096x512, .bf16⟩
  | .hbm, ⟨90, _⟩ => ⟨S4x4096x2x128, .f32⟩
  | .hbm, ⟨91, _⟩ => ⟨S4x4096x256, .f32⟩
  | .hbm, ⟨92, _⟩ => ⟨S4x4096x256, .bf16⟩
  | .hbm, ⟨93, _⟩ => ⟨S4x4096x2x128, .f32⟩
  | .hbm, ⟨94, _⟩ => ⟨S4x4096x256, .f32⟩
  | .hbm, ⟨95, _⟩ => ⟨S4x4096x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_3 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩

abbrev nD : Nat := 1
abbrev τ : Topo := Topo.v7x

variable {F : FTy → Type} [FloatOps F]
-- ==== KernelInCell.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x512 : Shape := ⟨2, ![1024, 512]⟩
abbrev S1024x2064 : Shape := ⟨2, ![1024, 2064]⟩
abbrev S2x4 : Shape := ⟨2, ![2, 4]⟩
abbrev S3x512 : Shape := ⟨2, ![3, 512]⟩
abbrev S4096x64 : Shape := ⟨2, ![4096, 64]⟩
abbrev S1024x1792 : Shape := ⟨2, ![1024, 1792]⟩
abbrev S1024x16 : Shape := ⟨2, ![1024, 16]⟩
abbrev S_ : Shape := ⟨0, ![]⟩
abbrev S1024x112 : Shape := ⟨2, ![1024, 112]⟩
abbrev S1024x2432 : Shape := ⟨2, ![1024, 2432]⟩
abbrev S8 : Shape := ⟨1, ![8]⟩
abbrev S16 : Shape := ⟨1, ![16]⟩
abbrev S128 : Shape := ⟨1, ![128]⟩
abbrev S1x128 : Shape := ⟨2, ![1, 128]⟩
abbrev S64 : Shape := ⟨1, ![64]⟩
abbrev S16x1024 : Shape := ⟨2, ![16, 1024]⟩
abbrev S16x1 : Shape := ⟨2, ![16, 1]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S4x4096x512 : Shape := ⟨3, ![4, 4096, 512]⟩
abbrev S4x4096x256 : Shape := ⟨3, ![4, 4096, 256]⟩
abbrev S4x4096x128 : Shape := ⟨3, ![4, 4096, 128]⟩
abbrev S4x16x4096 : Shape := ⟨3, ![4, 16, 4096]⟩
abbrev S1x512x1024 : Shape := ⟨3, ![1, 512, 1024]⟩
abbrev S1x8x1024 : Shape := ⟨3, ![1, 8, 1024]⟩
abbrev S1x9x1024 : Shape := ⟨3, ![1, 9, 1024]⟩
abbrev S512x128 : Shape := ⟨2, ![512, 128]⟩
abbrev S1x512x512 : Shape := ⟨3, ![1, 512, 512]⟩
abbrev S1x512x256 : Shape := ⟨3, ![1, 512, 256]⟩
abbrev S1x512x128 : Shape := ⟨3, ![1, 512, 128]⟩
abbrev S1x16x512 : Shape := ⟨3, ![1, 16, 512]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2432 : Shape := ⟨2, ![512, 2432]⟩
abbrev S512x512 : Shape := ⟨2, ![512, 512]⟩
abbrev S8x1024 : Shape := ⟨2, ![8, 1024]⟩
abbrev S16x512 : Shape := ⟨2, ![16, 512]⟩
abbrev S1x512 : Shape := ⟨2, ![1, 512]⟩
abbrev S512x256 : Shape := ⟨2, ![512, 256]⟩

abbrev nBuf : Space → Nat
  | .hbm => 58
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x512, .f32⟩
  | .hbm, ⟨4, _⟩ => ⟨S1024x2064, .f32⟩
  | .hbm, ⟨5, _⟩ => ⟨S2x4, .f32⟩
  | .hbm, ⟨6, _⟩ => ⟨S2x4, .f32⟩
  | .hbm, ⟨7, _⟩ => ⟨S3x512, .f32⟩
  | .hbm, ⟨8, _⟩ => ⟨S4096x64, .f32⟩
  | .hbm, ⟨9, _⟩ => ⟨S4096x64, .f32⟩
  | .hbm, ⟨10, _⟩ => ⟨S1024x1792, .f32⟩
  | .hbm, ⟨11, _⟩ => ⟨S1024x16, .f32⟩
  | .hbm, ⟨12, _⟩ => ⟨S_, .f32⟩
  | .hbm, ⟨13, _⟩ => ⟨S1024x112, .f32⟩
  | .hbm, ⟨14, _⟩ => ⟨S1024x2432, .f32⟩
  | .hbm, ⟨15, _⟩ => ⟨S1024x2432, .bf16⟩
  | .hbm, ⟨16, _⟩ => ⟨S8, .f32⟩
  | .hbm, ⟨17, _⟩ => ⟨S8, .f32⟩
  | .hbm, ⟨18, _⟩ => ⟨S16, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S16x1024, .f32⟩
  | .hbm, ⟨37, _⟩ => ⟨S16x1024, .bf16⟩
  | .hbm, ⟨38, _⟩ => ⟨S16x1, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x64, .f32⟩
  | .hbm, ⟨43, _⟩ => ⟨S4096x64, .f32⟩
  | .hbm, ⟨44, _⟩ => ⟨S4096x64, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S4x4096x512, .bf16⟩
  | .hbm, ⟨49, _⟩ => ⟨S4x4096x512, .bf16⟩
  | .hbm, ⟨50, _⟩ => ⟨S4x4096x256, .bf16⟩
  | .hbm, ⟨51, _⟩ => ⟨S4x4096x256, .bf16⟩
  | .hbm, ⟨52, _⟩ => ⟨S4x4096x256, .bf16⟩
  | .hbm, ⟨53, _⟩ => ⟨S4x4096x256, .bf16⟩
  | .hbm, ⟨54, _⟩ => ⟨S4x4096x256, .bf16⟩
  | .hbm, ⟨55, _⟩ => ⟨S4x4096x256, .bf16⟩
  | .hbm, ⟨56, _⟩ => ⟨S4x4096x128, .f32⟩
  | .hbm, ⟨57, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x9x1024, .f32⟩
  | .local _ .vmem, ⟨7, _⟩ => ⟨S1x9x1024, .f32⟩
  | .local _ .vmem, ⟨8, _⟩ => ⟨S3x1024, .f32⟩
  | .local _ .vmem, ⟨9, _⟩ => ⟨S1024x2432, .bf16⟩
  | .local _ .vmem, ⟨10, _⟩ => ⟨S16x1024, .bf16⟩
  | .local _ .vmem, ⟨11, _⟩ => ⟨S1x128, .f32⟩
  | .local _ .vmem, ⟨12, _⟩ => ⟨S16x1, .f32⟩
  | .local _ .vmem, ⟨13, _⟩ => ⟨S3x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x128, .f32⟩
  | .local _ .vmem, ⟨35, _⟩ => ⟨S1x512x128, .f32⟩
  | .local _ .vmem, ⟨36, _⟩ => ⟨S1x16x512, .f32⟩
  | .local _ .vmem, ⟨37, _⟩ => ⟨S1x16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_v29_4 : Ref sig .tc := ⟨.hbm, 52, rfl⟩
abbrev main_v29_5 : Ref sig .tc := ⟨.hbm, 53, rfl⟩
abbrev main_v29_6 : Ref sig .tc := ⟨.hbm, 54, rfl⟩
abbrev main_v29_7 : Ref sig .tc := ⟨.hbm, 55, rfl⟩
abbrev main_v29_8 : Ref sig .tc := ⟨.hbm, 56, rfl⟩
abbrev main_v29_9 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceInCellIdeal.lean ====
abbrev S4x4096x1024 : Shape := ⟨3, ![4, 4096, 1024]⟩
abbrev S8x9x1024 : Shape := ⟨3, ![8, 9, 1024]⟩
abbrev S3x1024 : Shape := ⟨2, ![3, 1024]⟩
abbrev S1024x512 : Shape := ⟨2, ![1024, 512]⟩
abbrev S1024x2064 : Shape := ⟨2, ![1024, 2064]⟩
abbrev S2x4 : Shape := ⟨2, ![2, 4]⟩
abbrev S3x512 : Shape := ⟨2, ![3, 512]⟩
abbrev S4096x64 : Shape := ⟨2, ![4096, 64]⟩
abbrev S4x9x1024 : Shape := ⟨3, ![4, 9, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x4096x2064 : Shape := ⟨3, ![4, 4096, 2064]⟩
abbrev S4x4096x512 : Shape := ⟨3, ![4, 4096, 512]⟩
abbrev S4x4096x256 : Shape := ⟨3, ![4, 4096, 256]⟩
abbrev S4x4096x8 : Shape := ⟨3, ![4, 4096, 8]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S8 : Shape := ⟨1, ![8]⟩
abbrev S1x1x8 : Shape := ⟨3, ![1, 1, 8]⟩
abbrev S4x4096x16 : Shape := ⟨3, ![4, 4096, 16]⟩
abbrev S4x4096x128 : Shape := ⟨3, ![4, 4096, 128]⟩
abbrev S4x16x4096 : Shape := ⟨3, ![4, 16, 4096]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9x1024, .f32⟩
  | .hbm, ⟨2, _⟩ => ⟨S3x1024, .f32⟩
  | .hbm, ⟨3, _⟩ => ⟨S1024x512, .f32⟩
  | .hbm, ⟨4, _⟩ => ⟨S1024x2064, .f32⟩
  | .hbm, ⟨5, _⟩ => ⟨S2x4, .f32⟩
  | .hbm, ⟨6, _⟩ => ⟨S2x4, .f32⟩
  | .hbm, ⟨7, _⟩ => ⟨S3x512, .f32⟩
  | .hbm, ⟨8, _⟩ => ⟨S4096x64, .f32⟩
  | .hbm, ⟨9, _⟩ => ⟨S4096x64, .f32⟩
  | .hbm, ⟨10, _⟩ => ⟨S4x9x1024, .f32⟩
  | .hbm, ⟨11, _⟩ => ⟨S1x1024, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x1x1024, .f32⟩
  | .hbm, ⟨33, _⟩ => ⟨S4x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x2064, .f32⟩
  | .hbm, ⟨43, _⟩ => ⟨S4x4096x1024, .f32⟩
  | .hbm, ⟨44, _⟩ => ⟨S4x4096x512, .f32⟩
  | .hbm, ⟨45, _⟩ => ⟨S4x4096x256, .f32⟩
  | .hbm, ⟨46, _⟩ => ⟨S4x4096x256, .f32⟩
  | .hbm, ⟨47, _⟩ => ⟨S4x4096x8, .f32⟩
  | .hbm, ⟨48, _⟩ => ⟨S4x4096x8, .f32⟩
  | .hbm, ⟨49, _⟩ => ⟨S_, .i32⟩
  | .hbm, ⟨50, _⟩ => ⟨S_, .f32⟩
  | .hbm, ⟨51, _⟩ => ⟨S4x4098x512, .f32⟩
  | .hbm, ⟨52, _⟩ => ⟨S4x4096x512, .f32⟩
  | .hbm, ⟨53, _⟩ => ⟨S1x512, .f32⟩
  | .hbm, ⟨54, _⟩ => ⟨S512, .f32⟩
  | .hbm, ⟨55, _⟩ => ⟨S1x1x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S4x4096x512, .f32⟩
  | .hbm, ⟨63, _⟩ => ⟨S4x4096x512, .f32⟩
  | .hbm, ⟨64, _⟩ => ⟨S4x4096x512, .f32⟩
  | .hbm, ⟨65, _⟩ => ⟨S4x4096x512, .f32⟩
  | .hbm, ⟨66, _⟩ => ⟨S1x512, .f32⟩
  | .hbm, ⟨67, _⟩ => ⟨S512, .f32⟩
  | .hbm, ⟨68, _⟩ => ⟨S1x1x512, .f32⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S4x4096x512, .f32⟩
  | .hbm, ⟨74, _⟩ => ⟨S_, .f32⟩
  | .hbm, ⟨75, _⟩ => ⟨S4x4096x512, .f32⟩
  | .hbm, ⟨76, _⟩ => ⟨S4x4096x512, .f32⟩
  | .hbm, ⟨77, _⟩ => ⟨S_, .f32⟩
  | .hbm, ⟨78, _⟩ => ⟨S4x4096x512, .f32⟩
  | .hbm, ⟨79, _⟩ => ⟨S4x4096x512, .f32⟩
  | .hbm, ⟨80, _⟩ => ⟨S4x4096x512, .f32⟩
  | .hbm, ⟨81, _⟩ => ⟨S4x4096x256, .f32⟩
  | .hbm, ⟨82, _⟩ => ⟨S4x4096x256, .f32⟩
  | .hbm, ⟨83, _⟩ => ⟨S8, .f32⟩
  | .hbm, ⟨84, _⟩ => ⟨S1x1x8, .f32⟩
  | .hbm, ⟨85, _⟩ => ⟨S4x4096x8, .f32⟩
  | .hbm, ⟨86, _⟩ => ⟨S4x4096x8, .f32⟩
  | .hbm, ⟨87, _⟩ => ⟨S8, .f32⟩
  | .hbm, ⟨88, _⟩ => ⟨S1x1x8, .f32⟩
  | .hbm, ⟨89, _⟩ => ⟨S4x4096x8, .f32⟩
  | .hbm, ⟨90, _⟩ => ⟨S4x4096x8, .f32⟩
  | .hbm, ⟨91, _⟩ => ⟨S4x4096x8, .f32⟩
  | .hbm, ⟨92, _⟩ => ⟨S_, .f32⟩
  | .hbm, ⟨93, _⟩ => ⟨S4x4096x8, .f32⟩
  | .hbm, ⟨94, _⟩ => ⟨S4x4096x8, .f32⟩
  | .hbm, ⟨95, _⟩ => ⟨S4x4096x8, .f32⟩
  | .hbm, ⟨96, _⟩ => ⟨S4x4096x8, .f32⟩
  | .hbm, ⟨97, _⟩ => ⟨S4x4096x8, .i1⟩
  | .hbm, ⟨98, _⟩ => ⟨S4x4096x8, .f32⟩
  | .hbm, ⟨99, _⟩ => ⟨S4x4096x8, .f32⟩
  | .hbm, ⟨100, _⟩ => ⟨S4x4096x8, .f32⟩
  | .hbm, ⟨101, _⟩ => ⟨S4x4096x8, .f32⟩
  | .hbm, ⟨102, _⟩ => ⟨S4x4096x8, .f32⟩
  | .hbm, ⟨103, _⟩ => ⟨S4x4096x8, .f32⟩
  | .hbm, ⟨104, _⟩ => ⟨S4x4096x8, .f32⟩
  | .hbm, ⟨105, _⟩ => ⟨S4x4096x8, .f32⟩
  | .hbm, ⟨106, _⟩ => ⟨S4x4096x8, .f32⟩
  | .hbm, ⟨107, _⟩ => ⟨S4x4096x16, .f32⟩
  | .hbm, ⟨108, _⟩ => ⟨S4x4096x256, .bf16⟩
  | .hbm, ⟨109, _⟩ => ⟨S_, .f32⟩
  | .hbm, ⟨110, _⟩ => ⟨S4x4096x256, .f32⟩
  | .hbm, ⟨111, _⟩ => ⟨S4x4096x256, .f32⟩
  | .hbm, ⟨112, _⟩ => ⟨S4x4096x256, .bf16⟩
  | .hbm, ⟨113, _⟩ => ⟨S4x4096x256, .bf16⟩
  | .hbm, ⟨114, _⟩ => ⟨S4x4096x256, .f32⟩
  | .hbm, ⟨115, _⟩ => ⟨S4x4096x256, .f32⟩
  | .hbm, ⟨116, _⟩ => ⟨S_, .f32⟩
  | .hbm, ⟨117, _⟩ => ⟨S4x4096x256, .f32⟩
  | .hbm, ⟨118, _⟩ => ⟨S4x4096x256, .f32⟩
  | .hbm, ⟨119, _⟩ => ⟨S_, .f32⟩
  | .hbm, ⟨120, _⟩ => ⟨S4x4096x256, .f32⟩
  | .hbm, ⟨121, _⟩ => ⟨S4x4096x256, .f32⟩
  | .hbm, ⟨122, _⟩ => ⟨S4x4096x256, .bf16⟩
  | .hbm, ⟨123, _⟩ => ⟨S_, .i32⟩
  | .hbm, ⟨124, _⟩ => ⟨S_, .f32⟩
  | .hbm, ⟨125, _⟩ => ⟨S4x4096x128, .f32⟩
  | .hbm, ⟨126, _⟩ => ⟨S4x16x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call2_v0 : Ref sig .tc := ⟨.hbm, 91, rfl⟩
abbrev main_call2_call0_cst : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_call0_v2 : Ref sig .tc := ⟨.hbm, 95, rfl⟩
abbrev main_call2_call0_v3 : Ref sig .tc := ⟨.hbm, 96, rfl⟩
abbrev main_call2_call0_v4 : Ref sig .tc := ⟨.hbm, 97, rfl⟩
abbrev main_call2_call0_v5 : Ref sig .tc := ⟨.hbm, 98, rfl⟩
abbrev main_call2_call0_v6 : Ref sig .tc := ⟨.hbm, 99, rfl⟩
abbrev main_call2_call0_v7 : Ref sig .tc := ⟨.hbm, 100, rfl⟩
abbrev main_call2_call0_v8 : Ref sig .tc := ⟨.hbm, 101, rfl⟩
abbrev main_call2_call0_v9 : Ref sig .tc := ⟨.hbm, 102, rfl⟩
abbrev main_call2_call0_v10 : Ref sig .tc := ⟨.hbm, 103, rfl⟩
abbrev main_call2_call0_v11 : Ref sig .tc := ⟨.hbm, 104, rfl⟩
abbrev main_call2_v1 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_3 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_4 : Ref sig .tc := ⟨.hbm, 116, rfl⟩
abbrev main_v76 : Ref sig .tc := ⟨.hbm, 117, rfl⟩
abbrev main_v77 : Ref sig .tc := ⟨.hbm, 118, rfl⟩
abbrev main_cst_5 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_6 : Ref sig .tc := ⟨.hbm, 123, rfl⟩
abbrev main_call3_v0 : Ref sig .tc := ⟨.hbm, 124, rfl⟩
abbrev main_v81 : Ref sig .tc := ⟨.hbm, 125, rfl⟩
abbrev main_v82 : Ref sig .tc := ⟨.hbm, 126, rfl⟩

abbrev nD : Nat := 1
abbrev τ : Topo := Topo.v7x

variable {F : FTy → Type} [FloatOps F]
-- ==== Proof.AttnMath.lean ====
module

public import Idealize.ShloMosaic.PureOps.Ideal
public import Idealize.ShloMosaic.Lib.Pointwise

@[expose] public section

noncomputable section
open Idealize.ShloMosaic

namespace Cert.AttnMath

/-- A sum scaled by a nonnegative finite number is the sum of the scaled terms. -/
theorem sum_mul {ι : Type*} (s : Finset ι) (f : ι → EReal) {e : EReal} (h0 : 0 ≤ e) (h1 : e ≠ ⊤) :
    (∑ i ∈ s, f i) * e = ∑ i ∈ s, f i * e := by
  classical
  induction s using Finset.induction_on with
  | empty => simp
  | insert a s ha ih => rw [Finset.sum_insert ha, Finset.sum_insert ha, EReal.right_distrib_of_nonneg_of_ne_top h0 h1, ih]

/-- A finite sum of finite numbers is the number the real sum is. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Folding the maximum over a family bounds a number exactly when it and the start are bounded. -/
theorem fold_max_lt {ι : Type*} (s : Finset ι) (f : ι → EReal) {b c : EReal} :
    s.fold max b f < c ↔ b < c ∧ ∀ i ∈ s, f i < c := Finset.fold_max_lt c

/-- The exponential of a number below infinity less a finite one: a nonnegative real. -/
theorem exp_sub {x : EReal} (hx : x ≠ ⊤) (r : ℝ) : ∃ p : ℝ, 0 ≤ p ∧ Ideal.exp (x - (r : EReal)) = (p : EReal) := by
  induction x with
  | bot => exact ⟨0, le_rfl, by rw [sub_eq_add_neg, EReal.bot_add]; rfl⟩
  | top => exact absurd rfl hx
  | coe x => exact ⟨Real.exp (x - r), (Real.exp_pos _).le, by rw [← EReal.coe_sub]; rfl⟩

/-- The weight of a masked score is zero. -/
theorem exp_bot (r : ℝ) : Ideal.exp ((⊥ : EReal) - (r : EReal)) = 0 := by rw [sub_eq_add_neg, EReal.bot_add]; rfl

section Softmax
variable {nl nx : ℕ} (sl : Fin nl → EReal) (sx : Fin nx → EReal) (sk : EReal)

/-- The largest of a row's local scores, context scores and sink. -/
def rowMax : EReal := max (max (Finset.univ.fold max ⊥ sx) sk) (Finset.univ.fold max ⊥ sl)

/-- The row's normalizer at a given maximum. -/
def rowDen (M : EReal) : EReal := (∑ x, Ideal.exp (sx x - M) + Ideal.exp (sk - M)) + ∑ s, Ideal.exp (sl s - M)

/-- One lane of one query row's output: weights over local and context values, divided at the end. -/
def row (vl : Fin nl → EReal) (vx : Fin nx → EReal) : EReal :=
  Ideal.div (∑ x, Ideal.exp (sx x - rowMax sl sx sk) * vx x + ∑ s, Ideal.exp (sl s - rowMax sl sx sk) * vl s)
    (rowDen sl sx sk (rowMax sl sx sk))

variable {sl sx sk}

/-- With every score and the sink below infinity, and one context score finite, the row's maximum is finite. -/
theorem rowMax_real (hsl : ∀ s, sl s ≠ ⊤) (hsx : ∀ x, ∃ r : ℝ, sx x = r) (hsk : sk ≠ ⊤) (x0 : Fin nx) :
    ∃ r : ℝ, rowMax sl sx sk = r := by
  have hlt : rowMax sl sx sk < ⊤ := by
    simp only [rowMax, max_lt_iff, fold_max_lt]
    refine ⟨⟨⟨bot_lt_top, fun x _ => ?_⟩, lt_top_iff_ne_top.2 hsk⟩, bot_lt_top, fun s _ => lt_top_iff_ne_top.2 (hsl s)⟩
    obtain ⟨r, hr⟩ := hsx x
    rw [hr]; exact EReal.coe_lt_top r
  have hgt : ⊥ < rowMax sl sx sk := by
    obtain ⟨r, hr⟩ := hsx x0
    refine lt_of_lt_of_le (EReal.bot_lt_coe r) ?_
    rw [← hr]
    exact le_trans (Finset.le_fold_max (s := Finset.univ) (b := (⊥ : EReal)) (f := sx) (sx x0) |>.2 (.inr ⟨x0, Finset.mem_univ _, le_rfl⟩))
      (le_trans (le_max_left _ _) (le_max_left _ _))
  exact ⟨(rowMax sl sx sk).toReal, (EReal.coe_toReal hlt.ne hgt.ne').symm⟩

/-- THE LAW OF THE ROW: dividing at the end is dividing each weight, and the values at masked positions do not matter. -/
theorem row_eq (vl vl' : Fin nl → EReal) (vx : Fin nx → EReal)
    (hsl : ∀ s, sl s ≠ ⊤) (hsx : ∀ x, ∃ r : ℝ, sx x = r) (hsk : sk ≠ ⊤) (x0 : Fin nx) (hv : ∀ s, sl s ≠ ⊥ → vl s = vl' s) :
    row sl sx sk vl vx
      = ∑ s, vl' s * Ideal.div (Ideal.exp (sl s - rowMax sl sx sk)) (rowDen sl sx sk (rowMax sl sx sk))
        + ∑ x, vx x * Ideal.div (Ideal.exp (sx x - rowMax sl sx sk)) (rowDen sl sx sk (rowMax sl sx sk)) := by
  obtain ⟨r, hr⟩ := rowMax_real hsl hsx hsk x0
  unfold row
  rw [hr]
  choose pl hpl0 hpl using fun s => exp_sub (hsl s) r
  have hsx' : ∀ x, sx x ≠ ⊤ := fun x => by obtain ⟨a, ha⟩ := hsx x; rw [ha]; exact EReal.coe_ne_top a
  choose px hpx0 hpx using fun x => exp_sub (hsx' x) r
  obtain ⟨pk, hpk0, hpk⟩ := exp_sub hsk r
  have hpos : 0 < px x0 := by
    obtain ⟨a, ha⟩ := hsx x0
    have h := hpx x0
    rw [ha, ← EReal.coe_sub] at h
    have h' : ((Real.exp (a - r) : ℝ) : EReal) = (px x0 : EReal) := h
    rw [← EReal.coe_eq_coe_iff.1 h']; exact Real.exp_pos _
  have hden : rowDen sl sx sk (r : EReal) = (((∑ x, px x + pk) + ∑ s, pl s : ℝ) : EReal) := by
    unfold rowDen
    simp only [hpl, hpx, hpk]
    rw [coe_sum, coe_sum, ← EReal.coe_add, ← EReal.coe_add]
  have hd : 0 < (∑ x, px x + pk) + ∑ s, pl s := by
    have h1 : px x0 ≤ ∑ x, px x := Finset.single_le_sum (fun x _ => hpx0 x) (Finset.mem_univ x0)
    have h2 : 0 ≤ ∑ s, pl s := Finset.sum_nonneg fun s _ => hpl0 s
    linarith
  rw [hden]
  generalize (∑ x, px x + pk) + ∑ s, pl s = d at hd
  have he0 : (0 : EReal) ≤ ((1 / d : ℝ) : EReal) := by
    exact_mod_cast (div_pos one_pos hd).le
  have he1 : ((1 / d : ℝ) : EReal) ≠ ⊤ := EReal.coe_ne_top _
  simp only [Ideal.div_coe hd.ne']
  rw [EReal.right_distrib_of_nonneg_of_ne_top he0 he1, sum_mul _ _ he0 he1, sum_mul _ _ he0 he1, add_comm]
  refine congrArg₂ (· + ·) (Finset.sum_congr rfl fun s _ => ?_) (Finset.sum_congr rfl fun x _ => ?_)
  · by_cases h : sl s = ⊥
    · rw [h, exp_bot]; simp
    · rw [hv s h, mul_comm (Ideal.exp _), mul_assoc]
  · rw [mul_comm (Ideal.exp _), mul_assoc]

end Softmax

end Cert.AttnMath

end
-- ==== Proof.AttnPay.lean ====
module

public import proofs.«01_k».proof.Proof.AttnMath
public import proofs.«01_k».proof.Proof.Gen.KernelIdeal.Skeleton

@[expose] public section

set_option maxRecDepth 16384

noncomputable section
open Idealize.ShloMosaic Idealize.ShloMosaic.TcCoe Idealize.SL.Sem

namespace Cert.KernelIdeal.RefValue
open Cert.KernelIdeal Cert.KernelIdeal.Gen
open Cert.AttnMath

/-- The pattern of minus infinity. -/
theorem ofBits_bot : Ideal.ofBits .f32 0xFF800000#32 = ⊥ := by simp [Ideal.ofBits, Ideal.ieee]

/-- The mask's named constant is minus infinity. -/
theorem mask_bot : (Named.named κ "mask" 0xF149F2CA#32 : Ideal .f32) = (⊥ : EReal) := IdealRules.named_const.ideal_named_scalar _ _ _ _ rfl

/-- One row of the first KV head's output, before the query heads' halves are put together. -/
theorem pay11_at (v9 v16 : FVec Ideal S384x256 .bf16) (v38 : IVec S512x384 1) (v65 : FVec Ideal S512x128 .bf16) (v66 : FVec Ideal S512x1 .f32)
    (v70 : FVec Ideal S256x128 .bf16) (v71 : FVec Ideal S512x256 .f32) (i : Fin 512) (l : Fin 128) :
    k0_pay11 (F := Ideal) v9 v16 v38 v65 v66 v70 v71 (ix2 i l)
      = row (fun s : Fin 384 => Scalar.select (v38 (ix2 i s)) (∑ k : Fin 128, v65 (ix2 i k) * v9 (ix2 s ⟨k, by omega⟩)) ⊥)
          (fun x : Fin 256 => v71 (ix2 i x)) (v66 (ix2 i 0)) (fun s => v16 (ix2 s ⟨l, by omega⟩)) (fun x => v70 (ix2 x l)) := by
  pointwise [k0_pay11, row, rowMax, rowDen, mask_bot, ofBits_bot]
  try rfl

/-- One row of the second KV head's output, before the query heads' halves are put together. -/
theorem pay20_at (v9 v16 : FVec Ideal S384x256 .bf16) (v38 : IVec S512x384 1) (v148 : FVec Ideal S512x128 .bf16) (v149 : FVec Ideal S512x1 .f32)
    (v153 : FVec Ideal S256x128 .bf16) (v2 : IVec S1x128 1) (v122 v131 : FVec Ideal S1x128x128 .bf16) (v150 : FVec Ideal S1x256x128 .bf16)
    (i : Fin 512) (l : Fin 128) :
    k0_pay20 (F := Ideal) v9 v16 v38 v148 v149 v153 (k0_pay18 v2 v122 v131 v150) (k0_pay19 v2 v122 v131 v150) (ix2 i l)
      = row (fun s : Fin 384 => Scalar.select (v38 (ix2 i s)) (∑ k : Fin 128, v148 (ix2 i k) * v9 (ix2 s ⟨128 + k, by omega⟩)) ⊥)
          (fun x : Fin 256 => k0_pay18 (F := Ideal) v2 v122 v131 v150 (ix2 i x)) (v149 (ix2 i 0)) (fun s => v16 (ix2 s ⟨128 + l, by omega⟩)) (fun x => v153 (ix2 x l)) := by
  pointwise [k0_pay20, k0_pay19, row, rowMax, rowDen, mask_bot, ofBits_bot]
  try rfl

end Cert.KernelIdeal.RefValue

end
-- ==== Proof.AttnMask.lean ====
module

public import Idealize.ShloMosaic.PureOps.Ideal
public import Idealize.ShloMosaic.Lib.WordArith

@[expose] public section

noncomputable section
open Idealize.ShloMosaic

namespace Cert.AttnMask

/-- The word of an integer. -/
def word (z : ℤ) : BitVec 32 := BitVec.ofInt 32 z

theorem word_ofNat (n : ℕ) : BitVec.ofNat 32 n = word n := rfl

theorem toInt_word {z : ℤ} (h0 : -2 ^ 31 ≤ z) (h1 : z < 2 ^ 31) : (word z).toInt = z := by
  rw [word, BitVec.toInt_ofInt]
  exact Int.bmod_eq_of_le (by omega) (by omega)

theorem subi_word (a b : ℤ) : IntOp.subi (word a) (word b) = word (a - b) := by
  show BitVec.ofInt 32 a - BitVec.ofInt 32 b = BitVec.ofInt 32 (a - b)
  rw [BitVec.sub_eq_add_neg, ← BitVec.ofInt_neg, ← BitVec.ofInt_add, ← sub_eq_add_neg]

theorem addi_word (a b : ℤ) : IntOp.addi (word a) (word b) = word (a + b) := (BitVec.ofInt_add a b).symm

theorem muli_word (a b : ℤ) : IntOp.muli (word a) (word b) = word (a * b) := (BitVec.ofInt_mul a b).symm

theorem absi_word {z : ℤ} (h0 : -2 ^ 30 ≤ z) (h1 : z < 2 ^ 30) : IntOp.absi (word z) = word |z| := by
  unfold IntOp.absi
  rw [BitVec.msb_eq_toInt, toInt_word (by omega) (by omega)]
  rcases lt_or_ge z 0 with h | h
  · rw [if_pos (by simpa using h), abs_of_neg h]
    exact BitVec.ofInt_neg.symm
  · rw [if_neg (by simpa using h), abs_of_nonneg h]

theorem slt_word {a b : ℤ} (ha0 : -2 ^ 31 ≤ a) (ha1 : a < 2 ^ 31) (hb0 : -2 ^ 31 ≤ b) (hb1 : b < 2 ^ 31) :
    IntOp.cmpi .slt (word a) (word b) = BitVec.ofBool (decide (a < b)) := by
  show BitVec.ofBool (BitVec.slt _ _) = _
  rw [BitVec.slt, toInt_word ha0 ha1, toInt_word hb0 hb1]

theorem sle_word {a b : ℤ} (ha0 : -2 ^ 31 ≤ a) (ha1 : a < 2 ^ 31) (hb0 : -2 ^ 31 ≤ b) (hb1 : b < 2 ^ 31) :
    IntOp.cmpi .sle (word a) (word b) = BitVec.ofBool (decide (a ≤ b)) := by
  show BitVec.ofBool (BitVec.sle _ _) = _
  rw [BitVec.sle, toInt_word ha0 ha1, toInt_word hb0 hb1]

theorem sgt_word {a b : ℤ} (ha0 : -2 ^ 31 ≤ a) (ha1 : a < 2 ^ 31) (hb0 : -2 ^ 31 ≤ b) (hb1 : b < 2 ^ 31) :
    IntOp.cmpi .sgt (word a) (word b) = BitVec.ofBool (decide (b < a)) := by
  show BitVec.ofBool (BitVec.slt _ _) = _
  rw [BitVec.slt, toInt_word ha0 ha1, toInt_word hb0 hb1]

theorem sge_word {a b : ℤ} (ha0 : -2 ^ 31 ≤ a) (ha1 : a < 2 ^ 31) (hb0 : -2 ^ 31 ≤ b) (hb1 : b < 2 ^ 31) :
    IntOp.cmpi .sge (word a) (word b) = BitVec.ofBool (decide (b ≤ a)) := by
  show BitVec.ofBool (BitVec.sle _ _) = _
  rw [BitVec.sle, toInt_word ha0 ha1, toInt_word hb0 hb1]

theorem andi_low (n : ℕ) (h : n < 2 ^ 31) : IntOp.andi (BitVec.ofNat 32 n) 127#32 = word (n % 128 : ℕ) := by
  show _ &&& _ = BitVec.ofNat 32 _
  apply BitVec.eq_of_toNat_eq
  rw [BitVec.toNat_and, BitVec.toNat_ofNat, BitVec.toNat_ofNat, BitVec.toNat_ofNat, Nat.mod_eq_of_lt (by omega),
    Nat.mod_eq_of_lt (by omega), Nat.mod_eq_of_lt (by omega)]
  exact Nat.and_two_pow_sub_one_eq_mod n 7

/-- The kernel's mask bit, of a block, a stacked query row and a band position. -/
theorem kernel_mask (j i s : ℕ) (hj : j < 32) (hi : i < 512) (hs : s < 384) :
    IntOp.andi
      (IntOp.andi
        (IntOp.cmpi CmpIPredicate.sle
          (IntOp.absi (IntOp.subi (IntOp.subi (BitVec.ofNat 32 s) 128#32) (IntOp.andi (BitVec.ofNat 32 i) 127#32)))
          128#32)
        (IntOp.ori (IntOp.cmpi CmpIPredicate.sge (BitVec.ofNat 32 s) 128#32)
          (Scalar.cmpi CmpIPredicate.sgt (BitVec.ofNat 32 j) 0#32)))
      (IntOp.ori (IntOp.cmpi CmpIPredicate.slt (BitVec.ofNat 32 s) 256#32)
        (Scalar.cmpi CmpIPredicate.slt (BitVec.ofNat 32 j) 31#32))
    = BitVec.ofBool (decide (i % 128 ≤ s ∧ s ≤ i % 128 + 256 ∧ (128 ≤ s ∨ 0 < j) ∧ (s < 256 ∨ j < 31))) := by
  rw [andi_low i (by omega)]
  unfold Scalar.cmpi
  rw [word_ofNat s, word_ofNat j, show (128#32) = word 128 from rfl, show (0#32) = word 0 from rfl, show (256#32) = word 256 from rfl,
    show (31#32) = word 31 from rfl, subi_word, subi_word, absi_word (by omega) (by omega),
    sle_word (by have := abs_nonneg ((s : ℤ) - 128 - (i % 128 : ℕ)); omega) (abs_lt.mpr (by omega)) (by omega) (by omega),
    sge_word (by omega) (by omega) (by omega) (by omega), sgt_word (by omega) (by omega) (by omega) (by omega),
    slt_word (by omega) (by omega) (by omega) (by omega), slt_word (by omega) (by omega) (by omega) (by omega),
    WordArith.ori_ofBool, WordArith.ori_ofBool, WordArith.andi_ofBool, WordArith.andi_ofBool, ← Bool.decide_or, ← Bool.decide_or,
    ← Bool.decide_and, ← Bool.decide_and]
  congr 1
  rw [decide_eq_decide, abs_le]
  omega

end Cert.AttnMask

end
-- ==== Proof.AttnBlk.lean ====
module

public import proofs.«01_k».proof.Proof.AttnPay
public import proofs.«01_k».proof.Proof.AttnMask
public import Idealize.ShloMosaic.Lib.Pipeline.ValueKit

@[expose] public section

set_option maxRecDepth 16384

noncomputable section
open Idealize.ShloMosaic Idealize.ShloMosaic.TcCoe Idealize.SL.Sem

namespace Cert.KernelIdeal.RefValue
open Cert.KernelIdeal Cert.KernelIdeal.Gen Cert.AttnMath

/-- A query row zero outside its half contracts over that half alone. -/
theorem half_sum (e : ℕ) (he : e < 2) (f g : Fin 128 → EReal) :
    ∑ k : Fin 128, (if e = k.val / 64 then f k else 0) * g k = ∑ d : Fin 64, f ⟨e * 64 + d, by omega⟩ * g ⟨e * 64 + d, by omega⟩ := by
  rw [show (∑ k : Fin 128, (if e = k.val / 64 then f k else 0) * g k) = ∑ k : Fin (64 + 64), (if e = k.val / 64 then f k else 0) * g k from rfl,
    Fin.sum_univ_add]
  rcases (by omega : e = 0 ∨ e = 1) with rfl | rfl
  · rw [show (∑ i : Fin 64, (if 0 = (Fin.natAdd 64 i).val / 64 then f (Fin.natAdd 64 i) else 0) * g (Fin.natAdd 64 i)) = 0 from
      Finset.sum_eq_zero fun i _ => by rw [if_neg (by simp only [Fin.val_natAdd]; omega), zero_mul], add_zero]
    refine Finset.sum_congr rfl fun i _ => ?_
    rw [if_pos (by simp only [Fin.val_castAdd]; omega)]
    congr 2 <;> exact Fin.ext (by simp)
  · rw [show (∑ i : Fin 64, (if 1 = (Fin.castAdd 64 i).val / 64 then f (Fin.castAdd 64 i) else 0) * g (Fin.castAdd 64 i)) = 0 from
      Finset.sum_eq_zero fun i _ => by rw [if_neg (by simp only [Fin.val_castAdd]; omega), zero_mul], zero_add]
    refine Finset.sum_congr rfl fun i _ => ?_
    rw [if_pos (by simp only [Fin.val_natAdd]; omega)]
    congr 2

/-- The lower half of the lanes, as the select's condition. -/
theorem low_select {α : Type} (l : Fin 128) (a b : α) :
    Scalar.select (IntOp.cmpi CmpIPredicate.slt (BitVec.ofNat 32 l.val) 64#32) a b = if l.val < 64 then a else b := by
  rw [Cert.AttnMask.word_ofNat, show (64#32) = Cert.AttnMask.word 64 from rfl, Cert.AttnMask.slt_word (by omega) (by omega) (by omega) (by omega)]
  by_cases h : l.val < 64
  · rw [if_pos h, decide_eq_true (by omega)]; rfl
  · rw [if_neg h, decide_eq_false (by omega)]; rfl

/-- The stacked queries: of every pair of row groups the first keeps the lower half of its lanes, the second the upper. -/
theorem pay7_at (q0 q1 : FVec Ideal S1x128x128 .bf16) (i : Fin 512) (k : Fin 128) :
    k0_pay7 (F := Ideal) k0_pay2 q0 q1 (ix2 i k)
      = if i.val / 128 % 2 = k.val / 64 then (if i.val < 256 then q0 (ix3 0 ⟨i.val % 128, by omega⟩ k) else q1 (ix3 0 ⟨i.val % 128, by omega⟩ k)) else 0 := by
  pointwise [k0_pay7, k0_pay2]
  simp only [low_select]
  split_ifs
  all_goals first
    | (exfalso; omega)
    | exact rfl
    | (rw [if_pos (show i.val / 128 % 2 = k.val / 64 by omega), if_pos (show i.val < 256 by omega)]
       exact congrArg (fun r : Fin 128 => q0 (ix3 0 r k)) (Fin.ext (by dsimp only; omega)))
    | (rw [if_pos (show i.val / 128 % 2 = k.val / 64 by omega), if_neg (show ¬ i.val < 256 by omega)]
       exact congrArg (fun r : Fin 128 => q1 (ix3 0 r k)) (Fin.ext (by dsimp only; omega)))

theorem pay10_at (q0 q1 : FVec Ideal S1x128x128 .bf16) (kx : FVec Ideal S1x256x128 .bf16) (i : Fin 512) (x : Fin 256) :
    k0_pay10 (F := Ideal) k0_pay2 q0 q1 kx (ix2 i x) = ∑ k : Fin 128, k0_pay7 (F := Ideal) k0_pay2 q0 q1 (ix2 i k) * kx (ix3 0 x k) := by
  pointwise [k0_pay10]

theorem pay15_eq (q0 q1 : FVec Ideal S1x128x128 .bf16) : k0_pay15 (F := Ideal) k0_pay2 q0 q1 = k0_pay7 k0_pay2 q0 q1 := rfl
theorem pay18_eq (q0 q1 : FVec Ideal S1x128x128 .bf16) (kx : FVec Ideal S1x256x128 .bf16) :
    k0_pay18 (F := Ideal) k0_pay2 q0 q1 kx = k0_pay10 k0_pay2 q0 q1 kx := rfl
theorem pay16_eq (s0 s1 s2 s3 : Elt Ideal .f32) : k0_pay16 (F := Ideal) s0 s1 s2 s3 = k0_pay8 s0 s1 s2 s3 := rfl

/-- A stacked query row against keys: the contraction over its head's 64 lanes. -/
theorem contract_at (q0 q1 : FVec Ideal S1x128x128 .bf16) (g : Fin 128 → EReal) (cb : ℕ) (hcb : cb < 2) (r l : Fin 128) :
    ∑ k : Fin 128, k0_pay7 (F := Ideal) k0_pay2 q0 q1 (ix2 ⟨cb * 256 + (l.val / 64 * 128 + r), by omega⟩ k) * g k
      = ∑ d : Fin 64, (if cb = 0 then q0 else q1) (ix3 0 r ⟨l.val / 64 * 64 + d, by omega⟩) * g ⟨l.val / 64 * 64 + d, by omega⟩ := by
  rw [← half_sum (l.val / 64) (by omega) (fun k => (if cb = 0 then q0 else q1) (ix3 0 r k)) g]
  refine Finset.sum_congr rfl fun k _ => ?_
  rw [pay7_at]
  dsimp only
  rw [show (cb * 256 + (l.val / 64 * 128 + r.val)) / 128 % 2 = l.val / 64 by omega]
  have hr : (⟨(cb * 256 + (l.val / 64 * 128 + r.val)) % 128, by omega⟩ : Fin 128) = r := Fin.ext (by dsimp only; omega)
  rw [hr]
  rcases (by omega : cb = 0 ∨ cb = 1) with rfl | rfl
  · rw [if_pos (show 0 * 256 + (l.val / 64 * 128 + r.val) < 256 by omega)]; rfl
  · rw [if_neg (show ¬ 1 * 256 + (l.val / 64 * 128 + r.val) < 256 by omega)]; rfl

/-- The stacked sinks. -/
theorem pay8_at (s0 s1 s2 s3 : Elt Ideal .f32) (cb : ℕ) (hcb : cb < 2) (r l : Fin 128) :
    k0_pay8 (F := Ideal) s0 s1 s2 s3 (ix2 ⟨cb * 256 + (l.val / 64 * 128 + r), by omega⟩ 0)
      = if cb = 0 then (if l.val < 64 then s0 else s1) else (if l.val < 64 then s2 else s3) := by
  pointwise [k0_pay8]
  split_ifs
  all_goals first
    | (exfalso; omega)
    | rfl

/-- One lane of one query row of the first KV head: the row of its query head. -/
theorem row0_at (v9 v16 : FVec Ideal S384x256 .bf16) (v38 : IVec S512x384 1) (q0 q1 : FVec Ideal S1x128x128 .bf16) (s0 s1 s2 s3 : Elt Ideal .f32)
    (kx vx : FVec Ideal S1x256x128 .bf16) (cb : ℕ) (hcb : cb < 2) (r l : Fin 128) :
    k0_pay11 (F := Ideal) v9 v16 v38 (k0_pay7 k0_pay2 q0 q1) (k0_pay8 s0 s1 s2 s3) (k0_pay9 vx) (k0_pay10 k0_pay2 q0 q1 kx)
        (ix2 ⟨cb * 256 + (l.val / 64 * 128 + r), by omega⟩ l)
      = row (fun s : Fin 384 => Scalar.select (v38 (ix2 ⟨cb * 256 + (l.val / 64 * 128 + r), by omega⟩ s))
            (∑ d : Fin 64, (if cb = 0 then q0 else q1) (ix3 0 r ⟨l.val / 64 * 64 + d, by omega⟩) * v9 (ix2 s ⟨l.val / 64 * 64 + d, by omega⟩)) ⊥)
          (fun x : Fin 256 => ∑ d : Fin 64, (if cb = 0 then q0 else q1) (ix3 0 r ⟨l.val / 64 * 64 + d, by omega⟩) * kx (ix3 0 x ⟨l.val / 64 * 64 + d, by omega⟩))
          (if cb = 0 then (if l.val < 64 then s0 else s1) else (if l.val < 64 then s2 else s3))
          (fun s => v16 (ix2 s ⟨l, by omega⟩)) (fun x => vx (ix3 0 x l)) := by
  have h9 : ∀ x : Fin 256, k0_pay9 (F := Ideal) vx (ix2 x l) = vx (ix3 0 x l) := fun x => by pointwise [k0_pay9]
  rw [pay11_at, pay8_at s0 s1 s2 s3 cb hcb r l]
  simp only [pay10_at, h9]
  congr 1
  · funext s
    rw [contract_at q0 q1 (fun k => v9 (ix2 s ⟨k, by omega⟩)) cb hcb r l]
  · funext x
    rw [contract_at q0 q1 (fun k => kx (ix3 0 x k)) cb hcb r l]

/-- One lane of one query row of the second KV head: the row of its query head. -/
theorem row1_at (v9 v16 : FVec Ideal S384x256 .bf16) (v38 : IVec S512x384 1) (q0 q1 : FVec Ideal S1x128x128 .bf16) (s0 s1 s2 s3 : Elt Ideal .f32)
    (kx vx : FVec Ideal S1x256x128 .bf16) (cb : ℕ) (hcb : cb < 2) (r l : Fin 128) :
    k0_pay20 (F := Ideal) v9 v16 v38 (k0_pay15 k0_pay2 q0 q1) (k0_pay16 s0 s1 s2 s3) (k0_pay17 vx) (k0_pay18 k0_pay2 q0 q1 kx) (k0_pay19 k0_pay2 q0 q1 kx)
        (ix2 ⟨cb * 256 + (l.val / 64 * 128 + r), by omega⟩ l)
      = row (fun s : Fin 384 => Scalar.select (v38 (ix2 ⟨cb * 256 + (l.val / 64 * 128 + r), by omega⟩ s))
            (∑ d : Fin 64, (if cb = 0 then q0 else q1) (ix3 0 r ⟨l.val / 64 * 64 + d, by omega⟩) * v9 (ix2 s ⟨128 + (l.val / 64 * 64 + d), by omega⟩)) ⊥)
          (fun x : Fin 256 => ∑ d : Fin 64, (if cb = 0 then q0 else q1) (ix3 0 r ⟨l.val / 64 * 64 + d, by omega⟩) * kx (ix3 0 x ⟨l.val / 64 * 64 + d, by omega⟩))
          (if cb = 0 then (if l.val < 64 then s0 else s1) else (if l.val < 64 then s2 else s3))
          (fun s => v16 (ix2 s ⟨128 + l, by omega⟩)) (fun x => vx (ix3 0 x l)) := by
  have h17 : ∀ x : Fin 256, k0_pay17 (F := Ideal) vx (ix2 x l) = vx (ix3 0 x l) := fun x => by pointwise [k0_pay17]
  rw [pay20_at, pay16_eq, pay8_at s0 s1 s2 s3 cb hcb r l]
  simp only [pay18_eq, pay15_eq, pay10_at, h17]
  congr 1
  · funext s
    rw [contract_at q0 q1 (fun k => v9 (ix2 s ⟨128 + k, by omega⟩)) cb hcb r l]
  · funext x
    rw [contract_at q0 q1 (fun k => kx (ix3 0 x k)) cb hcb r l]

variable (v9 v16 : FVec Ideal S384x256 .bf16) (v38 : IVec S512x384 1) (v65 : FVec Ideal S512x128 .bf16) (v66 v156 : FVec Ideal S512x1 .f32)
    (v70 : FVec Ideal S256x128 .bf16) (v71 : FVec Ideal S512x256 .f32) (r l : Fin 128)

/-- The first store of the first KV head: its first two query heads side by side. -/
theorem pay12_at : k0_pay12 (F := Ideal) k0_pay2 v9 v16 v38 v65 v66 v70 v71 (ix3 0 r l)
    = k0_pay11 (F := Ideal) v9 v16 v38 v65 v66 v70 v71 (ix2 ⟨0 * 256 + (l.val / 64 * 128 + r), by omega⟩ l) := by
  pointwise [k0_pay12, k0_pay2]
  rw [low_select]
  split_ifs with h <;> exact congrArg (fun i => k0_pay11 (F := Ideal) v9 v16 v38 v65 v66 v70 v71 (ix2 i l)) (Fin.ext (by dsimp only; omega))

/-- The second store of the first KV head. -/
theorem pay14_at : k0_pay14 (F := Ideal) (k0_pay13 k0_pay2 v9 v16 v38 v65 v66 v70 v71) (ix3 0 r l)
    = k0_pay11 (F := Ideal) v9 v16 v38 v65 v66 v70 v71 (ix2 ⟨1 * 256 + (l.val / 64 * 128 + r), by omega⟩ l) := by
  pointwise [k0_pay14, k0_pay13, k0_pay2]
  rw [low_select]
  split_ifs with h <;> exact congrArg (fun i => k0_pay11 (F := Ideal) v9 v16 v38 v65 v66 v70 v71 (ix2 i l)) (Fin.ext (by dsimp only; omega))

/-- The first store of the second KV head. -/
theorem pay21_at : k0_pay21 (F := Ideal) k0_pay2 v9 v16 v38 v65 v66 v70 v71 v156 (ix3 0 r l)
    = k0_pay20 (F := Ideal) v9 v16 v38 v65 v66 v70 v71 v156 (ix2 ⟨0 * 256 + (l.val / 64 * 128 + r), by omega⟩ l) := by
  pointwise [k0_pay21, k0_pay2]
  rw [low_select]
  split_ifs with h <;> exact congrArg (fun i => k0_pay20 (F := Ideal) v9 v16 v38 v65 v66 v70 v71 v156 (ix2 i l)) (Fin.ext (by dsimp only; omega))

/-- The second store of the second KV head. -/
theorem pay22_at : k0_pay1 (F := Ideal) (k0_pay22 k0_pay2 v9 v16 v38 v65 v66 v70 v71 v156) (ix3 0 r l)
    = k0_pay20 (F := Ideal) v9 v16 v38 v65 v66 v70 v71 v156 (ix2 ⟨1 * 256 + (l.val / 64 * 128 + r), by omega⟩ l) := by
  pointwise [k0_pay1, k0_pay22, k0_pay2]
  rw [low_select]
  split_ifs with h <;> exact congrArg (fun i => k0_pay20 (F := Ideal) v9 v16 v38 v65 v66 v70 v71 v156 (ix2 i l)) (Fin.ext (by dsimp only; omega))

end Cert.KernelIdeal.RefValue

end
-- ==== Proof.AttnRow.lean ====
module

public import proofs.«01_k».proof.KernelIdeal
public import proofs.«01_k».proof.Proof.AttnMath

@[expose] public section

set_option maxRecDepth 16384

noncomputable section
open Idealize.ShloMosaic Idealize.ShloMosaic.TcCoe Idealize.SL.Sem

namespace Cert.AttnRow
open Cert.KernelIdeal Cert.AttnMath

/-- Band position `s` is in the window of query row `r` of block `j` of 32. -/
def valid (j r s : ℕ) : Bool := decide (r ≤ s ∧ s ≤ r + 256 ∧ (128 ≤ s ∨ 0 < j) ∧ (s < 256 ∨ j < 31))

/-- The position of the key at band position `s` of block `j`, the outer blocks clamped to the sequence. -/
def kidx (j s : ℕ) : ℕ := if s < 128 then (j - 1) * 128 + s else if s < 256 then j * 128 + (s - 128) else min (j + 1) 31 * 128 + (s - 256)

theorem kidx_lt {j s : ℕ} (hj : j < 32) (hs : s < 384) : kidx j s < 4096 := by unfold kidx; split_ifs <;> omega

variable (sink : FVec Ideal S8 .f32) (q : FVec Ideal S4x4096x512 .f32) (k v : FVec Ideal S4x4096x128 .f32) (kc vc : FVec Ideal S4x256x128 .f32)
  (b : Fin 4) (n : Fin 4096) (l : Fin 512)

/-- The scores of a query row against its band. -/
def local_scores (s : Fin 384) : EReal :=
  Scalar.select (BitVec.ofBool (valid (n / 128) (n % 128) s))
    (∑ d : Fin 64, (q (ix3 b n ⟨l / 64 * 64 + d, by omega⟩) * Ideal.ofBits .f32 0x3E000000#32)
      * k (ix3 b ⟨kidx (n / 128) s, kidx_lt (by omega) s.isLt⟩ ⟨l / 256 * 64 + d, by omega⟩)) ⊥

/-- The scores of a query row against the context. -/
def context_scores (x : Fin 256) : EReal :=
  ∑ d : Fin 64, (q (ix3 b n ⟨l / 64 * 64 + d, by omega⟩) * Ideal.ofBits .f32 0x3E000000#32) * kc (ix3 b x ⟨l / 256 * 64 + d, by omega⟩)

/-- One entry of the windowed attention. -/
def attention : EReal :=
  row (local_scores q k b n l) (context_scores q kc b n l) (sink (ix1 ⟨l / 64, by omega⟩))
    (fun s => v (ix3 b ⟨kidx (n / 128) s, kidx_lt (by omega) s.isLt⟩ ⟨l / 256 * 64 + l % 64, by omega⟩))
    (fun x => vc (ix3 b x ⟨l / 256 * 64 + l % 64, by omega⟩))

end Cert.AttnRow

end
-- ==== Proof.AttnValue.lean ====
module

public import proofs.«01_k».proof.Proof.Gen.KernelIdeal.Value
public import proofs.«01_k».proof.Proof.AttnBlk
public import proofs.«01_k».proof.Proof.AttnRow

@[expose] public section

set_option maxRecDepth 16384

noncomputable section
open Idealize.ShloMosaic Idealize.ShloMosaic.TcCoe Idealize.SL.Sem

namespace Cert.KernelIdeal.RefValue
open Cert.KernelIdeal Cert.KernelIdeal.Gen Cert.AttnMath Cert.AttnRow

variable (m : (ℓ : Loc nD τ sig) → Buf (Elt Ideal) ℓ)

/-- Every window's block index at a grid point. -/
theorem idx : ∀ t : Fin cfg0.N, win0_0.index t = ![0] ∧ win0_1.index t = ![t.val / 32, t.val % 32, 0] ∧ win0_2.index t = ![t.val / 32, t.val % 32 - 1, 0]
    ∧ win0_3.index t = ![t.val / 32, t.val % 32, 0] ∧ win0_4.index t = ![t.val / 32, min (t.val % 32 + 1) 31, 0]
    ∧ win0_5.index t = ![t.val / 32, t.val % 32 - 1, 0]
    ∧ win0_6.index t = ![t.val / 32, t.val % 32, 0] ∧ win0_7.index t = ![t.val / 32, min (t.val % 32 + 1) 31, 0]
    ∧ win0_8.index t = ![t.val / 32, 0, 0] ∧ win0_9.index t = ![t.val / 32, 0, 0] ∧ win0_10.index t = ![t.val / 32, t.val % 32, 0]
    ∧ t.val / 32 < 4 :=
  (by decide +kernel : ∀ t : Fin grid0.N, _)

/-- The second grid coordinate is the query block's number. -/
theorem coord : ∀ t : Fin cfg0.N, ((grid0.coords t) 1 : ℕ) = t.val % 32 :=
  (by decide +kernel : ∀ t : Fin grid0.N, _)

/-- The mask at a grid point. -/
theorem mask_at (t : Fin cfg0.N) (i : Fin 512) (s : Fin 384) :
    k0_pay6 (BitVec.ofNat 32 ((grid0.coords t) 1 : ℕ)) (iota Kind.tc S512x384 32 [1] iota_S512x384_d1_w32) (k0_pay5 (grid0.coords t)) 256#32 (ix2 i s)
      = BitVec.ofBool (valid (t.val % 32) (i.val % 128) s.val) := by
  pointwise [k0_pay6, k0_pay5]
  rw [coord t]
  exact Cert.AttnMask.kernel_mask _ _ _ (by omega) i.isLt s.isLt

/-- The doubled keys that the call is given. -/
theorem keys_entry (c : Dev nD) (b : Fin 4) (n : Fin 4096) (l : Fin 256) :
    V m c main_v6 (ix3 b n l) = m ((c : Thread nD τ).loc main_arg2) (ix3 b n ⟨l / 128 * 64 + l % 64, by omega⟩) := by
  rw [show V m c main_v6 = truncf (F := Ideal) .bf16 (concatenate S4x4096x256 2
    [⟨S4x4096x64, extractStridedSlice S4x4096x64 ![0, 0, 0] (m ((c : Thread nD τ).loc main_arg2)) slices_S4x4096x128_S4x4096x64_0_0_0⟩,
     ⟨S4x4096x64, extractStridedSlice S4x4096x64 ![0, 0, 0] (m ((c : Thread nD τ).loc main_arg2)) slices_S4x4096x128_S4x4096x64_0_0_0⟩,
     ⟨S4x4096x64, extractStridedSlice S4x4096x64 ![0, 0, 64] (m ((c : Thread nD τ).loc main_arg2)) slices_S4x4096x128_S4x4096x64_0_0_64⟩,
     ⟨S4x4096x64, extractStridedSlice S4x4096x64 ![0, 0, 64] (m ((c : Thread nD τ).loc main_arg2)) slices_S4x4096x128_S4x4096x64_0_0_64⟩]
    concatenates_S4x4096x64_S4x4096x64_S4x4096x64_S4x4096x64_S4x4096x256_d2) bitsLt_bf16_f32 from rfl]
  pointwise
  blk_point []

/-- The doubled values that the call is given. -/
theorem vals_entry (c : Dev nD) (b : Fin 4) (n : Fin 4096) (l : Fin 256) :
    V m c main_v10 (ix3 b n l) = m ((c : Thread nD τ).loc main_arg3) (ix3 b n ⟨l / 128 * 64 + l % 64, by omega⟩) := by
  rw [show V m c main_v10 = truncf (F := Ideal) .bf16 (concatenate S4x4096x256 2
    [⟨S4x4096x64, extractStridedSlice S4x4096x64 ![0, 0, 0] (m ((c : Thread nD τ).loc main_arg3)) slices_S4x4096x128_S4x4096x64_0_0_0⟩,
     ⟨S4x4096x64, extractStridedSlice S4x4096x64 ![0, 0, 0] (m ((c : Thread nD τ).loc main_arg3)) slices_S4x4096x128_S4x4096x64_0_0_0⟩,
     ⟨S4x4096x64, extractStridedSlice S4x4096x64 ![0, 0, 64] (m ((c : Thread nD τ).loc main_arg3)) slices_S4x4096x128_S4x4096x64_0_0_64⟩,
     ⟨S4x4096x64, extractStridedSlice S4x4096x64 ![0, 0, 64] (m ((c : Thread nD τ).loc main_arg3)) slices_S4x4096x128_S4x4096x64_0_0_64⟩]
    concatenates_S4x4096x64_S4x4096x64_S4x4096x64_S4x4096x64_S4x4096x256_d2) bitsLt_bf16_f32 from rfl]
  pointwise
  blk_point []

/-- The doubled context keys that the call is given. -/
theorem ckeys_entry (c : Dev nD) (b : Fin 4) (n : Fin 256) (l : Fin 256) :
    V m c main_v14 (ix3 b n l) = m ((c : Thread nD τ).loc main_arg4) (ix3 b n ⟨l / 128 * 64 + l % 64, by omega⟩) := by
  rw [show V m c main_v14 = truncf (F := Ideal) .bf16 (concatenate S4x256x256 2
    [⟨S4x256x64, extractStridedSlice S4x256x64 ![0, 0, 0] (m ((c : Thread nD τ).loc main_arg4)) slices_S4x256x128_S4x256x64_0_0_0⟩,
     ⟨S4x256x64, extractStridedSlice S4x256x64 ![0, 0, 0] (m ((c : Thread nD τ).loc main_arg4)) slices_S4x256x128_S4x256x64_0_0_0⟩,
     ⟨S4x256x64, extractStridedSlice S4x256x64 ![0, 0, 64] (m ((c : Thread nD τ).loc main_arg4)) slices_S4x256x128_S4x256x64_0_0_64⟩,
     ⟨S4x256x64, extractStridedSlice S4x256x64 ![0, 0, 64] (m ((c : Thread nD τ).loc main_arg4)) slices_S4x256x128_S4x256x64_0_0_64⟩]
    concatenates_S4x256x64_S4x256x64_S4x256x64_S4x256x64_S4x256x256_d2) bitsLt_bf16_f32 from rfl]
  pointwise
  blk_point []

/-- The doubled context values that the call is given. -/
theorem cvals_entry (c : Dev nD) (b : Fin 4) (n : Fin 256) (l : Fin 256) :
    V m c main_v18 (ix3 b n l) = m ((c : Thread nD τ).loc main_arg5) (ix3 b n ⟨l / 128 * 64 + l % 64, by omega⟩) := by
  rw [show V m c main_v18 = truncf (F := Ideal) .bf16 (concatenate S4x256x256 2
    [⟨S4x256x64, extractStridedSlice S4x256x64 ![0, 0, 0] (m ((c : Thread nD τ).loc main_arg5)) slices_S4x256x128_S4x256x64_0_0_0⟩,
     ⟨S4x256x64, extractStridedSlice S4x256x64 ![0, 0, 0] (m ((c : Thread nD τ).loc main_arg5)) slices_S4x256x128_S4x256x64_0_0_0⟩,
     ⟨S4x256x64, extractStridedSlice S4x256x64 ![0, 0, 64] (m ((c : Thread nD τ).loc main_arg5)) slices_S4x256x128_S4x256x64_0_0_64⟩,
     ⟨S4x256x64, extractStridedSlice S4x256x64 ![0, 0, 64] (m ((c : Thread nD τ).loc main_arg5)) slices_S4x256x128_S4x256x64_0_0_64⟩]
    concatenates_S4x256x64_S4x256x64_S4x256x64_S4x256x64_S4x256x256_d2) bitsLt_bf16_f32 from rfl]
  pointwise
  blk_point []

/-- The scaled queries that the call is given. -/
theorem queries_entry (c : Dev nD) (i : S4x4096x512.Idx) :
    V m c main_v2 i = (show EReal from m ((c : Thread nD τ).loc main_arg1) i) * Ideal.ofBits .f32 0x3E000000#32 := by
  rw [show V m c main_v2 = truncf (F := Ideal) .bf16 (mulf (F := Ideal) (m ((c : Thread nD τ).loc main_arg1))
    (broadcastInDim S4x4096x512 ![] bcast_S_S4x4096x512 (constant (F := Ideal) S_ .f32 0x3E000000#32))) bitsLt_bf16_f32 from rfl]
  rfl

set_option maxHeartbeats 2000000 in
/-- The key band at a grid point. -/
theorem keys_at (c : Dev nD) (t : Fin cfg0.N) (s : Fin 384) (l : Fin 256) :
    k0_pay3 (F := Ideal) (iblk m c 2 t) (iblk m c 3 t) (iblk m c 4 t) (ix2 s l)
      = V m c main_v6 (ix3 ⟨t.val / 32, (idx t).2.2.2.2.2.2.2.2.2.2.2⟩ ⟨kidx (t.val % 32) s, kidx_lt (by omega) s.isLt⟩ l) := by
  pointwise [k0_pay3]
  split_ifs
  all_goals (blk_ext [iblk, idx t, kidx]; all_goals (split_ifs <;> omega))

set_option maxHeartbeats 2000000 in
/-- The value band at a grid point. -/
theorem vals_at (c : Dev nD) (t : Fin cfg0.N) (s : Fin 384) (l : Fin 256) :
    k0_pay4 (F := Ideal) (iblk m c 5 t) (iblk m c 6 t) (iblk m c 7 t) (ix2 s l)
      = V m c main_v10 (ix3 ⟨t.val / 32, (idx t).2.2.2.2.2.2.2.2.2.2.2⟩ ⟨kidx (t.val % 32) s, kidx_lt (by omega) s.isLt⟩ l) := by
  pointwise [k0_pay4]
  split_ifs
  all_goals (blk_ext [iblk, idx t, kidx]; all_goals (split_ifs <;> omega))

end Cert.KernelIdeal.RefValue

end
-- ==== Proof.AttnFinal.lean ====
module

public import proofs.«01_k».proof.Proof.AttnValue

@[expose] public section

set_option maxRecDepth 16384

noncomputable section
open Idealize.ShloMosaic Idealize.ShloMosaic.TcCoe Idealize.SL.Sem

namespace Cert.KernelIdeal.RefValue
open Cert.KernelIdeal Cert.KernelIdeal.Gen Cert.AttnMath Cert.AttnRow

variable (m : (ℓ : Loc nD τ sig) → Buf (Elt Ideal) ℓ)

/-- Rows with the same scores, sinks and values are the same. -/
theorem row_congr {nl nx : ℕ} {sl sl' : Fin nl → EReal} {sx sx' : Fin nx → EReal} {sk sk' : EReal} {vl vl' : Fin nl → EReal} {vx vx' : Fin nx → EReal}
    (h1 : ∀ s, sl s = sl' s) (h2 : ∀ x, sx x = sx' x) (h3 : sk = sk') (h4 : ∀ s, vl s = vl' s) (h5 : ∀ x, vx x = vx' x) :
    row sl sx sk vl vx = row sl' sx' sk' vl' vx' := by
  rw [funext h1, funext h2, h3, funext h4, funext h5]

/-- The attention, as the array that the call writes. -/
def target (c : Dev nD) : FVec Ideal S4x4096x512 .bf16 := fun i =>
  attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

/-- The row of the first KV head, its lanes counted from the head's own. -/
theorem row0_core (v9 v16 : FVec Ideal S384x256 .bf16) (v38 : IVec S512x384 1) (q0 q1 : FVec Ideal S1x128x128 .bf16) (s0 s1 s2 s3 : Elt Ideal .f32)
    (kx vx : FVec Ideal S1x256x128 .bf16) (cb : ℕ) (hcb : cb < 2) (r l : Fin 128) :
    k0_pay11 (F := Ideal) v9 v16 v38 (k0_pay7 k0_pay2 q0 q1) (k0_pay8 s0 s1 s2 s3) (k0_pay9 vx) (k0_pay10 k0_pay2 q0 q1 kx)
        (ix2 ⟨cb * 256 + (l.val / 64 * 128 + r), by omega⟩ l)
      = row (fun s : Fin 384 => Scalar.select (v38 (ix2 ⟨cb * 256 + (l.val / 64 * 128 + r), by omega⟩ s))
            (∑ d : Fin 64, (if cb = 0 then q0 else q1) (ix3 0 r ⟨l.val / 64 * 64 + d, by omega⟩) * v9 (ix2 s ⟨0 * 128 + (l.val / 64 * 64 + d), by omega⟩)) ⊥)
          (fun x : Fin 256 => ∑ d : Fin 64, (if cb = 0 then q0 else q1) (ix3 0 r ⟨l.val / 64 * 64 + d, by omega⟩) * kx (ix3 0 x ⟨l.val / 64 * 64 + d, by omega⟩))
          (if cb = 0 then (if l.val < 64 then s0 else s1) else (if l.val < 64 then s2 else s3))
          (fun s => v16 (ix2 s ⟨0 * 128 + l, by omega⟩)) (fun x => vx (ix3 0 x l)) := by
  simpa only [Nat.zero_mul, Nat.zero_add] using row0_at v9 v16 v38 q0 q1 s0 s1 s2 s3 kx vx cb hcb r l

/-- One lane of one query row, from the tiles it is computed from, is the attention's entry. -/
theorem core (c : Dev nD) (t : Fin cfg0.N) (kv cb : ℕ) (hkv : kv < 2) (hcb : cb < 2) (r l : Fin 128)
    (qt : FVec Ideal S1x128x128 .bf16) (kx vx : FVec Ideal S1x256x128 .bf16) (sk : EReal) (j0 : Fin 4) (j1 : Fin 4096) (j2 : Fin 512)
    (hj0 : (j0 : ℕ) = t.val / 32) (hj1 : (j1 : ℕ) = t.val % 32 * 128 + r) (hj2 : (j2 : ℕ) = kv * 256 + cb * 128 + l)
    (hq : ∀ e : Fin 128, qt (ix3 0 r e) = V m c main_v2 (ix3 j0 j1 ⟨kv * 256 + cb * 128 + e, by omega⟩))
    (hkx : ∀ (x : Fin 256) (e : Fin 128), kx (ix3 0 x e) = V m c main_v14 (ix3 j0 x ⟨kv * 128 + e, by omega⟩))
    (hvx : ∀ (x : Fin 256) (e : Fin 128), vx (ix3 0 x e) = V m c main_v18 (ix3 j0 x ⟨kv * 128 + e, by omega⟩))
    (hs : sk = m ((c : Thread nD τ).loc main_arg0) (ix1 ⟨kv * 4 + cb * 2 + l / 64, by omega⟩)) :
    row (fun s : Fin 384 => Scalar.select
          (k0_pay6 (BitVec.ofNat 32 ((grid0.coords t) 1 : ℕ)) (iota Kind.tc S512x384 32 [1] iota_S512x384_d1_w32) (k0_pay5 (grid0.coords t)) 256#32
            (ix2 ⟨cb * 256 + (l.val / 64 * 128 + r), by omega⟩ s))
          (∑ d : Fin 64, qt (ix3 0 r ⟨l.val / 64 * 64 + d, by omega⟩)
            * k0_pay3 (F := Ideal) (iblk m c 2 t) (iblk m c 3 t) (iblk m c 4 t) (ix2 s ⟨kv * 128 + (l.val / 64 * 64 + d), by omega⟩)) ⊥)
        (fun x : Fin 256 => ∑ d : Fin 64, qt (ix3 0 r ⟨l.val / 64 * 64 + d, by omega⟩) * kx (ix3 0 x ⟨l.val / 64 * 64 + d, by omega⟩))
        sk
        (fun s => k0_pay4 (F := Ideal) (iblk m c 5 t) (iblk m c 6 t) (iblk m c 7 t) (ix2 s ⟨kv * 128 + l, by omega⟩))
        (fun x => vx (ix3 0 x l))
      = attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) j0 j1 j2 := by
  have hb : (⟨t.val / 32, (idx t).2.2.2.2.2.2.2.2.2.2.2⟩ : Fin 4) = j0 := Fin.ext hj0.symm
  have hn : (j1 : ℕ) / 128 = t.val % 32 := by omega
  have hr : (j1 : ℕ) % 128 = r.val := by omega
  have hlane : (j2 : ℕ) / 256 = kv := by omega
  refine row_congr (fun s => ?_) (fun x => ?_) ?_ (fun s => ?_) (fun x => ?_)
  · unfold local_scores
    rw [mask_at, show (cb * 256 + (l.val / 64 * 128 + r.val)) % 128 = (j1 : ℕ) % 128 by omega, ← hn]
    refine congrArg (fun a => Scalar.select _ a ⊥) (Finset.sum_congr rfl fun d _ => ?_)
    rw [keys_at, keys_entry, hq, queries_entry, hb]
    simp only [← hn]
    have e1 : (⟨kv * 256 + cb * 128 + (l.val / 64 * 64 + d.val), by omega⟩ : Fin 512) = ⟨(j2 : ℕ) / 64 * 64 + d, by omega⟩ := Fin.ext (by simp only; omega)
    rw [e1]
    blk_point []
  · unfold context_scores
    refine Finset.sum_congr rfl fun d _ => ?_
    have e1 : (⟨kv * 256 + cb * 128 + (l.val / 64 * 64 + d.val), by omega⟩ : Fin 512) = ⟨(j2 : ℕ) / 64 * 64 + d, by omega⟩ := Fin.ext (by simp only; omega)
    rw [hq, queries_entry, hkx, ckeys_entry, e1]
    blk_point []
  · rw [hs]
    blk_point []
  · rw [vals_at, vals_entry, hb]
    simp only [← hn]
    blk_point []
  · rw [hvx, cvals_entry]
    blk_point []

set_option maxHeartbeats 2000000 in
/-- The array after the run is the attention. -/
theorem final (c : Dev nD) : (dats m 0 c).arrAt 10 (cfgs 0).N = target m c := by
  refine (dats m 0 c).arrAt_eq_of_covers 10 _ (by decide +kernel) fun t _ y => ?_
  blk_simp
  rw [after0_10]
  unfold outsAt0 out0_A_10
  frame_out
  generalize hj : (((View.whole main_v19).slice (win0_10.rect t)).emb y) = j
  have hj0 : ((j 0 : Fin 4) : ℕ) = t.val / 32 := by subst hj; blk_simp [idx t] <;> try omega
  have hj1 : ((j 1 : Fin 4096) : ℕ) = t.val % 32 * 128 + (y 1 : ℕ) := by subst hj; blk_simp [idx t] <;> try omega
  have hj2 : ((j 2 : Fin 512) : ℕ) = (y 2 : ℕ) := by subst hj; blk_simp [idx t] <;> try omega
  clear hj
  canon_tiles x h
  case piece3 =>
    have hx : x = ix3 0 (x 1) (x 2) := by blk_ext
    rw [hx]
    refine (pay12_at ..).trans ((row0_core _ _ _ _ _ _ _ _ _ _ _ 0 (by omega) _ _).trans ?_)
    refine core m c t 0 0 (by omega) (by omega) (x 1) (x 2) _ _ _ _ (j 0) (j 1) (j 2) hj0 (hj1.trans (by omega)) (hj2.trans (by omega))
      (fun e => ?_) (fun x e => ?_) (fun x e => ?_) ?_
    · show View.ld (iblk m c 1 t) _ _ = _
      pointwise
      blk_ext [iblk, idx t]
    · pointwise
      blk_ext [iblk, idx t]
    · pointwise
      blk_ext [iblk, idx t]
    · show (if (x 2).val < 64 then View.ld (iblk m c 0 t) _ _ else View.ld (iblk m c 0 t) _ _) = _
      split_ifs <;> pointwise <;> blk_ext [iblk, idx t]
  case piece2 =>
    have hx : x = ix3 0 (x 1) (x 2) := by blk_ext
    rw [hx]
    refine (pay14_at ..).trans ((row0_core _ _ _ _ _ _ _ _ _ _ _ 1 (by omega) _ _).trans ?_)
    refine core m c t 0 1 (by omega) (by omega) (x 1) (x 2) _ _ _ _ (j 0) (j 1) (j 2) hj0 (hj1.trans (by omega)) (hj2.trans (by omega))
      (fun e => ?_) (fun x e => ?_) (fun x e => ?_) ?_
    · show View.ld (iblk m c 1 t) _ _ = _
      pointwise
      blk_ext [iblk, idx t]
    · pointwise
      blk_ext [iblk, idx t]
    · pointwise
      blk_ext [iblk, idx t]
    · show (if (x 2).val < 64 then View.ld (iblk m c 0 t) _ _ else View.ld (iblk m c 0 t) _ _) = _
      split_ifs <;> pointwise <;> blk_ext [iblk, idx t]
  case piece1 =>
    have hx : x = ix3 0 (x 1) (x 2) := by blk_ext
    rw [hx]
    refine (pay21_at ..).trans ((row1_at _ _ _ _ _ _ _ _ _ _ _ 0 (by omega) _ _).trans ?_)
    refine core m c t 1 0 (by omega) (by omega) (x 1) (x 2) _ _ _ _ (j 0) (j 1) (j 2) hj0 (hj1.trans (by omega)) (hj2.trans (by omega))
      (fun e => ?_) (fun x e => ?_) (fun x e => ?_) ?_
    · show View.ld (iblk m c 1 t) _ _ = _
      pointwise
      blk_ext [iblk, idx t]
    · pointwise
      blk_ext [iblk, idx t]
    · pointwise
      blk_ext [iblk, idx t]
    · show (if (x 2).val < 64 then View.ld (iblk m c 0 t) _ _ else View.ld (iblk m c 0 t) _ _) = _
      split_ifs <;> pointwise <;> blk_ext [iblk, idx t]
  case piece0 =>
    have hx : x = ix3 0 (x 1) (x 2) := by blk_ext
    rw [hx]
    refine (pay22_at ..).trans ((row1_at _ _ _ _ _ _ _ _ _ _ _ 1 (by omega) _ _).trans ?_)
    refine core m c t 1 1 (by omega) (by omega) (x 1) (x 2) _ _ _ _ (j 0) (j 1) (j 2) hj0 (hj1.trans (by omega)) (hj2.trans (by omega))
      (fun e => ?_) (fun x e => ?_) (fun x e => ?_) ?_
    · show View.ld (iblk m c 1 t) _ _ = _
      pointwise
      blk_ext [iblk, idx t]
    · pointwise
      blk_ext [iblk, idx t]
    · pointwise
      blk_ext [iblk, idx t]
    · show (if (x 2).val < 64 then View.ld (iblk m c 0 t) _ _ else View.ld (iblk m c 0 t) _ _) = _
      split_ifs <;> pointwise <;> blk_ext [iblk, idx t]

end Cert.KernelIdeal.RefValue

end
-- ==== Proof.AttnSoft.lean ====
module

public import proofs.«01_k».proof.Proof.AttnRow

@[expose] public section

set_option maxRecDepth 16384

noncomputable section
open Idealize.ShloMosaic Idealize.ShloMosaic.TcCoe Idealize.SL.Sem

namespace Cert.AttnRow
open Cert.KernelIdeal Cert.AttnMath

/-- A sum over a row's 641 scores: the context's, the sink's and the band's. -/
theorem sum_cut (g : Fin 641 → EReal) : ∑ k, g k
    = (∑ x : Fin 256, g ⟨384 + x, by omega⟩ + g ⟨640, by omega⟩) + ∑ s : Fin 384, g ⟨s, by omega⟩ := by
  rw [show ∑ k, g k = ∑ k : Fin (384 + 256 + 1), g k from rfl, Fin.sum_univ_add, Fin.sum_univ_add, Fin.sum_univ_one, add_assoc, add_comm]
  rfl

/-- The largest of a row's 641 scores. -/
theorem fold_cut (g : Fin 641 → EReal) : Finset.univ.fold max ⊥ g
    = rowMax (fun s : Fin 384 => g ⟨s, by omega⟩) (fun x : Fin 256 => g ⟨384 + x, by omega⟩) (g ⟨640, by omega⟩) := by
  refine eq_of_forall_gt_iff fun c => ?_
  simp only [rowMax, max_lt_iff, fold_max_lt]
  constructor
  · rintro ⟨h0, h⟩
    exact ⟨⟨⟨h0, fun x _ => h _ (Finset.mem_univ _)⟩, h _ (Finset.mem_univ _)⟩, h0, fun s _ => h _ (Finset.mem_univ _)⟩
  · rintro ⟨⟨⟨h0, hx⟩, hk⟩, -, hs⟩
    refine ⟨h0, fun k _ => ?_⟩
    by_cases h1 : k.val < 384
    · exact hs ⟨k, h1⟩ (Finset.mem_univ _)
    · by_cases h2 : k.val < 640
      · have := hx ⟨k.val - 384, by omega⟩ (Finset.mem_univ _)
        rwa [show (⟨384 + (⟨k.val - 384, by omega⟩ : Fin 256).val, by omega⟩ : Fin 641) = k from Fin.ext (by simp only; omega)] at this
      · rwa [show (⟨640, by omega⟩ : Fin 641) = k from Fin.ext (by simp only; omega)] at hk

/-- One eighth. -/
theorem eighth : Ideal.ofBits .f32 0x3E000000#32 = ((1 / 8 : ℝ) : EReal) := by
  simp [Ideal.ofBits, Ideal.ieee, -EReal.coe_mul]; norm_num

/-- A sum of finite numbers is finite. -/
theorem sum_finite {n : ℕ} (f : Fin n → EReal) (h : ∀ i, ∃ r : ℝ, f i = r) : ∃ r : ℝ, ∑ i, f i = r := by
  choose r hr using h
  exact ⟨∑ i, r i, by simp only [hr]; exact coe_sum _ _⟩

variable {sink : FVec Ideal S8 .f32} {q : FVec Ideal S4x4096x512 .f32} {k v : FVec Ideal S4x4096x128 .f32} {kc vc : FVec Ideal S4x256x128 .f32}
  {b : Fin 4} {n : Fin 4096} {l : Fin 512}

/-- A context score of finite queries and keys is finite. -/
theorem context_finite (hq : ∀ i, ∃ r : ℝ, (show EReal from q i) = r) (hkc : ∀ i, ∃ r : ℝ, (show EReal from kc i) = r) (x : Fin 256) :
    ∃ r : ℝ, context_scores q kc b n l x = r := by
  refine sum_finite _ fun d => ?_
  obtain ⟨a, ha⟩ := hq (ix3 b n ⟨l / 64 * 64 + d, by omega⟩)
  obtain ⟨e, he⟩ := hkc (ix3 b x ⟨l / 256 * 64 + d, by omega⟩)
  exact ⟨a * (1 / 8) * e, by rw [EReal.coe_mul, EReal.coe_mul, ← eighth, ← ha, ← he]⟩

/-- A local score of finite queries and keys is below infinity. -/
theorem local_lt (hq : ∀ i, ∃ r : ℝ, (show EReal from q i) = r) (hk : ∀ i, ∃ r : ℝ, (show EReal from k i) = r) (s : Fin 384) :
    local_scores q k b n l s ≠ ⊤ := by
  unfold local_scores Scalar.select
  split_ifs
  · refine Exists.elim (sum_finite _ fun d => ?_) fun r hr => hr ▸ EReal.coe_ne_top r
    obtain ⟨a, ha⟩ := hq (ix3 b n ⟨l / 64 * 64 + d, by omega⟩)
    obtain ⟨e, he⟩ := hk (ix3 b ⟨kidx (n / 128) s, kidx_lt (by omega) s.isLt⟩ ⟨l / 256 * 64 + d, by omega⟩)
    exact ⟨a * (1 / 8) * e, by rw [EReal.coe_mul, EReal.coe_mul, ← eighth, ← ha, ← he]⟩
  · exact bot_ne_top

/-- The softmax over a row's 641 scores, its weights applied to the band's values and the context's. -/
def softmax_row (g : Fin 641 → EReal) (vl : Fin 384 → EReal) (vx : Fin 256 → EReal) : EReal :=
  ∑ s : Fin 384, vl s * Ideal.div (Ideal.exp (g ⟨s, by omega⟩ - max ⊥ (Finset.univ.fold max ⊥ g)))
      (∑ k, Ideal.exp (g k - max ⊥ (Finset.univ.fold max ⊥ g)))
    + ∑ x : Fin 256, vx x * Ideal.div (Ideal.exp (g ⟨384 + x, by omega⟩ - max ⊥ (Finset.univ.fold max ⊥ g)))
      (∑ k, Ideal.exp (g k - max ⊥ (Finset.univ.fold max ⊥ g)))

/-- The attention is the softmax over all of a row's scores, whatever the values at the masked positions. -/
theorem attention_eq (hq : ∀ i, ∃ r : ℝ, (show EReal from q i) = r) (hk : ∀ i, ∃ r : ℝ, (show EReal from k i) = r)
    (hkc : ∀ i, ∃ r : ℝ, (show EReal from kc i) = r) (hs : ∀ i, (show EReal from sink i) ≠ ⊤)
    (g : Fin 641 → EReal) (vl : Fin 384 → EReal) (vx : Fin 256 → EReal)
    (hg : ∀ s : Fin 384, g ⟨s, by omega⟩ = local_scores q k b n l s) (hgx : ∀ x : Fin 256, g ⟨384 + x, by omega⟩ = context_scores q kc b n l x)
    (hgk : g ⟨640, by omega⟩ = sink (ix1 ⟨l / 64, by omega⟩))
    (hvl : ∀ s : Fin 384, valid (n / 128) (n % 128) s = true → (show EReal from v (ix3 b ⟨kidx (n / 128) s, kidx_lt (by omega) s.isLt⟩ ⟨l / 256 * 64 + l % 64, by omega⟩)) = vl s)
    (hvx : ∀ x : Fin 256, vx x = vc (ix3 b x ⟨l / 256 * 64 + l % 64, by omega⟩)) :
    attention sink q k v kc vc b n l = softmax_row g vl vx := by
  unfold attention softmax_row
  rw [row_eq _ vl _ (local_lt hq hk) (context_finite hq hkc) (hs _) ⟨0, by omega⟩ (fun s h => hvl s (by
    by_contra hv
    refine h ?_
    unfold local_scores Scalar.select
    rw [Bool.eq_false_iff.2 hv]
    rfl))]
  rw [max_eq_right bot_le, sum_cut, fold_cut]
  simp only [hg, hgx, hgk, hvx]
  rfl

end Cert.AttnRow

end
-- ==== Proof.AttnRefBand.lean ====
module

public import proofs.«01_k».proof.Proof.Gen.ReferenceIdeal.Read
public import proofs.«01_k».proof.Proof.AttnSoft
public import proofs.«01_k».proof.Proof.AttnMask
public import Idealize.ShloMosaic.Lib.Pipeline.ValueKit
public import Idealize.ShloMosaic.Lib.Pointwise
public import Idealize.ShloMosaic.Lib.ValueIdxRank6

@[expose] public section

set_option maxRecDepth 16384

noncomputable section
open Idealize.ShloMosaic Idealize.ShloMosaic.TcCoe Idealize.SL.Sem

namespace Cert.AttnRef
open Cert.ReferenceIdeal Cert.ReferenceIdeal.Gen Cert.ReferenceIdeal.Read Cert.AttnRow

/-- The padded keys inside the sequence. -/
theorem v7_at (x2 : FVec Ideal S4x4096x128 .f32) (b : Fin 4) (p : Fin 4352) (h : Fin 2) (d : Fin 64) (h0 : 128 ≤ p.val) (h1 : p.val < 4224) :
    val_main_v7 (F := Ideal) x2 (ix4 b p h d) = x2 (ix3 b ⟨p - 128, by omega⟩ ⟨h * 64 + d, by omega⟩) := by
  pointwise [val_main_v7]
  rw [dif_neg (show ¬ p.val < 128 by omega), dif_pos (show p.val - 128 < 4096 by omega)]
  refine (val_main_v1_apply ..).trans (congrArg x2 ?_)
  blk_ext

/-- The padded keys in blocks. -/
theorem v8_at (x2 : FVec Ideal S4x4096x128 .f32) (b : Fin 4) (j : Fin 34) (s : Fin 128) (h : Fin 2) (d : Fin 64) :
    val_main_v8 (F := Ideal) x2 (ix5 b j s h d) = val_main_v7 (F := Ideal) x2 (ix4 b ⟨j * 128 + s, by omega⟩ h d) := by
  refine (val_main_v8_apply ..).trans (congrArg _ ?_)
  blk_ext

/-- The band: three blocks of the padded keys, one after another. -/
theorem v12_at (x2 : FVec Ideal S4x4096x128 .f32) (b : Fin 4) (j : Fin 32) (s : Fin 384) (h : Fin 2) (d : Fin 64) :
    val_main_v12 (F := Ideal) x2 (ix5 b j s h d) = val_main_v7 (F := Ideal) x2 (ix4 b ⟨j * 128 + s, by omega⟩ h d) := by
  have e9 : ∀ (i : Fin 128), val_main_v9 (F := Ideal) x2 (ix5 b j i h d) = val_main_v8 (F := Ideal) x2 (ix5 b ⟨j, by omega⟩ i h d) := fun i => by
    refine (val_main_v9_apply ..).trans (congrArg _ ?_)
    blk_ext
  have e10 : ∀ (i : Fin 128), val_main_v10 (F := Ideal) x2 (ix5 b j i h d) = val_main_v8 (F := Ideal) x2 (ix5 b ⟨1 + j, by omega⟩ i h d) := fun i => by
    refine (val_main_v10_apply ..).trans (congrArg _ ?_)
    blk_ext
  have e11 : ∀ (i : Fin 128), val_main_v11 (F := Ideal) x2 (ix5 b j i h d) = val_main_v8 (F := Ideal) x2 (ix5 b ⟨2 + j, by omega⟩ i h d) := fun i => by
    refine (val_main_v11_apply ..).trans (congrArg _ ?_)
    blk_ext
  pointwise [val_main_v12]
  by_cases a : s.val < 128
  · rw [dif_pos a, e9, v8_at]
  rw [dif_neg a]
  by_cases a' : s.val - 128 < 128
  · rw [dif_pos a', e10, v8_at]
    exact congrArg (fun p => val_main_v7 (F := Ideal) x2 (ix4 b p h d)) (Fin.ext (by simp only; omega))
  · rw [dif_neg a', e11, v8_at]
    exact congrArg (fun p => val_main_v7 (F := Ideal) x2 (ix4 b p h d)) (Fin.ext (by simp only; omega))

/-- The band inside the sequence. -/
theorem keys_band (x2 : FVec Ideal S4x4096x128 .f32) (b : Fin 4) (j : Fin 32) (s : Fin 384) (h : Fin 2) (d : Fin 64) (h0 : 128 ≤ s.val ∨ 0 < j.val) (h1 : s.val < 256 ∨ j.val < 31) :
    val_main_v12 (F := Ideal) x2 (ix5 b j s h d) = x2 (ix3 b ⟨kidx j s, kidx_lt j.isLt s.isLt⟩ ⟨h * 64 + d, by omega⟩) := by
  rw [v12_at, v7_at _ _ _ _ _ (by simp only; omega) (by simp only; omega)]
  exact congrArg (fun p => x2 (ix3 b p _)) (Fin.ext (by unfold kidx; split_ifs <;> simp only <;> omega))

/-- The padded values inside the sequence. -/
theorem v14_at (x3 : FVec Ideal S4x4096x128 .f32) (b : Fin 4) (p : Fin 4352) (h : Fin 2) (d : Fin 64) (h0 : 128 ≤ p.val) (h1 : p.val < 4224) :
    val_main_v14 (F := Ideal) x3 (ix4 b p h d) = x3 (ix3 b ⟨p - 128, by omega⟩ ⟨h * 64 + d, by omega⟩) := by
  pointwise [val_main_v14]
  rw [dif_neg (show ¬ p.val < 128 by omega), dif_pos (show p.val - 128 < 4096 by omega)]
  refine (val_main_v2_apply ..).trans (congrArg x3 ?_)
  blk_ext

/-- The padded values in blocks. -/
theorem v15_at (x3 : FVec Ideal S4x4096x128 .f32) (b : Fin 4) (j : Fin 34) (s : Fin 128) (h : Fin 2) (d : Fin 64) :
    val_main_v15 (F := Ideal) x3 (ix5 b j s h d) = val_main_v14 (F := Ideal) x3 (ix4 b ⟨j * 128 + s, by omega⟩ h d) := by
  refine (val_main_v15_apply ..).trans (congrArg _ ?_)
  blk_ext

/-- The band: three blocks of the padded values, one after another. -/
theorem v19_at (x3 : FVec Ideal S4x4096x128 .f32) (b : Fin 4) (j : Fin 32) (s : Fin 384) (h : Fin 2) (d : Fin 64) :
    val_main_v19 (F := Ideal) x3 (ix5 b j s h d) = val_main_v14 (F := Ideal) x3 (ix4 b ⟨j * 128 + s, by omega⟩ h d) := by
  have e9 : ∀ (i : Fin 128), val_main_v16 (F := Ideal) x3 (ix5 b j i h d) = val_main_v15 (F := Ideal) x3 (ix5 b ⟨j, by omega⟩ i h d) := fun i => by
    refine (val_main_v16_apply ..).trans (congrArg _ ?_)
    blk_ext
  have e10 : ∀ (i : Fin 128), val_main_v17 (F := Ideal) x3 (ix5 b j i h d) = val_main_v15 (F := Ideal) x3 (ix5 b ⟨1 + j, by omega⟩ i h d) := fun i => by
    refine (val_main_v17_apply ..).trans (congrArg _ ?_)
    blk_ext
  have e11 : ∀ (i : Fin 128), val_main_v18 (F := Ideal) x3 (ix5 b j i h d) = val_main_v15 (F := Ideal) x3 (ix5 b ⟨2 + j, by omega⟩ i h d) := fun i => by
    refine (val_main_v18_apply ..).trans (congrArg _ ?_)
    blk_ext
  pointwise [val_main_v19]
  by_cases a : s.val < 128
  · rw [dif_pos a, e9, v15_at]
  rw [dif_neg a]
  by_cases a' : s.val - 128 < 128
  · rw [dif_pos a', e10, v15_at]
    exact congrArg (fun p => val_main_v14 (F := Ideal) x3 (ix4 b p h d)) (Fin.ext (by simp only; omega))
  · rw [dif_neg a', e11, v15_at]
    exact congrArg (fun p => val_main_v14 (F := Ideal) x3 (ix4 b p h d)) (Fin.ext (by simp only; omega))

/-- The band inside the sequence. -/
theorem vals_band (x3 : FVec Ideal S4x4096x128 .f32) (b : Fin 4) (j : Fin 32) (s : Fin 384) (h : Fin 2) (d : Fin 64) (h0 : 128 ≤ s.val ∨ 0 < j.val) (h1 : s.val < 256 ∨ j.val < 31) :
    val_main_v19 (F := Ideal) x3 (ix5 b j s h d) = x3 (ix3 b ⟨kidx j s, kidx_lt j.isLt s.isLt⟩ ⟨h * 64 + d, by omega⟩) := by
  rw [v19_at, v14_at _ _ _ _ _ (by simp only; omega) (by simp only; omega)]
  exact congrArg (fun p => x3 (ix3 b p _)) (Fin.ext (by unfold kidx; split_ifs <;> simp only <;> omega))

end Cert.AttnRef

end
-- ==== Proof.AttnRefMask.lean ====
module

public import proofs.«01_k».proof.Proof.Gen.ReferenceIdeal.Read
public import proofs.«01_k».proof.Proof.AttnSoft
public import proofs.«01_k».proof.Proof.AttnMask
public import Idealize.ShloMosaic.Lib.Pipeline.ValueKit
public import Idealize.ShloMosaic.Lib.Pointwise
public import Idealize.ShloMosaic.Lib.ValueIdxRank6

@[expose] public section

set_option maxRecDepth 16384

noncomputable section
open Idealize.ShloMosaic Idealize.ShloMosaic.TcCoe Idealize.SL.Sem

namespace Cert.AttnRef
open Cert.ReferenceIdeal Cert.ReferenceIdeal.Gen Cert.ReferenceIdeal.Read Cert.AttnRow

/-- The mask bit: the window around the query's own position, inside the sequence. -/
theorem mask_bit (j : Fin 32) (r : Fin 128) (s : Fin 384) :
    val_main_v55 (F := Ideal) (ix3 j r s) = BitVec.ofBool (valid j r s) := by
  pointwise [val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_c, val_main_c_2, val_main_c_3, val_main_c_4, val_main_c_5, val_main_c_6]
  rw [AttnMask.word_ofNat s, AttnMask.word_ofNat j, AttnMask.word_ofNat r, show (128#32) = AttnMask.word 128 from rfl, show (0#32) = AttnMask.word 0 from rfl,
    show (4096#32) = AttnMask.word 4096 from rfl, AttnMask.subi_word, AttnMask.subi_word, AttnMask.absi_word (by omega) (by omega), AttnMask.muli_word,
    AttnMask.addi_word, AttnMask.subi_word,
    AttnMask.sle_word (by have := abs_nonneg ((s : ℤ) - 128 - r); omega) (abs_lt.mpr (by omega)) (by omega) (by omega),
    AttnMask.sge_word (by omega) (by omega) (by omega) (by omega), AttnMask.slt_word (by omega) (by omega) (by omega) (by omega),
    WordArith.andi_ofBool, WordArith.andi_ofBool, ← Bool.decide_and, ← Bool.decide_and, valid]
  congr 1
  rw [decide_eq_decide, abs_le]
  omega

end Cert.AttnRef

end
-- ==== Proof.AttnRefScore.lean ====
module

public import proofs.«01_k».proof.Proof.Gen.ReferenceIdeal.Read
public import proofs.«01_k».proof.Proof.AttnSoft
public import proofs.«01_k».proof.Proof.AttnMask
public import Idealize.ShloMosaic.Lib.Pipeline.ValueKit
public import Idealize.ShloMosaic.Lib.Pointwise
public import Idealize.ShloMosaic.Lib.ValueIdxRank6

@[expose] public section

set_option maxRecDepth 16384

noncomputable section
open Idealize.ShloMosaic Idealize.ShloMosaic.TcCoe Idealize.SL.Sem

namespace Cert.AttnRef
open Cert.ReferenceIdeal Cert.ReferenceIdeal.Gen Cert.ReferenceIdeal.Read Cert.AttnRow

/-- The queries by block, head group and lane. -/
theorem v5_at (x1 : FVec Ideal S4x4096x512 .f32) (b : Fin 4) (j : Fin 32) (r : Fin 128) (h : Fin 2) (g : Fin 4) (d : Fin 64) :
    val_main_v5 (F := Ideal) x1 (ix6 b j r h g d) = x1 (ix3 b ⟨j * 128 + r, by omega⟩ ⟨h * 256 + g * 64 + d, by omega⟩) := by
  pointwise [val_main_v5, val_main_v0]
  blk_ext

/-- The scores against the band, before the mask. -/
theorem v23_at (x1 : FVec Ideal S4x4096x512 .f32) (x2 : FVec Ideal S4x4096x128 .f32) (b : Fin 4) (j : Fin 32) (h : Fin 2) (g : Fin 4) (r : Fin 128) (s : Fin 384) :
    val_main_v23 (F := Ideal) x1 x2 (ix6 b j h g r s)
      = (∑ d : Fin 64, val_main_v12 (F := Ideal) x2 (ix5 b j s h d) * x1 (ix3 b ⟨j * 128 + r, by omega⟩ ⟨h * 256 + g * 64 + d, by omega⟩))
        * Ideal.ofBits .f32 0x3E000000#32 := by
  refine (val_main_v23_apply ..).trans ?_
  rw [val_main_v21_apply, val_main_v20_apply, val_main_v22_apply]
  refine congrArg (fun a : EReal => a * Ideal.ofBits .f32 0x3E000000#32) (Finset.sum_congr rfl fun d _ => ?_)
  refine congrArg₂ (fun a b : EReal => a * b) (congrArg _ ?_) ((congrArg (val_main_v5 (F := Ideal) x1) ?_).trans (v5_at x1 b j r h g d)) <;> blk_ext

/-- The scores against the context. -/
theorem v61_at (x1 : FVec Ideal S4x4096x512 .f32) (x4 : FVec Ideal S4x256x128 .f32) (b : Fin 4) (j : Fin 32) (h : Fin 2) (g : Fin 4) (r : Fin 128) (x : Fin 256) :
    val_main_v61 (F := Ideal) x1 x4 (ix6 b j h g r x)
      = (∑ d : Fin 64, x4 (ix3 b x ⟨h * 64 + d, by omega⟩) * x1 (ix3 b ⟨j * 128 + r, by omega⟩ ⟨h * 256 + g * 64 + d, by omega⟩))
        * Ideal.ofBits .f32 0x3E000000#32 := by
  refine (val_main_v61_apply ..).trans ?_
  rw [val_main_v59_apply, val_main_v58_apply, val_main_v60_apply]
  refine congrArg (fun a : EReal => a * Ideal.ofBits .f32 0x3E000000#32) (Finset.sum_congr rfl fun d _ => ?_)
  rw [val_main_v3_apply]
  refine congrArg₂ (fun a b : EReal => a * b) (congrArg _ ?_) ((congrArg (val_main_v5 (F := Ideal) x1) ?_).trans (v5_at x1 b j r h g d)) <;> blk_ext

/-- The sink of a head. -/
theorem v64_at (x0 : FVec Ideal S8 .f32) (b : Fin 4) (j : Fin 32) (h : Fin 2) (g : Fin 4) (r : Fin 128) :
    val_main_v64 (F := Ideal) x0 (ix6 b j h g r (0 : Fin 1)) = x0 (ix1 ⟨h * 4 + g, by omega⟩) := by
  rw [val_main_v64_apply, val_main_v63_apply, val_main_v62_apply]
  refine congrArg _ ?_
  blk_ext

/-- The scores against the band, masked. -/
theorem v57_at (x1 : FVec Ideal S4x4096x512 .f32) (x2 : FVec Ideal S4x4096x128 .f32) (b : Fin 4) (j : Fin 32) (h : Fin 2) (g : Fin 4) (r : Fin 128) (s : Fin 384) :
    val_main_v57 (F := Ideal) x1 x2 (ix6 b j h g r s)
      = Scalar.select (val_main_v55 (F := Ideal) (ix3 j r s)) (val_main_v23 (F := Ideal) x1 x2 (ix6 b j h g r s)) ⊥ := by
  rw [val_main_v57_apply, val_main_call0_v1_apply, val_main_v56_apply, val_main_call0_v2_apply]
  refine congrArg₂ (fun a c => Scalar.select a (val_main_v23 (F := Ideal) x1 x2 (ix6 b j h g r s)) c) (congrArg _ ?_) ?_
  · blk_ext
  · show Ideal.ofBits .f32 0xFF800000#32 = ⊥
    simp [Ideal.ofBits, Ideal.ieee]

/-- The 641 scores of a row. -/
theorem v65_at (x0 : FVec Ideal S8 .f32) (x1 : FVec Ideal S4x4096x512 .f32) (x2 : FVec Ideal S4x4096x128 .f32) (x4 : FVec Ideal S4x256x128 .f32) (b : Fin 4) (j : Fin 32) (h : Fin 2) (g : Fin 4) (r : Fin 128) (k : Fin 641) :
    val_main_v65 (F := Ideal) x0 x1 x2 x4 (ix6 b j h g r k)
      = if h1 : k.val < 384 then val_main_v57 (F := Ideal) x1 x2 (ix6 b j h g r ⟨k, h1⟩)
        else if h2 : k.val - 384 < 256 then val_main_v61 (F := Ideal) x1 x4 (ix6 b j h g r ⟨k - 384, h2⟩)
        else val_main_v64 (F := Ideal) x0 (ix6 b j h g r (0 : Fin 1)) := by
  pointwise [val_main_v65]
  by_cases a : k.val < 384
  · rw [dif_pos a, dif_pos a]
  rw [dif_neg a, dif_neg a]
  by_cases a' : k.val - 384 < 256
  · rw [dif_pos a', dif_pos a']
  · rw [dif_neg a', dif_neg a']
    refine congrArg _ ?_
    blk_ext

end Cert.AttnRef

end
-- ==== Proof.AttnRefSoft.lean ====
module

public import proofs.«01_k».proof.Proof.Gen.ReferenceIdeal.Read
public import proofs.«01_k».proof.Proof.AttnSoft
public import proofs.«01_k».proof.Proof.AttnMask
public import Idealize.ShloMosaic.Lib.Pipeline.ValueKit
public import Idealize.ShloMosaic.Lib.Pointwise
public import Idealize.ShloMosaic.Lib.ValueIdxRank6

@[expose] public section

set_option maxRecDepth 16384

noncomputable section
open Idealize.ShloMosaic Idealize.ShloMosaic.TcCoe Idealize.SL.Sem

namespace Cert.AttnRef
open Cert.ReferenceIdeal Cert.ReferenceIdeal.Gen Cert.ReferenceIdeal.Read Cert.AttnRow

/-- The largest of a row's scores. -/
theorem v68_at (x0 : FVec Ideal S8 .f32) (x1 : FVec Ideal S4x4096x512 .f32) (x2 : FVec Ideal S4x4096x128 .f32) (x4 : FVec Ideal S4x256x128 .f32) (b : Fin 4) (j : Fin 32) (h : Fin 2) (g : Fin 4) (r : Fin 128) :
    val_main_v68 (F := Ideal) x0 x1 x2 x4 (ix5 b j h g r) = max ⊥ (Finset.univ.fold max ⊥ fun k : Fin 641 => val_main_v65 (F := Ideal) x0 x1 x2 x4 (ix6 b j h g r k)) := by
  have hb : Ideal.ofBits .f32 0xFF800000#32 = ⊥ := by simp [Ideal.ofBits, Ideal.ieee]
  have hf : val_main_v66 (F := Ideal) x0 x1 x2 x4 (ix5 b j h g r)
      = Finset.univ.fold max ⊥ fun k : Fin 641 => val_main_v65 (F := Ideal) x0 x1 x2 x4 (ix6 b j h g r k) := by
    unfold val_main_v66
    generalize val_main_v65 (F := Ideal) x0 x1 x2 x4 = y
    refine (Host.reduce_eq_fold_single (α := EReal) max y (val_main_cst_9 (F := Ideal)) reducesTo_S4x32x2x4x128x641_S4x32x2x4x128_d5 (by decide) h_S_ (ix5 b j h g r)).trans ?_
    rw [show val_main_cst_9 (F := Ideal) (Shape.Idx.first h_S_) = ⊥ from hb]
    refine congrArg (Finset.fold max ⊥ · Finset.univ) (funext fun k => congrArg y (funext fun a => Fin.ext ?_))
    match a with
    | ⟨0, _⟩ => rfl
    | ⟨1, _⟩ => rfl
    | ⟨2, _⟩ => rfl
    | ⟨3, _⟩ => rfl
    | ⟨4, _⟩ => rfl
    | ⟨5, _⟩ => rfl
  rw [val_main_v68_apply, val_main_v67_apply, hf]
  exact congrArg (fun a : EReal => max a _) hb

/-- A score's weight before the division. -/
theorem v72_at (x0 : FVec Ideal S8 .f32) (x1 : FVec Ideal S4x4096x512 .f32) (x2 : FVec Ideal S4x4096x128 .f32) (x4 : FVec Ideal S4x256x128 .f32) (b : Fin 4) (j : Fin 32) (h : Fin 2) (g : Fin 4) (r : Fin 128) (k : Fin 641) :
    val_main_v72 (F := Ideal) x0 x1 x2 x4 (ix6 b j h g r k)
      = Ideal.exp (val_main_v65 (F := Ideal) x0 x1 x2 x4 (ix6 b j h g r k) - val_main_v68 (F := Ideal) x0 x1 x2 x4 (ix5 b j h g r)) := by
  rw [val_main_v72_apply, val_main_v71_apply, val_main_v70_apply, val_main_v69_apply]
  refine congrArg (fun a => Ideal.exp (_ - val_main_v68 (F := Ideal) x0 x1 x2 x4 a)) ?_
  blk_ext

/-- A score's weight. -/
theorem v76_at (x0 : FVec Ideal S8 .f32) (x1 : FVec Ideal S4x4096x512 .f32) (x2 : FVec Ideal S4x4096x128 .f32) (x4 : FVec Ideal S4x256x128 .f32) (b : Fin 4) (j : Fin 32) (h : Fin 2) (g : Fin 4) (r : Fin 128) (k : Fin 641) :
    val_main_v76 (F := Ideal) x0 x1 x2 x4 (ix6 b j h g r k)
      = Ideal.div (val_main_v72 (F := Ideal) x0 x1 x2 x4 (ix6 b j h g r k)) (∑ i : Fin 641, val_main_v72 (F := Ideal) x0 x1 x2 x4 (ix6 b j h g r i)) := by
  rw [val_main_v76_apply, val_main_v75_apply, val_main_v74_apply, val_main_v73_apply]
  refine congrArg (fun a => Ideal.div (val_main_v72 (F := Ideal) x0 x1 x2 x4 (ix6 b j h g r k)) a) ?_
  rw [show val_main_cst_11 (F := Ideal) (Shape.Idx.first h_S_) = (0 : EReal) from Ideal.ofBits_zero_f32, zero_add]
  refine Finset.sum_congr rfl fun i _ => congrArg _ ?_
  blk_ext

/-- The context's values by head group and lane. -/
theorem v4_at (x5 : FVec Ideal S4x256x128 .f32) (b : Fin 4) (x : Fin 256) (h : Fin 2) (d : Fin 64) :
    val_main_v4 (F := Ideal) x5 (ix4 b x h d) = x5 (ix3 b x ⟨h * 64 + d, by omega⟩) := by
  refine (val_main_v4_apply ..).trans (congrArg _ ?_)
  blk_ext

/-- The result by row and lane: the band's part and the context's. -/
theorem v85_at (x0 : FVec Ideal S8 .f32) (x1 : FVec Ideal S4x4096x512 .f32) (x2 x3 : FVec Ideal S4x4096x128 .f32) (x4 x5 : FVec Ideal S4x256x128 .f32) (b : Fin 4) (n : Fin 4096) (l : Fin 512) :
    val_main_v85 (F := Ideal) x0 x1 x2 x3 x4 x5 (ix3 b n l)
      = softmax_row (fun k : Fin 641 => val_main_v65 (F := Ideal) x0 x1 x2 x4 (ix6 b (⟨n / 128, by omega⟩ : Fin 32) (⟨l / 256, by omega⟩ : Fin 2) (⟨l / 64 % 4, by omega⟩ : Fin 4) (⟨n % 128, by omega⟩ : Fin 128) k))
          (fun s => val_main_v19 (F := Ideal) x3 (ix5 b (⟨n / 128, by omega⟩ : Fin 32) s (⟨l / 256, by omega⟩ : Fin 2) (⟨l % 64, by omega⟩ : Fin 64)))
          (fun x => x5 (ix3 b x ⟨l / 256 * 64 + l % 64, by omega⟩)) := by
  have e84 : val_main_v84 (F := Ideal) x0 x1 x2 x3 x4 x5 (ix3 b n l)
      = val_main_v83 (F := Ideal) x0 x1 x2 x3 x4 x5 (ix6 b (⟨n / 128, by omega⟩ : Fin 32) (⟨n % 128, by omega⟩ : Fin 128) (⟨l / 256, by omega⟩ : Fin 2) (⟨l / 64 % 4, by omega⟩ : Fin 4) (⟨l % 64, by omega⟩ : Fin 64)) := by
    pointwise [val_main_v84]
    blk_ext
  refine (val_main_v85_apply ..).trans (e84.trans ?_)
  rw [val_main_v83_apply, val_main_v79_apply, val_main_v78_apply, val_main_v82_apply, val_main_v81_apply]
  have row := fun k : Fin 641 => v76_at x0 x1 x2 x4 b (⟨n / 128, by omega⟩ : Fin 32) (⟨l / 256, by omega⟩ : Fin 2) (⟨l / 64 % 4, by omega⟩ : Fin 4) (⟨n % 128, by omega⟩ : Fin 128) k
  simp only [v72_at, v68_at] at row
  unfold softmax_row
  refine congrArg₂ (fun a b : EReal => a + b) (Finset.sum_congr rfl fun s _ => ?_) (Finset.sum_congr rfl fun x _ => ?_)
  · rw [val_main_v77_apply]
    refine congrArg₂ (fun a b : EReal => a * b) (congrArg _ ?_) ((congrArg (val_main_v76 (F := Ideal) x0 x1 x2 x4) ?_).trans (row ⟨s, by omega⟩)) <;> blk_ext
  · rw [val_main_v80_apply]
    refine congrArg₂ (fun a b : EReal => a * b) ((congrArg (val_main_v4 (F := Ideal) x5) ?_).trans (v4_at x5 b x (⟨l / 256, by omega⟩ : Fin 2) (⟨l % 64, by omega⟩ : Fin 64))) ((congrArg (val_main_v76 (F := Ideal) x0 x1 x2 x4) ?_).trans (row ⟨384 + x, by omega⟩)) <;> blk_ext

end Cert.AttnRef

end
-- ==== Proof.AttnRef.lean ====
module

public import proofs.«01_k».proof.Proof.AttnRefBand
public import proofs.«01_k».proof.Proof.AttnRefMask
public import proofs.«01_k».proof.Proof.AttnRefScore
public import proofs.«01_k».proof.Proof.AttnRefSoft
public import proofs.«01_k».proof.Proof.AttnSoft
public import Idealize.ShloMosaic.Lib.Pipeline.ValueKit
public import Idealize.ShloMosaic.Lib.Pointwise
public import Idealize.ShloMosaic.Lib.ValueIdxRank6

@[expose] public section

set_option maxRecDepth 16384

noncomputable section
open Idealize.ShloMosaic Idealize.ShloMosaic.TcCoe Idealize.SL.Sem

namespace Cert.AttnRef
open Cert.ReferenceIdeal Cert.ReferenceIdeal.Gen Cert.ReferenceIdeal.Read Cert.AttnRow

/-- The scale of a dot product, taken inside. -/
theorem scale_dot {n : ℕ} (f g : Fin n → EReal) :
    (∑ d, f d * g d) * Ideal.ofBits .f32 0x3E000000#32 = ∑ d, g d * Ideal.ofBits .f32 0x3E000000#32 * f d := by
  rw [AttnMath.sum_mul _ _ (by rw [eighth]; exact EReal.coe_nonneg.2 (by norm_num)) (by rw [eighth]; exact EReal.coe_ne_top _)]
  exact Finset.sum_congr rfl fun d _ => by rw [mul_comm (f d), mul_right_comm]

/-- A selection reads its first operand only where the bit is set. -/
theorem select_congr {p : Bool} {x y z : EReal} (h : p = true → x = y) : Scalar.select (BitVec.ofBool p) x z = Scalar.select (BitVec.ofBool p) y z := by
  cases p
  · rfl
  · rw [h rfl]

/-- The reference's attention is the kernel's, at finite queries and keys and sinks below `⊤`. -/
theorem reference_attention (x0 : FVec Ideal S8 .f32) (x1 : FVec Ideal S4x4096x512 .f32) (x2 x3 : FVec Ideal S4x4096x128 .f32) (x4 x5 : FVec Ideal S4x256x128 .f32)
    (hs : ∀ i, (show EReal from x0 i) ≠ ⊤) (hq : ∀ i, ∃ r : ℝ, (show EReal from x1 i) = r) (hk : ∀ i, ∃ r : ℝ, (show EReal from x2 i) = r)
    (hkc : ∀ i, ∃ r : ℝ, (show EReal from x4 i) = r) (b : Fin 4) (n : Fin 4096) (l : Fin 512) :
    val_main_v85 (F := Ideal) x0 x1 x2 x3 x4 x5 (ix3 b n l) = attention x0 x1 x2 x3 x4 x5 b n l := by
  refine (v85_at x0 x1 x2 x3 x4 x5 b n l).trans (attention_eq (v := x3) (vc := x5) hq hk hkc hs _ _ _ ?_ ?_ ?_ ?_ ?_).symm
  · intro s
    rw [v65_at, dif_pos s.isLt, v57_at, mask_bit]
    unfold local_scores
    refine select_congr fun hv => ?_
    simp only [valid, decide_eq_true_eq] at hv
    rw [v23_at, scale_dot]
    refine Finset.sum_congr rfl fun d _ => ?_
    rw [keys_band x2 b _ _ _ _ (by simp only; omega) (by simp only; omega)]
    refine congrArg (fun a : EReal => a * Ideal.ofBits .f32 0x3E000000#32 * _) (congrArg₂ (fun p t => x1 (ix3 b p t)) (Fin.ext ?_) (Fin.ext ?_)) <;> simp only <;> omega
  · intro x
    rw [v65_at, dif_neg (by simp only; omega), dif_pos (by simp only; omega), v61_at, scale_dot]
    unfold context_scores
    refine Finset.sum_congr rfl fun d _ => ?_
    refine congrArg₂ (fun a c : EReal => a * Ideal.ofBits .f32 0x3E000000#32 * c) (congrArg₂ (fun p t => x1 (ix3 b p t)) (Fin.ext ?_) (Fin.ext ?_)) (congrArg (fun u => x4 (ix3 b u _)) (Fin.ext ?_)) <;> simp only <;> omega
  · rw [v65_at, dif_neg (by simp only; omega), dif_neg (by simp only; omega), v64_at]
    exact congrArg (fun p => x0 (ix1 p)) (Fin.ext (by simp only; omega))
  · intro s hv
    simp only [valid, decide_eq_true_eq] at hv
    exact (vals_band x3 b (⟨n / 128, by omega⟩ : Fin 32) s (⟨l / 256, by omega⟩ : Fin 2) (⟨l % 64, by omega⟩ : Fin 64) (by simp only; omega) (by simp only; omega)).symm
  · exact fun _ => rfl

end Cert.AttnRef

end
-- ==== Proof.AttnClaim.lean ====
module

public import proofs.«01_k».proof.Defs
public import proofs.«01_k».proof.Proof.AttnFinal
public import proofs.«01_k».proof.Proof.AttnRef
public import proofs.«01_k».proof.Proof.Gen.ReferenceIdeal.Run
public import Idealize.ShloMosaic.Lib.Quiescent

@[expose] public section

set_option maxRecDepth 16384

noncomputable section
open Idealize.ShloMosaic Idealize.ShloMosaic.TcCoe Idealize.SL.Sem

namespace Cert.Proof.Attn

/-- The precondition's shape relations. -/
theorem facts : Cert.Pre_finite_scores.Facts where
  bcast_S_S8 := by decide
  bcast_S_S4x4096x512 := by decide
  bcast_S_S4x4096x128 := by decide
  bcast_S_S4x256x128 := by decide

/-- The number the precondition compares with is infinity. -/
theorem infinity : Ideal.ofBits .f32 0x7F800000#32 = ⊤ := by simp [Ideal.ofBits, Ideal.ieee]

/-- A comparison's bit is set only where the comparison holds. -/
theorem below_top {a : EReal} (h : Ideal.cmp .olt a (Ideal.ofBits .f32 0x7F800000#32) = 1#1) : a < ⊤ := by
  rw [infinity] at h
  by_contra hn
  simp [Ideal.cmp, hn] at h

/-- A number whose absolute value is below infinity is finite. -/
theorem real_of_abs {a : EReal} (h : max a (-a) < ⊤) : ∃ r : ℝ, a = r := by
  induction a with
  | bot => simp at h
  | top => simp at h
  | coe r => exact ⟨r, rfl⟩

/-- The windowed attention kernel and the reference attention end with one result, at finite queries and keys and sinks below infinity. -/
theorem algebraic : Cert.algebraic_KernelIdeal_ReferenceIdeal_pre_finite_scores (hKernelIdeal := Cert.KernelIdeal.Gen.facts)
    (hReferenceIdeal := Cert.ReferenceIdeal.Gen.facts) (hPre_finite_scores := facts) := by
  intro m g m' g' hpre hagree
  refine ⟨_, (θ_run Cert.KernelIdeal.defs _ _).mono
      (fun _ h c => ⟨(h c).1.trans (Cert.KernelIdeal.RefValue.final m c), (h c).2⟩)
      (Cert.KernelIdeal.Value.run_blocks (F := Ideal) m g), ?_⟩
  refine (θ_run Cert.ReferenceIdeal.defs _ _).mono
    (fun _ h c => ⟨((h c).1.trans (Cert.ReferenceIdeal.Read.val_main_v85_eq m' c)).trans ?_, (h c).2⟩)
    (Cert.ReferenceIdeal.Value.run (F := Ideal) m' g')
  obtain ⟨h0, h1, h2, h3, h4, h5⟩ := hagree c
  obtain ⟨p0, p1, p2, p4⟩ := hpre c
  rw [h0, h1, h2, h3, h4, h5]
  funext i
  rw [eq_ix3 i]
  exact Cert.AttnRef.reference_attention _ _ _ _ _ _
    (fun i => (below_top (congrFun p0 i)).ne) (fun i => real_of_abs (below_top (congrFun p1 i)))
    (fun i => real_of_abs (below_top (congrFun p2 i))) (fun i => real_of_abs (below_top (congrFun p4 i))) _ _ _

end Cert.Proof.Attn

end
-- ==== Proof.FfnValue.lean ====
module

public import proofs.«01_k».proof.Proof.Gen.KernelFfnIdeal.Value
public import proofs.«01_k».proof.Proof.Gen.ReferenceFfnIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelFfnIdeal.RefValue
open Cert.KernelFfnIdeal Cert.KernelFfnIdeal.Gen
open Cert.ReferenceFfnIdeal.Read

variable (m : (ℓ : Loc nD τ sig) → Buf (Elt Ideal) ℓ)

/-- Every window's block index at a grid point. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![t.val / 8, t.val % 8, 0] ∧ t.val / 8 < 4 :=
  (by decide +kernel : ∀ t : Fin grid0.N, _)

set_option maxHeartbeats 2000000 in
/-- What the body stores at an index of its block is the reference's result at the array index the block places it at. -/
theorem point (c : Dev nD) (t : Fin cfg0.N) (y) :
    k0_pay1 (k0_pay2 (iblk m c 0 t)) (k0_pay3 (View.ld (iblk m c 1 t) r0_3)) (k0_pay4 (iblk m c 0 t) (View.ld (iblk m c 1 t) r0_1) (View.ld (iblk m c 1 t) r0_2) (View.ld (iblk m c 2 t) r0_4) (iblk m c 3 t)) (iblk m c 4 t) (iblk m c 5 t) y
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  pointwise [Ideal.logistic, k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_cst_3, val_main_v31, val_main_v32, val_main_v33, val_main_v34, val_main_v35, val_main_call0_v0, val_main_call0_v1, val_main_call0_cst, val_main_call0_v2, val_main_call0_v3, val_main_call0_cst_0, val_main_call0_v4, val_main_call0_v5, val_main_v36, val_main_v37, val_main_v38, val_main_v39, val_main_v40, val_main_v41, val_main_v42, val_main_cst_4, val_main_v43, val_main_v44, val_main_cst_5, val_main_v45, val_main_v46, val_main_cst_6, val_main_v47, val_main_v48, val_main_v49, val_main_v50, val_main_v51, val_main_v52, val_main_v53, val_main_v54]

  blk_point [iblk, V, idx t]

/-- The result array after the run is the reference's result. -/
theorem final (c : Dev nD) : (dats m 0 c).arrAt 6 (cfgs 0).N
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out

  exact point m c t y

end Cert.KernelFfnIdeal.RefValue

end
-- ==== Proof.FfnClaim.lean ====
module

public import proofs.«01_k».proof.Defs
public import proofs.«01_k».proof.Proof.FfnValue
public import proofs.«01_k».proof.Proof.Gen.ReferenceFfnIdeal.Run
public import Idealize.ShloMosaic.Lib.Quiescent

@[expose] public section

set_option maxRecDepth 16384

noncomputable section
open Idealize.ShloMosaic Idealize.ShloMosaic.TcCoe Idealize.SL.Sem

namespace Cert.Proof.Ffn

/-- The reference half-step's frame: its run, and no counter to drain. -/
theorem frame_reference : Cert.quiescent_ReferenceFfnIdeal (hReferenceFfnIdeal := Cert.ReferenceFfnIdeal.Gen.facts) :=
  fun m ρ _ => (θ_run Cert.ReferenceFfnIdeal.defs _ _).mono
    (fun r h => ⟨fun c => (h c).2, sem_eq_zero_of_no_sems (by decide) r.2⟩)
    (Cert.ReferenceFfnIdeal.Value.run (F := Ideal) m ρ)

/-- The half-step kernel and the reference half-step end with one result. -/
theorem algebraic : Cert.algebraic_KernelFfnIdeal_ReferenceFfnIdeal (hKernelFfnIdeal := Cert.KernelFfnIdeal.Gen.facts)
    (hReferenceFfnIdeal := Cert.ReferenceFfnIdeal.Gen.facts) := by
  intro m g m' g' _ hagree
  refine ⟨_, (θ_run Cert.KernelFfnIdeal.defs _ _).mono
      (fun _ h c => ⟨(h c).1.trans (Cert.KernelFfnIdeal.RefValue.final m c), (h c).2⟩)
      (Cert.KernelFfnIdeal.Value.run_blocks (F := Ideal) m g), ?_⟩
  refine (θ_run Cert.ReferenceFfnIdeal.defs _ _).mono
    (fun _ h c => ⟨((h c).1.trans (Cert.ReferenceFfnIdeal.Read.val_main_v54_eq m' c)).trans ?_, (h c).2⟩)
    (Cert.ReferenceFfnIdeal.Value.run (F := Ideal) m' g')
  obtain ⟨h0, h1, h2, h3, h4, h5⟩ := hagree c
  rw [h0, h1, h2, h3, h4, h5]

end Cert.Proof.Ffn

end
-- ==== Proof.FfnFirstValue.lean ====
module

public import proofs.«01_k».proof.Proof.Gen.KernelFfnFirstIdeal.Value
public import proofs.«01_k».proof.Proof.Gen.ReferenceFfnFirstIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelFfnFirstIdeal.RefValue
open Cert.KernelFfnFirstIdeal Cert.KernelFfnFirstIdeal.Gen
open Cert.ReferenceFfnFirstIdeal.Read

variable (m : (ℓ : Loc nD τ sig) → Buf (Elt Ideal) ℓ)

/-- Every window's block index at a grid point. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0]
    ∧ win0_5.index t = ![t.val / 8, t.val % 8, 0] ∧ t.val / 8 < 4 :=
  (by decide +kernel : ∀ t : Fin grid0.N, _)

set_option maxHeartbeats 2000000 in
/-- The result array after the run is the reference's result: at each index of a block, what the body stores there. -/
theorem final (c : Dev nD) : (dats m 0 c).arrAt 5 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [Ideal.logistic, k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_cst_3, val_main_v31, val_main_v32, val_main_v33, val_main_v34, val_main_v35, val_main_call0_v0, val_main_call0_v1, val_main_call0_cst, val_main_call0_v2, val_main_call0_v3, val_main_call0_cst_0, val_main_call0_v4, val_main_call0_v5, val_main_v36, val_main_v37, val_main_v38, val_main_v39, val_main_v40, val_main_v41]
  blk_point [iblk, V, idx t]

end Cert.KernelFfnFirstIdeal.RefValue

end
-- ==== Proof.FfnFirstClaim.lean ====
module

public import proofs.«01_k».proof.Defs
public import proofs.«01_k».proof.Proof.FfnFirstValue
public import proofs.«01_k».proof.Proof.Gen.ReferenceFfnFirstIdeal.Run
public import Idealize.ShloMosaic.Lib.Quiescent

@[expose] public section

set_option maxRecDepth 16384

noncomputable section
open Idealize.ShloMosaic Idealize.ShloMosaic.TcCoe Idealize.SL.Sem

namespace Cert.Proof.FfnFirst

/-- The reference's frame: its run, and no counter to drain. -/
theorem frame_reference : Cert.quiescent_ReferenceFfnFirstIdeal (hReferenceFfnFirstIdeal := Cert.ReferenceFfnFirstIdeal.Gen.facts) :=
  fun m ρ _ => (θ_run Cert.ReferenceFfnFirstIdeal.defs _ _).mono
    (fun r h => ⟨fun c => (h c).2, sem_eq_zero_of_no_sems (by decide) r.2⟩)
    (Cert.ReferenceFfnFirstIdeal.Value.run (F := Ideal) m ρ)

/-- The first half-step kernel and the reference first half-step end with one result. -/
theorem algebraic : Cert.algebraic_KernelFfnFirstIdeal_ReferenceFfnFirstIdeal (hKernelFfnFirstIdeal := Cert.KernelFfnFirstIdeal.Gen.facts)
    (hReferenceFfnFirstIdeal := Cert.ReferenceFfnFirstIdeal.Gen.facts) := by
  intro m g m' g' _ hagree
  refine ⟨_, (θ_run Cert.KernelFfnFirstIdeal.defs _ _).mono
      (fun _ h c => ⟨(h c).1.trans (Cert.KernelFfnFirstIdeal.RefValue.final m c), (h c).2⟩)
      (Cert.KernelFfnFirstIdeal.Value.run_blocks (F := Ideal) m g), ?_⟩
  refine (θ_run Cert.ReferenceFfnFirstIdeal.defs _ _).mono
    (fun _ h c => ⟨((h c).1.trans (Cert.ReferenceFfnFirstIdeal.Read.val_main_v41_eq m' c)).trans ?_, (h c).2⟩)
    (Cert.ReferenceFfnFirstIdeal.Value.run (F := Ideal) m' g')
  obtain ⟨h0, h1, h2, h3, h4⟩ := hagree c
  rw [h0, h1, h2, h3, h4]

end Cert.Proof.FfnFirst

end
-- ==== Proof.FfnSecondValue.lean ====
module

public import proofs.«01_k».proof.Proof.Gen.KernelFfnSecondIdeal.Value
public import proofs.«01_k».proof.Proof.Gen.ReferenceFfnSecondIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelFfnSecondIdeal.RefValue
open Cert.KernelFfnSecondIdeal Cert.KernelFfnSecondIdeal.Gen
open Cert.ReferenceFfnSecondIdeal.Read

variable (m : (ℓ : Loc nD τ sig) → Buf (Elt Ideal) ℓ)

/-- Every window's block index at a grid point. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0]
    ∧ win0_5.index t = ![t.val / 8, t.val % 8, 0] ∧ t.val / 8 < 4 :=
  (by decide +kernel : ∀ t : Fin grid0.N, _)

set_option maxHeartbeats 2000000 in
/-- The result array after the run is the reference's result: at each index of a block, what the body stores there. -/
theorem final (c : Dev nD) : (dats m 0 c).arrAt 5 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [Ideal.logistic, k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_cst_3, val_main_v31, val_main_v32, val_main_v33, val_main_v34, val_main_v35, val_main_call0_v0, val_main_call0_v1, val_main_call0_cst, val_main_call0_v2, val_main_call0_v3, val_main_call0_cst_0, val_main_call0_v4, val_main_call0_v5, val_main_v36, val_main_v37, val_main_v38, val_main_v39, val_main_v40, val_main_v41]
  blk_point [iblk, V, idx t]

end Cert.KernelFfnSecondIdeal.RefValue

end
-- ==== Proof.FfnSecondClaim.lean ====
module

public import proofs.«01_k».proof.Defs
public import proofs.«01_k».proof.Proof.FfnSecondValue
public import proofs.«01_k».proof.Proof.Gen.ReferenceFfnSecondIdeal.Run
public import Idealize.ShloMosaic.Lib.Quiescent

@[expose] public section

set_option maxRecDepth 16384

noncomputable section
open Idealize.ShloMosaic Idealize.ShloMosaic.TcCoe Idealize.SL.Sem

namespace Cert.Proof.FfnSecond

/-- The reference's frame: its run, and no counter to drain. -/
theorem frame_reference : Cert.quiescent_ReferenceFfnSecondIdeal (hReferenceFfnSecondIdeal := Cert.ReferenceFfnSecondIdeal.Gen.facts) :=
  fun m ρ _ => (θ_run Cert.ReferenceFfnSecondIdeal.defs _ _).mono
    (fun r h => ⟨fun c => (h c).2, sem_eq_zero_of_no_sems (by decide) r.2⟩)
    (Cert.ReferenceFfnSecondIdeal.Value.run (F := Ideal) m ρ)

/-- The second half-step kernel and the reference second half-step end with one result. -/
theorem algebraic : Cert.algebraic_KernelFfnSecondIdeal_ReferenceFfnSecondIdeal (hKernelFfnSecondIdeal := Cert.KernelFfnSecondIdeal.Gen.facts)
    (hReferenceFfnSecondIdeal := Cert.ReferenceFfnSecondIdeal.Gen.facts) := by
  intro m g m' g' _ hagree
  refine ⟨_, (θ_run Cert.KernelFfnSecondIdeal.defs _ _).mono
      (fun _ h c => ⟨(h c).1.trans (Cert.KernelFfnSecondIdeal.RefValue.final m c), (h c).2⟩)
      (Cert.KernelFfnSecondIdeal.Value.run_blocks (F := Ideal) m g), ?_⟩
  refine (θ_run Cert.ReferenceFfnSecondIdeal.defs _ _).mono
    (fun _ h c => ⟨((h c).1.trans (Cert.ReferenceFfnSecondIdeal.Read.val_main_v41_eq m' c)).trans ?_, (h c).2⟩)
    (Cert.ReferenceFfnSecondIdeal.Value.run (F := Ideal) m' g')
  obtain ⟨h0, h1, h2, h3, h4⟩ := hagree c
  rw [h0, h1, h2, h3, h4]

end Cert.Proof.FfnSecond

end
-- ==== Proof.FfnContextValue.lean ====
module

public import proofs.«01_k».proof.Proof.Gen.KernelFfnContextIdeal.Value
public import proofs.«01_k».proof.Proof.Gen.ReferenceFfnContextIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelFfnContextIdeal.RefValue
open Cert.KernelFfnContextIdeal Cert.KernelFfnContextIdeal.Gen
open Cert.ReferenceFfnContextIdeal.Read

variable (m : (ℓ : Loc nD τ sig) → Buf (Elt Ideal) ℓ)

/-- Every window's block index at a grid point. -/
theorem idx : ∀ t : Fin cfg0.N, win0_0.index t = ![t.val, 0, 0] ∧ win0_1.index t = ![4, 0, 0]
    ∧ win0_2.index t = ![0, 0] ∧ win0_3.index t = ![0, 0] ∧ win0_4.index t = ![0, 0]
    ∧ win0_5.index t = ![t.val, 0, 0] ∧ t.val < 4 :=
  (by decide +kernel : ∀ t : Fin grid0.N, _)

set_option maxHeartbeats 2000000 in
/-- The result array after the run is the reference's result: at each index of a block, what the body stores there. -/
theorem final (c : Dev nD) : (dats m 0 c).arrAt 5 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [Ideal.logistic, k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_cst_3, val_main_v31, val_main_v32, val_main_v33, val_main_v34, val_main_v35, val_main_call0_v0, val_main_call0_v1, val_main_call0_cst, val_main_call0_v2, val_main_call0_v3, val_main_call0_cst_0, val_main_call0_v4, val_main_call0_v5, val_main_v36, val_main_v37, val_main_v38, val_main_v39, val_main_v40, val_main_v41]
  blk_point [iblk, V, idx t]

end Cert.KernelFfnContextIdeal.RefValue

end
-- ==== Proof.FfnContextClaim.lean ====
module

public import proofs.«01_k».proof.Defs
public import proofs.«01_k».proof.Proof.FfnContextValue
public import proofs.«01_k».proof.Proof.Gen.ReferenceFfnContextIdeal.Run
public import Idealize.ShloMosaic.Lib.Quiescent

@[expose] public section

set_option maxRecDepth 16384

noncomputable section
open Idealize.ShloMosaic Idealize.ShloMosaic.TcCoe Idealize.SL.Sem

namespace Cert.Proof.FfnContext

/-- The reference's frame: its run, and no counter to drain. -/
theorem frame_reference : Cert.quiescent_ReferenceFfnContextIdeal (hReferenceFfnContextIdeal := Cert.ReferenceFfnContextIdeal.Gen.facts) :=
  fun m ρ _ => (θ_run Cert.ReferenceFfnContextIdeal.defs _ _).mono
    (fun r h => ⟨fun c => (h c).2, sem_eq_zero_of_no_sems (by decide) r.2⟩)
    (Cert.ReferenceFfnContextIdeal.Value.run (F := Ideal) m ρ)

/-- The context half-step kernel and the reference context half-step end with one result. -/
theorem algebraic : Cert.algebraic_KernelFfnContextIdeal_ReferenceFfnContextIdeal (hKernelFfnContextIdeal := Cert.KernelFfnContextIdeal.Gen.facts)
    (hReferenceFfnContextIdeal := Cert.ReferenceFfnContextIdeal.Gen.facts) := by
  intro m g m' g' _ hagree
  refine ⟨_, (θ_run Cert.KernelFfnContextIdeal.defs _ _).mono
      (fun _ h c => ⟨(h c).1.trans (Cert.KernelFfnContextIdeal.RefValue.final m c), (h c).2⟩)
      (Cert.KernelFfnContextIdeal.Value.run_blocks (F := Ideal) m g), ?_⟩
  refine (θ_run Cert.ReferenceFfnContextIdeal.defs _ _).mono
    (fun _ h c => ⟨((h c).1.trans (Cert.ReferenceFfnContextIdeal.Read.val_main_v41_eq m' c)).trans ?_, (h c).2⟩)
    (Cert.ReferenceFfnContextIdeal.Value.run (F := Ideal) m' g')
  obtain ⟨h0, h1, h2, h3, h4⟩ := hagree c
  rw [h0, h1, h2, h3, h4]

end Cert.Proof.FfnContext

end
-- ==== Proof.OutValue.lean ====
module

public import proofs.«01_k».proof.Proof.Gen.KernelOutIdeal.Value
public import proofs.«01_k».proof.Proof.Gen.ReferenceOutIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelOutIdeal.RefValue
open Cert.KernelOutIdeal Cert.KernelOutIdeal.Gen
open Cert.ReferenceOutIdeal.Read

variable (m : (ℓ : Loc nD τ sig) → Buf (Elt Ideal) ℓ)

/-- A sum over the 1024 mixed lanes, group by group. -/
theorem sum_groups (f : Fin 1024 → EReal) : ∑ x, f x
    = ∑ x : Fin 256, f ⟨x, by omega⟩ + ∑ x : Fin 512, f ⟨256 + x, by omega⟩ + ∑ x : Fin 256, f ⟨768 + x, by omega⟩ := by
  rw [show ∑ x, f x = ∑ x : Fin (256 + 512 + 256), f x from rfl, Fin.sum_univ_add, Fin.sum_univ_add]
  rfl

/-- The first group's lanes are the spectral mixer's. -/
theorem group0 (x : Fin 256) : (x.val < 256) = True := eq_true x.isLt

/-- The second group's lanes are past the first. -/
theorem group1 (x : Fin 512) : (256 + x.val < 256) = False := eq_false (by omega)

/-- The second group's lanes are the attention's. -/
theorem group1' (x : Fin 512) : (256 + x.val - 256 < 512) = True := eq_true (by omega)

/-- The third group's lanes are past the first. -/
theorem group2 (x : Fin 256) : (768 + x.val < 256) = False := eq_false (by omega)

/-- The third group's lanes are past the second. -/
theorem group2' (x : Fin 256) : (768 + x.val - 256 < 512) = False := eq_false (by omega)

/-- Every window's block index at a grid point. -/
theorem idx : ∀ t : Fin cfg0.N, win0_0.index t = ![t.val / 8, t.val % 8, 0] ∧ win0_1.index t = ![t.val / 8, 0, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0] ∧ win0_6.index t = ![t.val / 8, t.val % 8, 0]
    ∧ win0_7.index t = ![0, 0] ∧ win0_8.index t = ![0, 0] ∧ win0_9.index t = ![0, 0] ∧ win0_10.index t = ![t.val / 8, t.val % 8, 0] ∧ t.val / 8 < 4 :=
  (by decide +kernel : ∀ t : Fin grid0.N, _)

set_option maxHeartbeats 2000000 in
/-- The result array after the run is the reference's result: at each index of a block, what the body stores there. -/
theorem final (c : Dev nD) : (dats m 0 c).arrAt 10 (cfgs 0).N
    = val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  pointwise [Ideal.logistic, k0_pay1, k0_pay2, k0_pay3, val_main_v0, val_main_v1, val_main_v2, val_main_v3, val_main_v4, val_main_v5, val_main_v6, val_main_v7, val_main_v8, val_main_v9]
  rw [sum_groups]
  simp only [group0, group1, group1', group2, group2', dite_true, dite_false]
  blk_point [iblk, V, idx t]

end Cert.KernelOutIdeal.RefValue

end
-- ==== Proof.OutClaim.lean ====
module

public import proofs.«01_k».proof.Defs
public import proofs.«01_k».proof.Proof.OutValue
public import proofs.«01_k».proof.Proof.Gen.ReferenceOutIdeal.Run
public import Idealize.ShloMosaic.Lib.Quiescent

@[expose] public section

set_option maxRecDepth 16384

noncomputable section
open Idealize.ShloMosaic Idealize.ShloMosaic.TcCoe Idealize.SL.Sem

namespace Cert.Proof.Out

/-- The reference's frame: its run, and no counter to drain. -/
theorem frame_reference : Cert.quiescent_ReferenceOutIdeal (hReferenceOutIdeal := Cert.ReferenceOutIdeal.Gen.facts) :=
  fun m ρ _ => (θ_run Cert.ReferenceOutIdeal.defs _ _).mono
    (fun r h => ⟨fun c => (h c).2, sem_eq_zero_of_no_sems (by decide) r.2⟩)
    (Cert.ReferenceOutIdeal.Value.run (F := Ideal) m ρ)

/-- The output projection kernel and the reference output projection end with one result. -/
theorem algebraic : Cert.algebraic_KernelOutIdeal_ReferenceOutIdeal (hKernelOutIdeal := Cert.KernelOutIdeal.Gen.facts)
    (hReferenceOutIdeal := Cert.ReferenceOutIdeal.Gen.facts) := by
  intro m g m' g' _ hagree
  refine ⟨_, (θ_run Cert.KernelOutIdeal.defs _ _).mono
      (fun _ h c => ⟨(h c).1.trans (Cert.KernelOutIdeal.RefValue.final m c), (h c).2⟩)
      (Cert.KernelOutIdeal.Value.run_blocks (F := Ideal) m g), ?_⟩
  refine (θ_run Cert.ReferenceOutIdeal.defs _ _).mono
    (fun _ h c => ⟨((h c).1.trans (Cert.ReferenceOutIdeal.Read.val_main_v9_eq _ _ _ _ _ _ _ _)).trans ?_, (h c).2⟩)
    (Cert.ReferenceOutIdeal.Value.run (F := Ideal) m' g')
  obtain ⟨h0, h1, h2, h3, h4, h5, h6, h7⟩ := hagree c
  rw [h0, h1, h2, h3, h4, h5, h6, h7]

end Cert.Proof.Out

end
-- ==== Proof.DftValue.lean ====
module

public import proofs.«01_k».proof.Proof.Gen.KernelDftIdeal.Value
public import proofs.«01_k».proof.Proof.Gen.ReferenceDftIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelDftIdeal.RefValue
open Cert.KernelDftIdeal Cert.KernelDftIdeal.Gen
open Cert.ReferenceDftIdeal.Read

variable (m : (ℓ : Loc nD τ sig) → Buf (Elt Ideal) ℓ)

/-- Every window's block index at a grid point. -/
theorem idx : ∀ t : Fin cfg0.N, win0_0.index t = ![t.val / 4, 0] ∧ win0_1.index t = ![t.val / 4, 0]
    ∧ win0_2.index t = ![t.val % 4, 0, 0] ∧ win0_3.index t = ![t.val % 4, t.val / 4, 0] ∧ t.val / 4 < 8 :=
  (by decide +kernel : ∀ t : Fin grid0.N, _)

set_option maxHeartbeats 2000000 in
/-- The result array after the run is the reference's result: at each index of a block, what the body stores there. -/
theorem final (c : Dev nD) : (dats m 0 c).arrAt 3 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [Ideal.logistic, k0_pay1, val_main_v0, val_main_v1, val_main_v2, val_main_v3, val_main_v4, val_main_v5, val_main_v6, val_main_v7]
  refine congrArg₂ (· + ·) (Finset.sum_congr rfl fun x _ => ?_) (Finset.sum_congr rfl fun x _ => ?_) <;> rw [mul_comm]
  all_goals blk_point [iblk, V, idx t]

end Cert.KernelDftIdeal.RefValue

end
-- ==== Proof.DftClaim.lean ====
module

public import proofs.«01_k».proof.Defs
public import proofs.«01_k».proof.Proof.DftValue
public import proofs.«01_k».proof.Proof.Gen.ReferenceDftIdeal.Run
public import Idealize.ShloMosaic.Lib.Quiescent

@[expose] public section

set_option maxRecDepth 16384

noncomputable section
open Idealize.ShloMosaic Idealize.ShloMosaic.TcCoe Idealize.SL.Sem

namespace Cert.Proof.Dft

/-- The reference's frame: its run, and no counter to drain. -/
theorem frame_reference : Cert.quiescent_ReferenceDftIdeal (hReferenceDftIdeal := Cert.ReferenceDftIdeal.Gen.facts) :=
  fun m ρ _ => (θ_run Cert.ReferenceDftIdeal.defs _ _).mono
    (fun r h => ⟨fun c => (h c).2, sem_eq_zero_of_no_sems (by decide) r.2⟩)
    (Cert.ReferenceDftIdeal.Value.run (F := Ideal) m ρ)

/-- The position transform kernel and the reference transform end with one result. -/
theorem algebraic : Cert.algebraic_KernelDftIdeal_ReferenceDftIdeal (hKernelDftIdeal := Cert.KernelDftIdeal.Gen.facts)
    (hReferenceDftIdeal := Cert.ReferenceDftIdeal.Gen.facts) := by
  intro m g m' g' _ hagree
  refine ⟨_, (θ_run Cert.KernelDftIdeal.defs _ _).mono
      (fun _ h c => ⟨(h c).1.trans (Cert.KernelDftIdeal.RefValue.final m c), (h c).2⟩)
      (Cert.KernelDftIdeal.Value.run_blocks (F := Ideal) m g), ?_⟩
  refine (θ_run Cert.ReferenceDftIdeal.defs _ _).mono
    (fun _ h c => ⟨((h c).1.trans (Cert.ReferenceDftIdeal.Read.val_main_v7_eq _ _ _)).trans ?_, (h c).2⟩)
    (Cert.ReferenceDftIdeal.Value.run (F := Ideal) m' g')
  obtain ⟨h0, h1, h2⟩ := hagree c
  rw [h0, h1, h2]

end Cert.Proof.Dft

end
-- ==== Proof.FfnContextSecondValue.lean ====
module

public import proofs.«01_k».proof.Proof.Gen.KernelFfnContextSecondIdeal.Value
public import proofs.«01_k».proof.Proof.Gen.ReferenceFfnContextSecondIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelFfnContextSecondIdeal.RefValue
open Cert.KernelFfnContextSecondIdeal Cert.KernelFfnContextSecondIdeal.Gen
open Cert.ReferenceFfnContextSecondIdeal.Read

variable (m : (ℓ : Loc nD τ sig) → Buf (Elt Ideal) ℓ)

/-- Every window's block index at a grid point. -/
theorem idx : ∀ t : Fin cfg0.N, win0_0.index t = ![t.val, 0, 0] ∧ win0_1.index t = ![4, 0, 0]
    ∧ win0_2.index t = ![0, 0] ∧ win0_3.index t = ![0, 0] ∧ win0_4.index t = ![0, 0]
    ∧ win0_5.index t = ![t.val, 0, 0] ∧ t.val < 4 :=
  (by decide +kernel : ∀ t : Fin grid0.N, _)

set_option maxHeartbeats 2000000 in
/-- The result array after the run is the reference's result: at each index of a block, what the body stores there. -/
theorem final (c : Dev nD) : (dats m 0 c).arrAt 5 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [Ideal.logistic, k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_v24, val_main_v25, val_main_v26, val_main_v27, val_main_v28, val_main_v29, val_main_v30, val_main_cst_3, val_main_v31, val_main_v32, val_main_v33, val_main_v34, val_main_v35, val_main_call0_v0, val_main_call0_v1, val_main_call0_cst, val_main_call0_v2, val_main_call0_v3, val_main_call0_cst_0, val_main_call0_v4, val_main_call0_v5, val_main_v36, val_main_v37, val_main_v38, val_main_v39, val_main_v40, val_main_v41]
  blk_point [iblk, V, idx t]

end Cert.KernelFfnContextSecondIdeal.RefValue

end
-- ==== Proof.FfnContextSecondClaim.lean ====
module

public import proofs.«01_k».proof.Defs
public import proofs.«01_k».proof.Proof.FfnContextSecondValue
public import proofs.«01_k».proof.Proof.Gen.ReferenceFfnContextSecondIdeal.Run
public import Idealize.ShloMosaic.Lib.Quiescent

@[expose] public section

set_option maxRecDepth 16384

noncomputable section
open Idealize.ShloMosaic Idealize.ShloMosaic.TcCoe Idealize.SL.Sem

namespace Cert.Proof.FfnContextSecond

/-- The reference's frame: its run, and no counter to drain. -/
theorem frame_reference : Cert.quiescent_ReferenceFfnContextSecondIdeal (hReferenceFfnContextSecondIdeal := Cert.ReferenceFfnContextSecondIdeal.Gen.facts) :=
  fun m ρ _ => (θ_run Cert.ReferenceFfnContextSecondIdeal.defs _ _).mono
    (fun r h => ⟨fun c => (h c).2, sem_eq_zero_of_no_sems (by decide) r.2⟩)
    (Cert.ReferenceFfnContextSecondIdeal.Value.run (F := Ideal) m ρ)

/-- The context's second half-step kernel and the reference's end with one result. -/
theorem algebraic : Cert.algebraic_KernelFfnContextSecondIdeal_ReferenceFfnContextSecondIdeal (hKernelFfnContextSecondIdeal := Cert.KernelFfnContextSecondIdeal.Gen.facts)
    (hReferenceFfnContextSecondIdeal := Cert.ReferenceFfnContextSecondIdeal.Gen.facts) := by
  intro m g m' g' _ hagree
  refine ⟨_, (θ_run Cert.KernelFfnContextSecondIdeal.defs _ _).mono
      (fun _ h c => ⟨(h c).1.trans (Cert.KernelFfnContextSecondIdeal.RefValue.final m c), (h c).2⟩)
      (Cert.KernelFfnContextSecondIdeal.Value.run_blocks (F := Ideal) m g), ?_⟩
  refine (θ_run Cert.ReferenceFfnContextSecondIdeal.defs _ _).mono
    (fun _ h c => ⟨((h c).1.trans (Cert.ReferenceFfnContextSecondIdeal.Read.val_main_v41_eq m' c)).trans ?_, (h c).2⟩)
    (Cert.ReferenceFfnContextSecondIdeal.Value.run (F := Ideal) m' g')
  obtain ⟨h0, h1, h2, h3, h4⟩ := hagree c
  rw [h0, h1, h2, h3, h4]

end Cert.Proof.FfnContextSecond

end
-- ==== Proof.OutContextValue.lean ====
module

public import proofs.«01_k».proof.Proof.OutValue
public import proofs.«01_k».proof.Proof.Gen.KernelOutContextIdeal.Value
public import proofs.«01_k».proof.Proof.Gen.ReferenceOutContextIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelOutContextIdeal.RefValue
open Cert.KernelOutContextIdeal Cert.KernelOutContextIdeal.Gen
open Cert.ReferenceOutContextIdeal.Read

variable (m : (ℓ : Loc nD τ sig) → Buf (Elt Ideal) ℓ)

/-- Every window's block index at a grid point. -/
theorem idx : ∀ t : Fin cfg0.N, win0_0.index t = ![t.val, 0, 0] ∧ win0_1.index t = ![4, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![0, 0] ∧ win0_8.index t = ![0, 0] ∧ win0_9.index t = ![0, 0] ∧ win0_10.index t = ![t.val, 0, 0] ∧ t.val < 4 :=
  (by decide +kernel : ∀ t : Fin grid0.N, _)

set_option maxHeartbeats 2000000 in
/-- The result array after the run is the reference's result: at each index of a block, what the body stores there. -/
theorem final (c : Dev nD) : (dats m 0 c).arrAt 10 (cfgs 0).N
    = val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]; frame_out
  pointwise [Ideal.logistic, k0_pay1, k0_pay2, k0_pay3, val_main_v0, val_main_v1, val_main_v2, val_main_v3, val_main_v4, val_main_v5, val_main_v6, val_main_v7, val_main_v8, val_main_v9]
  rw [Cert.KernelOutIdeal.RefValue.sum_groups]
  simp only [Cert.KernelOutIdeal.RefValue.group0, Cert.KernelOutIdeal.RefValue.group1, Cert.KernelOutIdeal.RefValue.group1', Cert.KernelOutIdeal.RefValue.group2, Cert.KernelOutIdeal.RefValue.group2', dite_true, dite_false]
  blk_point [iblk, V, idx t]

end Cert.KernelOutContextIdeal.RefValue

end
-- ==== Proof.OutContextClaim.lean ====
module

public import proofs.«01_k».proof.Defs
public import proofs.«01_k».proof.Proof.OutContextValue
public import proofs.«01_k».proof.Proof.Gen.ReferenceOutContextIdeal.Run
public import Idealize.ShloMosaic.Lib.Quiescent

@[expose] public section

set_option maxRecDepth 16384

noncomputable section
open Idealize.ShloMosaic Idealize.ShloMosaic.TcCoe Idealize.SL.Sem

namespace Cert.Proof.OutContext

/-- The reference's frame: its run, and no counter to drain. -/
theorem frame_reference : Cert.quiescent_ReferenceOutContextIdeal (hReferenceOutContextIdeal := Cert.ReferenceOutContextIdeal.Gen.facts) :=
  fun m ρ _ => (θ_run Cert.ReferenceOutContextIdeal.defs _ _).mono
    (fun r h => ⟨fun c => (h c).2, sem_eq_zero_of_no_sems (by decide) r.2⟩)
    (Cert.ReferenceOutContextIdeal.Value.run (F := Ideal) m ρ)

/-- The context's output projection kernel and the reference's end with one result. -/
theorem algebraic : Cert.algebraic_KernelOutContextIdeal_ReferenceOutContextIdeal (hKernelOutContextIdeal := Cert.KernelOutContextIdeal.Gen.facts)
    (hReferenceOutContextIdeal := Cert.ReferenceOutContextIdeal.Gen.facts) := by
  intro m g m' g' _ hagree
  refine ⟨_, (θ_run Cert.KernelOutContextIdeal.defs _ _).mono
      (fun _ h c => ⟨(h c).1.trans (Cert.KernelOutContextIdeal.RefValue.final m c), (h c).2⟩)
      (Cert.KernelOutContextIdeal.Value.run_blocks (F := Ideal) m g), ?_⟩
  refine (θ_run Cert.ReferenceOutContextIdeal.defs _ _).mono
    (fun _ h c => ⟨((h c).1.trans (Cert.ReferenceOutContextIdeal.Read.val_main_v9_eq _ _ _ _ _ _ _ _)).trans ?_, (h c).2⟩)
    (Cert.ReferenceOutContextIdeal.Value.run (F := Ideal) m' g')
  obtain ⟨h0, h1, h2, h3, h4, h5, h6, h7⟩ := hagree c
  rw [h0, h1, h2, h3, h4, h5, h6, h7]

end Cert.Proof.OutContext

end
-- ==== Proof.InMixBlk.lean ====
module

public import proofs.«01_k».proof.Proof.Gen.KernelInMixIdeal.Value
public import proofs.«01_k».proof.Proof.Gen.ReferenceInMixIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.KernelInMixIdeal.RefValue
open Cert.KernelInMixIdeal Cert.KernelInMixIdeal.Gen
open Cert.ReferenceInMixIdeal.Read

variable (m : (ℓ : Loc nD τ sig) → Buf (Elt Ideal) ℓ)

/-- Every window's block index at a grid point, of the windows that the mixers' results read or are. -/
theorem idx : ∀ t : Fin cfg0.N, win0_0.index t = ![t.val / 8, t.val % 8, 0] ∧ win0_3.index t = ![t.val / 8, 0, 0]
    ∧ win0_4.index t = ![0, 0] ∧ win0_5.index t = ![0, 0] ∧ win0_10.index t = ![t.val % 8, 0] ∧ win0_11.index t = ![t.val % 8, 0]
    ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0] ∧ t.val / 8 < 4 :=
  (by decide +kernel : ∀ t : Fin grid0.N, _)

/-- The joined weights that the call is given. -/
theorem weights_def (c : Dev nD) : V m c main_v4 = truncf (F := Ideal) .bf16 (concatenate S1024x2432 1
    [⟨S1024x512, m ((c : Thread nD τ).loc main_arg3)⟩,
     ⟨S1024x1792, extractStridedSlice S1024x1792 ![0, 256] (m ((c : Thread nD τ).loc main_arg4)) slices_S1024x2064_S1024x1792_0_256⟩,
     ⟨S1024x16, extractStridedSlice S1024x16 ![0, 2048] (m ((c : Thread nD τ).loc main_arg4)) slices_S1024x2064_S1024x16_0_2048⟩,
     ⟨S1024x112, broadcastInDim S1024x112 ![] bcast_S_S1024x112 (constant (F := Ideal) S_ .f32 0x00000000#32)⟩]
    concatenates_S1024x512_S1024x1792_S1024x16_S1024x112_S1024x2432_d1) bitsLt_bf16_f32 := rfl

/-- The joined weights' first columns are the spectral fold's. -/
theorem weights_p (c : Dev nD) (k : Fin 1024) (j : Fin 512) :
    V m c main_v4 (ix2 k ⟨j, by omega⟩) = m ((c : Thread nD τ).loc main_arg3) (ix2 k j) := by
  rw [weights_def]
  pointwise

/-- The joined weights' further columns are the input weights' from the first past the spectral group. -/
theorem weights_in (c : Dev nD) (k : Fin 1024) (j : Fin 1792) :
    V m c main_v4 (ix2 k ⟨512 + j, by omega⟩) = m ((c : Thread nD τ).loc main_arg4) (ix2 k ⟨256 + j, by omega⟩) := by
  rw [weights_def]
  pointwise

/-- A table laid out twice along its lanes. -/
theorem tile_at (x : FVec Ideal S4096x64 .f32) (n : Fin 4096) (l : Fin 128) :
    shapeCast S4096x128 (broadcastInDim S1x4096x2x64 ![0, 1, 2, 3] bcast_S1x4096x1x64_S1x4096x2x64_0_1_2_3
      (shapeCast S1x4096x1x64 x shapeCasts_S4096x64_S1x4096x1x64)) shapeCasts_S1x4096x2x64_S4096x128 (ix2 n l)
      = x (ix2 n ⟨l % 64, by omega⟩) := by
  refine (shapeCast_apply _ shapeCasts_S1x4096x2x64_S4096x128 (ix2 n l) (ix4 0 n ⟨l / 64, by omega⟩ ⟨l % 64, by omega⟩) ?_).trans
    ((broadcastInDim_apply _ bcast_S1x4096x1x64_S1x4096x2x64_0_1_2_3 _ _ (ix4 0 n 0 ⟨l % 64, by omega⟩) (fun a => match a with
      | ⟨0, _⟩ => rfl
      | ⟨1, _⟩ => rfl
      | ⟨2, _⟩ => rfl
      | ⟨3, _⟩ => rfl)).trans
    (shapeCast_apply x shapeCasts_S4096x64_S1x4096x1x64 _ (ix2 n ⟨l % 64, by omega⟩) ?_))
  · rw [Shape.rowMajor_val_four, Shape.rowMajor_val_two]
    show ((0 * 4096 + n.val) * 2 + l.val / 64) * 64 + l.val % 64 = n.val * 128 + l.val
    omega
  · rw [Shape.rowMajor_val_four, Shape.rowMajor_val_two]
    show n.val * 64 + l.val % 64 = ((0 * 4096 + n.val) * 1 + 0) * 64 + l.val % 64
    omega

/-- The cosines that the call is given: a head's 64 twice. -/
theorem cos_entry (c : Dev nD) (n : Fin 4096) (l : Fin 128) :
    V m c main_v22 (ix2 n l) = m ((c : Thread nD τ).loc main_arg8) (ix2 n ⟨l % 64, by omega⟩) :=
  tile_at (m ((c : Thread nD τ).loc main_arg8)) n l

/-- The lanes whose number has a clear bit 4. -/
theorem lane16 : ∀ n : Fin 128, IntOp.cmpi CmpIPredicate.eq (IntOp.andi (BitVec.ofNat 32 n.val) 16#32) 0#32 = BitVec.ofBool (n.val / 16 % 2 = 0) := by
  decide +kernel

/-- The choice by that bit. -/
theorem sign_select {α : Type} (n : ℕ) (h : n < 128) (a b : α) :
    Scalar.select (IntOp.cmpi CmpIPredicate.eq (IntOp.andi (BitVec.ofNat 32 n) 16#32) 0#32) a b = if n / 16 % 2 = 0 then a else b := by
  rw [lane16 ⟨n, h⟩]
  by_cases h : n / 16 % 2 = 0
  · rw [if_pos h, decide_eq_true h]; rfl
  · rw [if_neg h, decide_eq_false h]; rfl

/-- Minus one. -/
theorem minus_one : Ideal.ofBits .f32 0xBF800000#32 = -1 := by
  simp [Ideal.ofBits, Ideal.ieee]
  rw [← EReal.coe_mul]
  norm_num

/-- The signed sines that the call is given. -/
theorem sin_entry (c : Dev nD) (n : Fin 4096) (l : Fin 128) :
    V m c main_v28 (ix2 n l) = (show EReal from m ((c : Thread nD τ).loc main_arg9) (ix2 n ⟨l % 64, by omega⟩))
      * (if l.val / 16 % 2 = 0 then -1 else 1) := by
  rw [show V m c main_v28 = shapeCast S4096x128 (broadcastInDim S1x4096x2x64 ![0, 1, 2, 3] bcast_S1x4096x1x64_S1x4096x2x64_0_1_2_3
    (shapeCast S1x4096x1x64 (mulf (F := Ideal) (m ((c : Thread nD τ).loc main_arg9)) (broadcastInDim S4096x64 ![0, 1] bcast_S1x64_S4096x64_0_1
      (broadcastInDim S1x64 ![1] bcast_S64_S1x64_1 (select (cmpi .eq (andi (iotaInDim S64 32 0) (broadcastInDim S64 ![] bcast_S_S64 (constantI S_ 32 16#32)))
        (broadcastInDim S64 ![] bcast_S_S64 (constantI S_ 32 0#32))) (broadcastInDim S64 ![] bcast_S_S64 (constant (F := Ideal) S_ .f32 0xBF800000#32))
        (broadcastInDim S64 ![] bcast_S_S64 (constant (F := Ideal) S_ .f32 0x3F800000#32))))))
      shapeCasts_S4096x64_S1x4096x1x64)) shapeCasts_S1x4096x2x64_S4096x128 from rfl]
  refine (tile_at _ n l).trans ?_
  pointwise
  rw [sign_select _ (by omega), show l.val % 64 / 16 % 2 = l.val / 16 % 2 by omega, minus_one]

set_option maxHeartbeats 2000000 in
/-- A block's modulated normed rows are the reference's. -/
theorem normed_at (c : Dev nD) (t : Fin cfg0.N) (r : Fin 512) (k : Fin 1024) :
    k0_pay4 (F := Ideal) (View.ld (iblk m c 3 t) r0_0) (View.ld (iblk m c 3 t) r0_1) (View.ld (iblk m c 4 t) r0_2) (View.ld (iblk m c 0 t) r0_3) (ix2 r k)
      = val_main_v27 (F := Ideal) (m ((c : Thread nD τ).loc main_arg0)) (m ((c : Thread nD τ).loc main_arg1)) (m ((c : Thread nD τ).loc main_arg2))
        (ix3 ⟨t.val / 8, (idx t).2.2.2.2.2.2.2.2.2.2⟩ ⟨t.val % 8 * 512 + r, by omega⟩ k) := by
  pointwise [k0_pay2, k0_pay3, k0_pay4, val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  blk_point [iblk, V, idx t]

end Cert.KernelInMixIdeal.RefValue

end
-- ==== Proof.InMixRope.lean ====
module

public import proofs.«01_k».proof.Proof.InMixBlk
public import proofs.«01_k».proof.Proof.AttnBlk

@[expose] public section

set_option maxRecDepth 16384

noncomputable section
open Idealize.ShloMosaic Idealize.ShloMosaic.TcCoe Idealize.SL.Sem

namespace Cert.KernelInMixIdeal.RefValue
open Cert.KernelInMixIdeal Cert.KernelInMixIdeal.Gen
open Cert.ReferenceInMixIdeal.Read

/-- The rotary embedding of one head's 64 lanes: each half's two quarters turn into one another. -/
def rope (f cs sn : Fin 64 → EReal) (d : Fin 64) : EReal :=
  f d * cs d + (if d.val / 16 % 2 = 0 then -f ⟨(d + 16) % 64, by omega⟩ else f ⟨(d + 48) % 64, by omega⟩) * sn d

/-- The same of two heads side by side, the sign in the sine. -/
def turn (g cs sn : Fin 128 → EReal) (l : Fin 128) : EReal :=
  g l * cs l + (if l.val / 16 % 2 = 0 then g ⟨(l + 16) % 128, by omega⟩ else g ⟨(l + 112) % 128, by omega⟩) * sn l

/-- The two agree where the sine of the pair is the head's with the sign. -/
theorem turn_rope (g cs sn : Fin 128 → EReal) (c s : Fin 64 → EReal) (hc : ∀ l, cs l = c ⟨l % 64, by omega⟩)
    (hs : ∀ l : Fin 128, sn l = s ⟨l % 64, by omega⟩ * (if l.val / 16 % 2 = 0 then -1 else 1)) (l : Fin 128) :
    turn g cs sn l = rope (fun d => g ⟨l / 64 * 64 + d, by omega⟩) c s ⟨l % 64, by omega⟩ := by
  unfold turn rope
  rw [hc, hs]
  have h0 : (⟨l.val / 64 * 64 + l.val % 64, by omega⟩ : Fin 128) = l := Fin.ext (by dsimp only; omega)
  dsimp only
  rw [h0, show l.val % 64 / 16 % 2 = l.val / 16 % 2 by omega]
  by_cases h : l.val / 16 % 2 = 0
  · rw [if_pos h, if_pos h, if_pos h, mul_neg, mul_one, mul_neg, neg_mul]
    congr 4
    exact Fin.ext (by dsimp only; omega)
  · rw [if_neg h, if_neg h, if_neg h, mul_one]
    congr 3
    exact Fin.ext (by dsimp only; omega)

/-- The lanes' bit, of the lane numbers of one row. -/
theorem pay7_at (l : Fin 128) (a b : EReal) :
    Scalar.select (k0_pay7 (iota Kind.tc S1x128 32 [1] iota_S1x128_d1_w32) 16#32 (ix2 0 l)) a b = if l.val / 16 % 2 = 0 then a else b := by
  pointwise [k0_pay7]
  exact sign_select _ l.isLt a b

/-- The lower half's bit, of the lane numbers of one row. -/
theorem pay8_at (l : Fin 128) (a b : EReal) :
    Scalar.select (k0_pay8 (iota Kind.tc S1x128 32 [1] iota_S1x128_d1_w32) (ix2 0 l)) a b = if l.val < 64 then a else b := by
  pointwise [k0_pay8]
  exact Cert.KernelIdeal.RefValue.low_select l a b

section pieces
variable (u : FVec Ideal S512x2432 .f32) (cs sn : FVec Ideal S512x128 .f32) (r : Fin 512) (l : Fin 128)

/-- Two heads' columns of the projection from column `B` on, turned. -/
abbrev turned (B : ℕ) (hB : B < 2304) : EReal :=
  turn (fun l => u (ix2 r ⟨B + l, by omega⟩)) (fun l => cs (ix2 r l)) (fun l => sn (ix2 r l)) l

/-- The queries' four stores. -/
theorem pay10_at : k0_pay10 (F := Ideal) u (iota Kind.tc S1x128 32 [1] iota_S1x128_d1_w32) 16#32 cs sn (ix3 0 r l)
    = turned u cs sn r l 512 (by omega) * Ideal.ofBits .f32 0x3E000000#32 := by
  pointwise [k0_pay10, k0_pay9]
  rw [pay7_at]
  unfold turned turn
  blk_point []

theorem pay11_at : k0_pay11 (F := Ideal) u (iota Kind.tc S1x128 32 [1] iota_S1x128_d1_w32) 16#32 cs sn (ix3 0 r l)
    = turned u cs sn r l 640 (by omega) * Ideal.ofBits .f32 0x3E000000#32 := by
  pointwise [k0_pay11, k0_pay9]
  rw [pay7_at]
  unfold turned turn
  blk_point []

theorem pay13_at : k0_pay13 (F := Ideal) (k0_pay7 (iota Kind.tc S1x128 32 [1] iota_S1x128_d1_w32) 16#32) cs (k0_pay9 sn) (k0_pay12 u) (ix3 0 r l)
    = turned u cs sn r l 768 (by omega) * Ideal.ofBits .f32 0x3E000000#32 := by
  pointwise [k0_pay13, k0_pay12, k0_pay9]
  rw [pay7_at]
  unfold turned turn
  blk_point []

theorem pay14_at : k0_pay14 (F := Ideal) u (k0_pay7 (iota Kind.tc S1x128 32 [1] iota_S1x128_d1_w32) 16#32) cs (k0_pay9 sn) (ix3 0 r l)
    = turned u cs sn r l 896 (by omega) * Ideal.ofBits .f32 0x3E000000#32 := by
  pointwise [k0_pay14, k0_pay9]
  rw [pay7_at]
  unfold turned turn
  blk_point []

/-- The keys, both heads. -/
theorem pay15_at : k0_pay15 (F := Ideal) u (k0_pay7 (iota Kind.tc S1x128 32 [1] iota_S1x128_d1_w32) 16#32) cs (k0_pay9 sn) (ix2 r l)
    = turned u cs sn r l 1024 (by omega) := by
  pointwise [k0_pay15, k0_pay9]
  rw [pay7_at]
  unfold turned turn
  blk_point []

/-- A row turned by half its lanes. -/
theorem half_turn (x : FVec Ideal S512x128 .f32) :
    dynamicRotate 1 64#32 none x rotates_S512x128_d1 (ix2 r l) = x (ix2 r ⟨(l + 64) % 128, by omega⟩) := by
  pointwise
  blk_point []

/-- Head 0's keys, twice. -/
theorem pay19_at : k0_pay19 (F := Ideal) (k0_pay17 u (k0_pay7 (iota Kind.tc S1x128 32 [1] iota_S1x128_d1_w32) 16#32)
      (k0_pay8 (iota Kind.tc S1x128 32 [1] iota_S1x128_d1_w32)) cs (k0_pay9 sn)) (ix3 0 r l)
    = turned u cs sn r ⟨l % 64, by omega⟩ 1024 (by omega) := by
  pointwise [k0_pay19, k0_pay17]
  rw [pay8_at, k0_pay16]
  dsimp only
  rw [half_turn, pay15_at, pay15_at]
  by_cases h : l.val < 64
  · rw [if_pos h]
    exact congrArg (fun l => turned u cs sn r l 1024 (by omega)) (Fin.ext (by dsimp only; omega))
  · rw [if_neg h]
    exact congrArg (fun l => turned u cs sn r l 1024 (by omega)) (Fin.ext (by dsimp only; omega))

/-- Head 1's keys, twice. -/
theorem pay20_at : k0_pay20 (F := Ideal) (k0_pay15 u (k0_pay7 (iota Kind.tc S1x128 32 [1] iota_S1x128_d1_w32) 16#32) cs (k0_pay9 sn))
      (k0_pay16 u (k0_pay7 (iota Kind.tc S1x128 32 [1] iota_S1x128_d1_w32) 16#32) cs (k0_pay9 sn))
      (k0_pay18 (k0_pay8 (iota Kind.tc S1x128 32 [1] iota_S1x128_d1_w32))) (ix3 0 r l)
    = turned u cs sn r ⟨64 + l % 64, by omega⟩ 1024 (by omega) := by
  pointwise [k0_pay20, k0_pay18]
  rw [pay8_at, k0_pay16]
  dsimp only
  rw [half_turn, pay15_at, pay15_at]
  by_cases h : l.val < 64
  · rw [if_pos h]
    exact congrArg (fun l => turned u cs sn r l 1024 (by omega)) (Fin.ext (by dsimp only; omega))
  · rw [if_neg h]
    exact congrArg (fun l => turned u cs sn r l 1024 (by omega)) (Fin.ext (by dsimp only; omega))

/-- Head 0's values, twice. -/
theorem pay23_at : k0_pay23 (F := Ideal) u (k0_pay8 (iota Kind.tc S1x128 32 [1] iota_S1x128_d1_w32)) (ix3 0 r l)
    = u (ix2 r ⟨1152 + l % 64, by omega⟩) := by
  pointwise [k0_pay23]
  rw [pay8_at, k0_pay22]
  dsimp only
  rw [half_turn]
  pointwise [k0_pay21]
  by_cases h : l.val < 64
  · rw [if_pos h]
    blk_point []
  · rw [if_neg h]
    blk_point []

/-- Head 1's values, twice. -/
theorem pay24_at : k0_pay24 (F := Ideal) u (k0_pay8 (iota Kind.tc S1x128 32 [1] iota_S1x128_d1_w32)) (ix3 0 r l)
    = u (ix2 r ⟨1216 + l % 64, by omega⟩) := by
  pointwise [k0_pay24]
  rw [pay8_at, k0_pay22]
  dsimp only
  rw [half_turn]
  pointwise [k0_pay21]
  by_cases h : l.val < 64
  · rw [if_pos h]
    blk_point []
  · rw [if_neg h]
    blk_point []

end pieces

end Cert.KernelInMixIdeal.RefValue

end
-- ==== Proof.InMixRef.lean ====
module

public import proofs.«01_k».proof.Proof.InMixRope

@[expose] public section

set_option maxRecDepth 16384

noncomputable section
open Idealize.ShloMosaic Idealize.ShloMosaic.TcCoe Idealize.SL.Sem

namespace Cert.ReferenceInMixIdeal.RefValue
open Cert.ReferenceInMixIdeal Cert.ReferenceInMixIdeal.Gen Cert.ReferenceInMixIdeal.Read
open Cert.KernelInMixIdeal.RefValue (rope)

variable (x0 : FVec Ideal S4x4096x1024 .f32) (x1 : FVec Ideal S8x9x1024 .f32) (x2 : FVec Ideal S3x1024 .f32) (x4 : FVec Ideal S1024x2064 .f32)
  (x8 x9 : FVec Ideal S4096x64 .f32) (b : Fin 4) (n : Fin 4096)

/-- The queries' columns. -/
theorem v34_at (h : Fin 8) (d : Fin 64) : val_main_v34 (F := Ideal) x0 x1 x2 x4 (ix4 b n h d)
    = val_main_v28 (F := Ideal) x0 x1 x2 x4 (ix3 b n ⟨256 + (h * 64 + d), by omega⟩) := by
  unfold val_main_v34
  refine (shapeCast_apply _ _ (ix4 b n h d) (ix3 b n (⟨h * 64 + d, by omega⟩ : Fin 512)) ?_).trans ?_
  · rw [Shape.rowMajor_val_four, Shape.rowMajor_val_three]
    show (b.val * 4096 + n.val) * 512 + (h.val * 64 + d.val) = ((b.val * 4096 + n.val) * 8 + h.val) * 64 + d.val
    omega
  · pointwise [val_main_v30]

/-- The keys' columns. -/
theorem v52_at (h : Fin 2) (d : Fin 64) : val_main_v52 (F := Ideal) x0 x1 x2 x4 (ix4 b n h d)
    = val_main_v28 (F := Ideal) x0 x1 x2 x4 (ix3 b n ⟨768 + (h * 64 + d), by omega⟩) := by
  unfold val_main_v52
  refine (shapeCast_apply _ _ (ix4 b n h d) (ix3 b n (⟨h * 64 + d, by omega⟩ : Fin 128)) ?_).trans ?_
  · rw [Shape.rowMajor_val_four, Shape.rowMajor_val_three]
    show (b.val * 4096 + n.val) * 128 + (h.val * 64 + d.val) = ((b.val * 4096 + n.val) * 2 + h.val) * 64 + d.val
    omega
  · pointwise [val_main_v31]

/-- The values' columns. -/
theorem v69_at (h : Fin 2) (d : Fin 64) : val_main_v69 (F := Ideal) x0 x1 x2 x4 (ix4 b n h d)
    = val_main_v28 (F := Ideal) x0 x1 x2 x4 (ix3 b n ⟨896 + (h * 64 + d), by omega⟩) := by
  unfold val_main_v69
  refine (shapeCast_apply _ _ (ix4 b n h d) (ix3 b n (⟨h * 64 + d, by omega⟩ : Fin 128)) ?_).trans ?_
  · rw [Shape.rowMajor_val_four, Shape.rowMajor_val_three]
    show (b.val * 4096 + n.val) * 128 + (h.val * 64 + d.val) = ((b.val * 4096 + n.val) * 2 + h.val) * 64 + d.val
    omega
  · pointwise [val_main_v32]

/-- The queries after the rotary embedding. -/
theorem v50_at (h : Fin 8) (d : Fin 64) : val_main_v50 (F := Ideal) x0 x1 x2 x4 x8 x9 (ix4 b n h d)
    = rope (fun d => val_main_v34 (F := Ideal) x0 x1 x2 x4 (ix4 b n h d)) (fun d => x8 (ix2 n d)) (fun d => x9 (ix2 n d)) d := by
  pointwise [val_main_v50, val_main_v49, val_main_v48, val_main_v47, val_main_v46, val_main_v45, val_main_v44, val_main_v43, val_main_v42, val_main_v41,
    val_main_v40, val_main_v39, val_main_v38, val_main_v37, val_main_v36, val_main_v35]
  unfold rope
  by_cases h1 : d.val < 16
  · rw [dif_pos h1, if_pos (show d.val / 16 % 2 = 0 by omega)]
    exact congrArg (fun e : Fin 64 => val_main_v34 (F := Ideal) x0 x1 x2 x4 (ix4 b n h d) * x8 (ix2 n d) + -val_main_v34 (F := Ideal) x0 x1 x2 x4 (ix4 b n h e) * x9 (ix2 n d)) (Fin.ext (by dsimp only; omega))
  by_cases h2 : d.val - 16 < 16
  · rw [dif_neg h1, dif_pos h2, if_neg (show ¬ d.val / 16 % 2 = 0 by omega)]
    exact congrArg (fun e : Fin 64 => val_main_v34 (F := Ideal) x0 x1 x2 x4 (ix4 b n h d) * x8 (ix2 n d) + val_main_v34 (F := Ideal) x0 x1 x2 x4 (ix4 b n h e) * x9 (ix2 n d)) (Fin.ext (by dsimp only; omega))
  by_cases h3 : d.val - 16 - 16 < 16
  · rw [dif_neg h1, dif_neg h2, dif_pos h3, if_pos (show d.val / 16 % 2 = 0 by omega)]
    exact congrArg (fun e : Fin 64 => val_main_v34 (F := Ideal) x0 x1 x2 x4 (ix4 b n h d) * x8 (ix2 n d) + -val_main_v34 (F := Ideal) x0 x1 x2 x4 (ix4 b n h e) * x9 (ix2 n d)) (Fin.ext (by dsimp only; omega))
  · rw [dif_neg h1, dif_neg h2, dif_neg h3, if_neg (show ¬ d.val / 16 % 2 = 0 by omega)]
    exact congrArg (fun e : Fin 64 => val_main_v34 (F := Ideal) x0 x1 x2 x4 (ix4 b n h d) * x8 (ix2 n d) + val_main_v34 (F := Ideal) x0 x1 x2 x4 (ix4 b n h e) * x9 (ix2 n d)) (Fin.ext (by dsimp only; omega))

/-- The keys after it. -/
theorem v68_at (h : Fin 2) (d : Fin 64) : val_main_v68 (F := Ideal) x0 x1 x2 x4 x8 x9 (ix4 b n h d)
    = rope (fun d => val_main_v52 (F := Ideal) x0 x1 x2 x4 (ix4 b n h d)) (fun d => x8 (ix2 n d)) (fun d => x9 (ix2 n d)) d := by
  pointwise [val_main_v68, val_main_v67, val_main_v66, val_main_v65, val_main_v64, val_main_v63, val_main_v62, val_main_v61, val_main_v60, val_main_v59,
    val_main_v58, val_main_v57, val_main_v56, val_main_v55, val_main_v54, val_main_v53]
  unfold rope
  by_cases h1 : d.val < 16
  · rw [dif_pos h1, if_pos (show d.val / 16 % 2 = 0 by omega)]
    exact congrArg (fun e : Fin 64 => val_main_v52 (F := Ideal) x0 x1 x2 x4 (ix4 b n h d) * x8 (ix2 n d) + -val_main_v52 (F := Ideal) x0 x1 x2 x4 (ix4 b n h e) * x9 (ix2 n d)) (Fin.ext (by dsimp only; omega))
  by_cases h2 : d.val - 16 < 16
  · rw [dif_neg h1, dif_pos h2, if_neg (show ¬ d.val / 16 % 2 = 0 by omega)]
    exact congrArg (fun e : Fin 64 => val_main_v52 (F := Ideal) x0 x1 x2 x4 (ix4 b n h d) * x8 (ix2 n d) + val_main_v52 (F := Ideal) x0 x1 x2 x4 (ix4 b n h e) * x9 (ix2 n d)) (Fin.ext (by dsimp only; omega))
  by_cases h3 : d.val - 16 - 16 < 16
  · rw [dif_neg h1, dif_neg h2, dif_pos h3, if_pos (show d.val / 16 % 2 = 0 by omega)]
    exact congrArg (fun e : Fin 64 => val_main_v52 (F := Ideal) x0 x1 x2 x4 (ix4 b n h d) * x8 (ix2 n d) + -val_main_v52 (F := Ideal) x0 x1 x2 x4 (ix4 b n h e) * x9 (ix2 n d)) (Fin.ext (by dsimp only; omega))
  · rw [dif_neg h1, dif_neg h2, dif_neg h3, if_neg (show ¬ d.val / 16 % 2 = 0 by omega)]
    exact congrArg (fun e : Fin 64 => val_main_v52 (F := Ideal) x0 x1 x2 x4 (ix4 b n h d) * x8 (ix2 n d) + val_main_v52 (F := Ideal) x0 x1 x2 x4 (ix4 b n h e) * x9 (ix2 n d)) (Fin.ext (by dsimp only; omega))

/-- The second result. -/
theorem v74_at (j : Fin 512) : val_main_v74 (F := Ideal) x0 x1 x2 x4 x8 x9 (ix3 b n j)
    = val_main_v50 (F := Ideal) x0 x1 x2 x4 x8 x9 (ix4 b n ⟨j / 64, by omega⟩ ⟨j % 64, by omega⟩) * Ideal.ofBits .f32 0x3E000000#32 := by
  pointwise [val_main_v74, val_main_v73, val_main_v72, val_main_cst_3]
  refine congrArg (· * Ideal.ofBits .f32 0x3E000000#32) ?_
  unfold val_main_v51
  refine shapeCast_apply _ _ (ix3 b n j) (ix4 b n (⟨j / 64, by omega⟩ : Fin 8) (⟨j % 64, by omega⟩ : Fin 64)) ?_
  rw [Shape.rowMajor_val_four, Shape.rowMajor_val_three]
  show ((b.val * 4096 + n.val) * 8 + j.val / 64) * 64 + j.val % 64 = (b.val * 4096 + n.val) * 512 + j.val
  omega

/-- A head's lanes twice. -/
theorem twice_at (x : FVec Ideal S4x4096x2x64 .f32) (h : Fin 2) (d : Fin 128) :
    concatenate S4x4096x2x128 3 [⟨S4x4096x2x64, x⟩, ⟨S4x4096x2x64, x⟩] concatenates_S4x4096x2x64_S4x4096x2x64_S4x4096x2x128_d3 (ix4 b n h d)
      = x (ix4 b n h ⟨d % 64, by omega⟩) := by
  pointwise
  by_cases h1 : d.val < 64
  · rw [dif_pos h1]
    blk_point []
  · rw [dif_neg h1]
    blk_point []

/-- Both heads' lanes twice, side by side. -/
theorem twice_flat (x : FVec Ideal S4x4096x2x64 .f32) (j : Fin 256) :
    shapeCast S4x4096x256 (concatenate S4x4096x2x128 3 [⟨S4x4096x2x64, x⟩, ⟨S4x4096x2x64, x⟩]
      concatenates_S4x4096x2x64_S4x4096x2x64_S4x4096x2x128_d3) shapeCasts_S4x4096x2x128_S4x4096x256 (ix3 b n j)
      = x (ix4 b n ⟨j / 128, by omega⟩ ⟨j % 64, by omega⟩) := by
  refine (shapeCast_apply _ _ (ix3 b n j) (ix4 b n (⟨j / 128, by omega⟩ : Fin 2) (⟨j % 128, by omega⟩ : Fin 128)) ?_).trans ?_
  · rw [Shape.rowMajor_val_four, Shape.rowMajor_val_three]
    show ((b.val * 4096 + n.val) * 2 + j.val / 128) * 128 + j.val % 128 = (b.val * 4096 + n.val) * 256 + j.val
    omega
  · rw [twice_at]
    exact congrArg (fun d => x (ix4 b n _ d)) (Fin.ext (by dsimp only; omega))

/-- The third result. -/
theorem v77_at (j : Fin 256) : val_main_v77 (F := Ideal) x0 x1 x2 x4 x8 x9 (ix3 b n j)
    = val_main_v68 (F := Ideal) x0 x1 x2 x4 x8 x9 (ix4 b n ⟨j / 128, by omega⟩ ⟨j % 64, by omega⟩) := by
  show val_main_v76 (F := Ideal) x0 x1 x2 x4 x8 x9 (ix3 b n j) = _
  unfold val_main_v76 val_main_v75
  exact twice_flat b n (val_main_v68 (F := Ideal) x0 x1 x2 x4 x8 x9) j

/-- The fourth result. -/
theorem v80_at (j : Fin 256) : val_main_v80 (F := Ideal) x0 x1 x2 x4 (ix3 b n j)
    = val_main_v69 (F := Ideal) x0 x1 x2 x4 (ix4 b n ⟨j / 128, by omega⟩ ⟨j % 64, by omega⟩) := by
  show val_main_v79 (F := Ideal) x0 x1 x2 x4 (ix3 b n j) = _
  unfold val_main_v79 val_main_v78
  exact twice_flat b n (val_main_v69 (F := Ideal) x0 x1 x2 x4) j

end Cert.ReferenceInMixIdeal.RefValue

end
-- ==== Proof.InMixValue.lean ====
module

public import proofs.«01_k».proof.Proof.InMixRef

@[expose] public section

set_option maxRecDepth 16384

noncomputable section
open Idealize.ShloMosaic Idealize.ShloMosaic.TcCoe Idealize.SL.Sem

namespace Cert.KernelInMixIdeal.RefValue
open Cert.KernelInMixIdeal Cert.KernelInMixIdeal.Gen
open Cert.ReferenceInMixIdeal.Read

variable (m : (ℓ : Loc nD τ sig) → Buf (Elt Ideal) ℓ)

/-- A block's projection, all columns. -/
abbrev proj (c : Dev nD) (t : Fin cfg0.N) : FVec Ideal S512x2432 .f32 :=
  k0_pay5 (F := Ideal) (View.ld (iblk m c 3 t) r0_0) (View.ld (iblk m c 3 t) r0_1) (View.ld (iblk m c 4 t) r0_2) (View.ld (iblk m c 0 t) r0_3)
    (View.ld (iblk m c 5 t) r0_4)

/-- The weights' block is the whole array. -/
theorem weights_blk (c : Dev nD) (t : Fin cfg0.N) (k : Fin 1024) (j : Fin 2432) : iblk m c 5 t (ix2 k j) = V m c main_v4 (ix2 k j) := by
  blk_ext [iblk, idx t]

/-- The gate's columns of it. -/
theorem proj_p (c : Dev nD) (t : Fin cfg0.N) (r : Fin 512) (j : Fin 512) :
    proj m c t (ix2 r ⟨j, by omega⟩)
      = val_main_v70 (F := Ideal) (m ((c : Thread nD τ).loc main_arg0)) (m ((c : Thread nD τ).loc main_arg1)) (m ((c : Thread nD τ).loc main_arg2))
        (m ((c : Thread nD τ).loc main_arg3)) (ix3 ⟨t.val / 8, (idx t).2.2.2.2.2.2.2.2.2.2⟩ ⟨t.val % 8 * 512 + r, by omega⟩ j) := by
  unfold proj
  pointwise [k0_pay5, val_main_v70]
  refine Finset.sum_congr rfl fun k _ => ?_
  exact congrArg₂ (· * ·) (normed_at m c t r k) ((weights_blk m c t k _).trans (weights_p m c k j))

/-- The mixer's columns of it. -/
theorem proj_in (c : Dev nD) (t : Fin cfg0.N) (r : Fin 512) (j : Fin 1792) :
    proj m c t (ix2 r ⟨512 + j, by omega⟩)
      = val_main_v28 (F := Ideal) (m ((c : Thread nD τ).loc main_arg0)) (m ((c : Thread nD τ).loc main_arg1)) (m ((c : Thread nD τ).loc main_arg2))
        (m ((c : Thread nD τ).loc main_arg4)) (ix3 ⟨t.val / 8, (idx t).2.2.2.2.2.2.2.2.2.2⟩ ⟨t.val % 8 * 512 + r, by omega⟩ ⟨256 + j, by omega⟩) := by
  unfold proj
  pointwise [k0_pay5, val_main_v28]
  refine Finset.sum_congr rfl fun k _ => ?_
  exact congrArg₂ (· * ·) (normed_at m c t r k) ((weights_blk m c t k _).trans (weights_in m c k j))

/-- The tables' blocks: the positions of the block. -/
theorem cos_blk (c : Dev nD) (t : Fin cfg0.N) (r : Fin 512) (l : Fin 128) : View.ld (iblk m c 10 t) r0_6 (ix2 r l)
    = (m ((c : Thread nD τ).loc main_arg8)) (ix2 (⟨t.val % 8 * 512 + r, by omega⟩ : Fin 4096) (⟨l % 64, by omega⟩ : Fin 64)) := by
  rw [← cos_entry m c ⟨t.val % 8 * 512 + r, by omega⟩ l]
  pointwise
  blk_ext [iblk, idx t]

theorem sin_blk (c : Dev nD) (t : Fin cfg0.N) (r : Fin 512) (l : Fin 128) : View.ld (iblk m c 11 t) r0_6 (ix2 r l)
    = (show EReal from m ((c : Thread nD τ).loc main_arg9) (ix2 (⟨t.val % 8 * 512 + r, by omega⟩ : Fin 4096) (⟨l % 64, by omega⟩ : Fin 64)))
      * (if l.val / 16 % 2 = 0 then -1 else 1) := by
  rw [← sin_entry m c ⟨t.val % 8 * 512 + r, by omega⟩ l]
  pointwise
  blk_ext [iblk, idx t]

/-- Two heads of a block's projection, turned: the rotary embedding of the reference's projection. -/
theorem turned_rope (c : Dev nD) (t : Fin cfg0.N) (r : Fin 512) (l : Fin 128) (B : ℕ) (hB : B ≤ 1664) :
    turned (proj m c t) (View.ld (iblk m c 10 t) r0_6) (View.ld (iblk m c 11 t) r0_6) r l (512 + B) (by omega)
      = rope (fun d => val_main_v28 (F := Ideal) (m ((c : Thread nD τ).loc main_arg0)) (m ((c : Thread nD τ).loc main_arg1))
          (m ((c : Thread nD τ).loc main_arg2)) (m ((c : Thread nD τ).loc main_arg4))
          (ix3 ⟨t.val / 8, (idx t).2.2.2.2.2.2.2.2.2.2⟩ ⟨t.val % 8 * 512 + r, by omega⟩ ⟨256 + (B + (l / 64 * 64 + d)), by omega⟩))
        (fun d => m ((c : Thread nD τ).loc main_arg8) (ix2 (⟨t.val % 8 * 512 + r, by omega⟩ : Fin 4096) d))
        (fun d => m ((c : Thread nD τ).loc main_arg9) (ix2 (⟨t.val % 8 * 512 + r, by omega⟩ : Fin 4096) d)) ⟨l % 64, by omega⟩ := by
  unfold turned
  refine (turn_rope _ _ _ (fun d => m ((c : Thread nD τ).loc main_arg8) (ix2 (⟨t.val % 8 * 512 + r, by omega⟩ : Fin 4096) d))
    (fun d => m ((c : Thread nD τ).loc main_arg9) (ix2 (⟨t.val % 8 * 512 + r, by omega⟩ : Fin 4096) d)) (fun l => cos_blk m c t r l)
    (fun l => sin_blk m c t r l) l).trans ?_
  refine congrArg (fun f => rope f _ _ _) (funext fun d => ?_)
  rw [← proj_in m c t r ⟨B + (l / 64 * 64 + d), by omega⟩]
  exact congrArg (fun j => proj m c t (ix2 r j)) (Fin.ext (by dsimp only; omega))

set_option maxHeartbeats 2000000 in
/-- The first result. -/
theorem final12 (c : Dev nD) : (dats m 0 c).arrAt 12 (cfgs 0).N
    = val_main_v71 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 12 _ (by decide +kernel) fun t _ y => ?_
  blk_simp
  rw [after0_12]; unfold out0_12
  generalize hj : (((View.whole main_v29_0).slice (win0_12.rect t)).emb y) = j
  have hj0 : ((j 0 : Fin 4) : ℕ) = t.val / 8 := by subst hj; blk_simp [idx t] <;> try omega
  have hj1 : ((j 1 : Fin 4096) : ℕ) = t.val % 8 * 512 + (y 1 : ℕ) := by subst hj; blk_simp [idx t] <;> try omega
  have hj2 : ((j 2 : Fin 512) : ℕ) = (y 2 : ℕ) := by subst hj; blk_simp [idx t] <;> try omega
  clear hj
  canon_tiles x h
  have hx : x = ix3 0 (x 1) (x 2) := by blk_ext
  have hy : j = ix3 ⟨t.val / 8, (idx t).2.2.2.2.2.2.2.2.2.2⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  refine Eq.trans ?_ (proj_p m c t (x 1) (x 2))
  pointwise [k0_pay6]
  rfl

/-- A query. -/
theorem q_core (c : Dev nD) (t : Fin cfg0.N) (r : Fin 512) (l : Fin 128) (k : ℕ) (hk : k < 4) (j : S4x4096x512.Idx)
    (h0 : (j 0 : ℕ) = t.val / 8) (h1 : (j 1 : ℕ) = t.val % 8 * 512 + r) (h2 : (j 2 : ℕ) = k * 128 + l) :
    turned (proj m c t) (View.ld (iblk m c 10 t) r0_6) (View.ld (iblk m c 11 t) r0_6) r l (512 + k * 128) (by omega) * Ideal.ofBits .f32 0x3E000000#32
      = val_main_v74 (F := Ideal) (m ((c : Thread nD τ).loc main_arg0)) (m ((c : Thread nD τ).loc main_arg1)) (m ((c : Thread nD τ).loc main_arg2))
        (m ((c : Thread nD τ).loc main_arg4)) (m ((c : Thread nD τ).loc main_arg8)) (m ((c : Thread nD τ).loc main_arg9)) j := by
  have hj : j = ix3 ⟨t.val / 8, (idx t).2.2.2.2.2.2.2.2.2.2⟩ ⟨t.val % 8 * 512 + r, by omega⟩ ⟨k * 128 + l, by omega⟩ := by
    funext a
    match a with
    | ⟨0, _⟩ => exact Fin.ext h0
    | ⟨1, _⟩ => exact Fin.ext h1
    | ⟨2, _⟩ => exact Fin.ext h2
  rw [hj, Cert.ReferenceInMixIdeal.RefValue.v74_at, Cert.ReferenceInMixIdeal.RefValue.v50_at, turned_rope m c t r l (k * 128) (by omega)]
  refine congrArg (· * Ideal.ofBits .f32 0x3E000000#32) ?_
  refine congrArg₂ (fun f d => rope f _ _ d) (funext fun d => ?_) (Fin.ext (by dsimp only; omega))
  rw [Cert.ReferenceInMixIdeal.RefValue.v34_at]
  exact congrArg (fun e => val_main_v28 (F := Ideal) _ _ _ _ (ix3 _ _ e)) (Fin.ext (by dsimp only; omega))

set_option maxHeartbeats 2000000 in
/-- The second result. -/
theorem final13 (c : Dev nD) : (dats m 0 c).arrAt 13 (cfgs 0).N
    = val_main_v74 (F := Ideal) (m ((c : Thread nD τ).loc main_arg0)) (m ((c : Thread nD τ).loc main_arg1)) (m ((c : Thread nD τ).loc main_arg2))
      (m ((c : Thread nD τ).loc main_arg4)) (m ((c : Thread nD τ).loc main_arg8)) (m ((c : Thread nD τ).loc main_arg9)) := by
  refine (dats m 0 c).arrAt_eq_of_covers 13 _ (by decide +kernel) fun t _ y => ?_
  blk_simp
  rw [after0_13]; unfold out0_13
  generalize hj : (((View.whole main_v29_1).slice (win0_13.rect t)).emb y) = j
  have hj0 : ((j 0 : Fin 4) : ℕ) = t.val / 8 := by subst hj; blk_simp [idx t] <;> try omega
  have hj1 : ((j 1 : Fin 4096) : ℕ) = t.val % 8 * 512 + (y 1 : ℕ) := by subst hj; blk_simp [idx t] <;> try omega
  have hj2 : ((j 2 : Fin 512) : ℕ) = (y 2 : ℕ) := by subst hj; blk_simp [idx t] <;> try omega
  clear hj
  canon_tiles x h
  case piece3 =>
    have hx : x = ix3 0 (x 1) (x 2) := by blk_ext
    rw [hx]
    exact (pay10_at (proj m c t) (View.ld (iblk m c 10 t) r0_6) (View.ld (iblk m c 11 t) r0_6) (x 1) (x 2)).trans
      (q_core m c t (x 1) (x 2) 0 (by omega) j hj0 (hj1.trans (by omega)) (hj2.trans (by omega)))
  case piece2 =>
    have hx : x = ix3 0 (x 1) (x 2) := by blk_ext
    rw [hx]
    exact (pay11_at (proj m c t) (View.ld (iblk m c 10 t) r0_6) (View.ld (iblk m c 11 t) r0_6) (x 1) (x 2)).trans
      (q_core m c t (x 1) (x 2) 1 (by omega) j hj0 (hj1.trans (by omega)) (hj2.trans (by omega)))
  case piece1 =>
    have hx : x = ix3 0 (x 1) (x 2) := by blk_ext
    rw [hx]
    exact (pay13_at (proj m c t) (View.ld (iblk m c 10 t) r0_6) (View.ld (iblk m c 11 t) r0_6) (x 1) (x 2)).trans
      (q_core m c t (x 1) (x 2) 2 (by omega) j hj0 (hj1.trans (by omega)) (hj2.trans (by omega)))
  case piece0 =>
    have hx : x = ix3 0 (x 1) (x 2) := by blk_ext
    rw [hx]
    exact (pay14_at (proj m c t) (View.ld (iblk m c 10 t) r0_6) (View.ld (iblk m c 11 t) r0_6) (x 1) (x 2)).trans
      (q_core m c t (x 1) (x 2) 3 (by omega) j hj0 (hj1.trans (by omega)) (hj2.trans (by omega)))

/-- A key. -/
theorem k_core (c : Dev nD) (t : Fin cfg0.N) (r : Fin 512) (l : Fin 128) (k : ℕ) (hk : k < 2) (j : S4x4096x256.Idx)
    (h0 : (j 0 : ℕ) = t.val / 8) (h1 : (j 1 : ℕ) = t.val % 8 * 512 + r) (h2 : (j 2 : ℕ) = k * 128 + l) (e : Fin 128) (he : e.val = k * 64 + l % 64) :
    turned (proj m c t) (View.ld (iblk m c 10 t) r0_6) (View.ld (iblk m c 11 t) r0_6) r e (512 + 512) (by omega)
      = val_main_v77 (F := Ideal) (m ((c : Thread nD τ).loc main_arg0)) (m ((c : Thread nD τ).loc main_arg1)) (m ((c : Thread nD τ).loc main_arg2))
        (m ((c : Thread nD τ).loc main_arg4)) (m ((c : Thread nD τ).loc main_arg8)) (m ((c : Thread nD τ).loc main_arg9)) j := by
  have hj : j = ix3 ⟨t.val / 8, (idx t).2.2.2.2.2.2.2.2.2.2⟩ ⟨t.val % 8 * 512 + r, by omega⟩ ⟨k * 128 + l, by omega⟩ := by
    funext a
    match a with
    | ⟨0, _⟩ => exact Fin.ext h0
    | ⟨1, _⟩ => exact Fin.ext h1
    | ⟨2, _⟩ => exact Fin.ext h2
  rw [hj, Cert.ReferenceInMixIdeal.RefValue.v77_at, Cert.ReferenceInMixIdeal.RefValue.v68_at, turned_rope m c t r e 512 (by omega)]
  refine congrArg₂ (fun f d => rope f _ _ d) (funext fun d => ?_) (Fin.ext (by dsimp only; omega))
  rw [Cert.ReferenceInMixIdeal.RefValue.v52_at]
  exact congrArg (fun e => val_main_v28 (F := Ideal) _ _ _ _ (ix3 _ _ e)) (Fin.ext (by dsimp only; omega))

set_option maxHeartbeats 2000000 in
/-- The third result. -/
theorem final14 (c : Dev nD) : (dats m 0 c).arrAt 14 (cfgs 0).N
    = val_main_v77 (F := Ideal) (m ((c : Thread nD τ).loc main_arg0)) (m ((c : Thread nD τ).loc main_arg1)) (m ((c : Thread nD τ).loc main_arg2))
      (m ((c : Thread nD τ).loc main_arg4)) (m ((c : Thread nD τ).loc main_arg8)) (m ((c : Thread nD τ).loc main_arg9)) := by
  refine (dats m 0 c).arrAt_eq_of_covers 14 _ (by decide +kernel) fun t _ y => ?_
  blk_simp
  rw [after0_14]; unfold out0_14
  generalize hj : (((View.whole main_v29_2).slice (win0_14.rect t)).emb y) = j
  have hj0 : ((j 0 : Fin 4) : ℕ) = t.val / 8 := by subst hj; blk_simp [idx t] <;> try omega
  have hj1 : ((j 1 : Fin 4096) : ℕ) = t.val % 8 * 512 + (y 1 : ℕ) := by subst hj; blk_simp [idx t] <;> try omega
  have hj2 : ((j 2 : Fin 256) : ℕ) = (y 2 : ℕ) := by subst hj; blk_simp [idx t] <;> try omega
  clear hj
  canon_tiles x h
  case piece1 =>
    have hx : x = ix3 0 (x 1) (x 2) := by blk_ext
    rw [hx]
    exact (pay19_at (proj m c t) (View.ld (iblk m c 10 t) r0_6) (View.ld (iblk m c 11 t) r0_6) (x 1) (x 2)).trans
      (k_core m c t (x 1) (x 2) 0 (by omega) j hj0 (hj1.trans (by omega)) (hj2.trans (by omega)) _ (by dsimp only <;> omega))
  case piece0 =>
    have hx : x = ix3 0 (x 1) (x 2) := by blk_ext
    rw [hx]
    exact (pay20_at (proj m c t) (View.ld (iblk m c 10 t) r0_6) (View.ld (iblk m c 11 t) r0_6) (x 1) (x 2)).trans
      (k_core m c t (x 1) (x 2) 1 (by omega) j hj0 (hj1.trans (by omega)) (hj2.trans (by omega)) _ (by dsimp only <;> omega))

/-- A value. -/
theorem v_core (c : Dev nD) (t : Fin cfg0.N) (r : Fin 512) (l : Fin 128) (k : ℕ) (hk : k < 2) (j : S4x4096x256.Idx)
    (h0 : (j 0 : ℕ) = t.val / 8) (h1 : (j 1 : ℕ) = t.val % 8 * 512 + r) (h2 : (j 2 : ℕ) = k * 128 + l) (e : Fin 2432)
    (he : e.val = 1152 + (k * 64 + l % 64)) :
    proj m c t (ix2 r e) = val_main_v80 (F := Ideal) (m ((c : Thread nD τ).loc main_arg0)) (m ((c : Thread nD τ).loc main_arg1)) (m ((c : Thread nD τ).loc main_arg2))
      (m ((c : Thread nD τ).loc main_arg4)) j := by
  have hj : j = ix3 ⟨t.val / 8, (idx t).2.2.2.2.2.2.2.2.2.2⟩ ⟨t.val % 8 * 512 + r, by omega⟩ ⟨k * 128 + l, by omega⟩ := by
    funext a
    match a with
    | ⟨0, _⟩ => exact Fin.ext h0
    | ⟨1, _⟩ => exact Fin.ext h1
    | ⟨2, _⟩ => exact Fin.ext h2
  rw [hj, Cert.ReferenceInMixIdeal.RefValue.v80_at, Cert.ReferenceInMixIdeal.RefValue.v69_at]
  refine Eq.trans (congrArg (fun e => proj m c t (ix2 r e)) ?_) ((proj_in m c t r ⟨640 + (k * 64 + l % 64), by omega⟩).trans ?_)
  · exact Fin.ext (he.trans (by dsimp only; omega))
  · exact congrArg (fun e => val_main_v28 (F := Ideal) _ _ _ _ (ix3 _ _ e)) (Fin.ext (by dsimp only; omega))

set_option maxHeartbeats 2000000 in
/-- The fourth result. -/
theorem final15 (c : Dev nD) : (dats m 0 c).arrAt 15 (cfgs 0).N
    = val_main_v80 (F := Ideal) (m ((c : Thread nD τ).loc main_arg0)) (m ((c : Thread nD τ).loc main_arg1)) (m ((c : Thread nD τ).loc main_arg2))
      (m ((c : Thread nD τ).loc main_arg4)) := by
  refine (dats m 0 c).arrAt_eq_of_covers 15 _ (by decide +kernel) fun t _ y => ?_
  blk_simp
  rw [after0_15]; unfold out0_15
  generalize hj : (((View.whole main_v29_3).slice (win0_15.rect t)).emb y) = j
  have hj0 : ((j 0 : Fin 4) : ℕ) = t.val / 8 := by subst hj; blk_simp [idx t] <;> try omega
  have hj1 : ((j 1 : Fin 4096) : ℕ) = t.val % 8 * 512 + (y 1 : ℕ) := by subst hj; blk_simp [idx t] <;> try omega
  have hj2 : ((j 2 : Fin 256) : ℕ) = (y 2 : ℕ) := by subst hj; blk_simp [idx t] <;> try omega
  clear hj
  canon_tiles x h
  case piece1 =>
    have hx : x = ix3 0 (x 1) (x 2) := by blk_ext
    rw [hx]
    exact (pay23_at (proj m c t) (x 1) (x 2)).trans
      (v_core m c t (x 1) (x 2) 0 (by omega) j hj0 (hj1.trans (by omega)) (hj2.trans (by omega)) _ (by dsimp only <;> omega))
  case piece0 =>
    have hx : x = ix3 0 (x 1) (x 2) := by blk_ext
    rw [hx]
    exact (pay24_at (proj m c t) (x 1) (x 2)).trans
      (v_core m c t (x 1) (x 2) 1 (by omega) j hj0 (hj1.trans (by omega)) (hj2.trans (by omega)) _ (by dsimp only <;> omega))

end Cert.KernelInMixIdeal.RefValue

end
-- ==== Proof.InMixClaim.lean ====
module

public import proofs.«01_k».proof.Defs
public import proofs.«01_k».proof.Proof.InMixValue
public import proofs.«01_k».proof.Proof.Gen.ReferenceInMixIdeal.Run
public import Idealize.ShloMosaic.Lib.Quiescent

@[expose] public section

set_option maxRecDepth 16384

noncomputable section
open Idealize.ShloMosaic Idealize.ShloMosaic.TcCoe Idealize.SL.Sem

namespace Cert.Proof.InMix

/-- The reference's frame: its run, and no counter to drain. -/
theorem frame_reference : Cert.quiescent_ReferenceInMixIdeal (hReferenceInMixIdeal := Cert.ReferenceInMixIdeal.Gen.facts) :=
  fun m ρ _ => (θ_run Cert.ReferenceInMixIdeal.defs _ _).mono
    (fun r h => ⟨fun c => (h c).2.2.2.2, sem_eq_zero_of_no_sems (by decide) r.2⟩)
    (Cert.ReferenceInMixIdeal.Value.run (F := Ideal) m ρ)

open Cert.KernelInMixIdeal.RefValue in
/-- The input projection's first four results are the reference's. -/
theorem algebraic : Cert.algebraic_KernelInMixIdeal_ReferenceInMixIdeal (hKernelInMixIdeal := Cert.KernelInMixIdeal.Gen.facts)
    (hReferenceInMixIdeal := Cert.ReferenceInMixIdeal.Gen.facts) := by
  intro m g m' g' _ hagree
  refine ⟨_, _, _, _, (θ_run Cert.KernelInMixIdeal.defs _ _).mono
      (fun _ h c => ⟨(h c).1.trans (final12 m c), (h c).2.1.trans (final13 m c), (h c).2.2.1.trans (final14 m c),
        (h c).2.2.2.1.trans (final15 m c), (h c).2.2.2.2.2.2.2.2.2.2⟩)
      (Cert.KernelInMixIdeal.Value.run_blocks (F := Ideal) m g), ?_⟩
  refine (θ_run Cert.ReferenceInMixIdeal.defs _ _).mono
    (fun _ h c => ⟨((h c).1.trans (Cert.ReferenceInMixIdeal.Read.val_main_v71_eq ..)).trans ?_,
      ((h c).2.1.trans (Cert.ReferenceInMixIdeal.Read.val_main_v74_eq ..)).trans ?_,
      ((h c).2.2.1.trans (Cert.ReferenceInMixIdeal.Read.val_main_v77_eq ..)).trans ?_,
      ((h c).2.2.2.1.trans (Cert.ReferenceInMixIdeal.Read.val_main_v80_eq ..)).trans ?_, (h c).2.2.2.2⟩)
    (Cert.ReferenceInMixIdeal.Value.run (F := Ideal) m' g')
  all_goals
    obtain ⟨h0, h1, h2, h3, h4, h5, h6, h7, h8, h9⟩ := hagree c
  · rw [h0, h1, h2, h3]
  · rw [h0, h1, h2, h4, h8, h9]
  · rw [h0, h1, h2, h4, h8, h9]
  · rw [h0, h1, h2, h4]

end Cert.Proof.InMix

end
-- ==== Proof.InCellBlk.lean ====
module

public import proofs.«01_k».proof.Proof.Gen.KernelInCellIdeal.Value
public import proofs.«01_k».proof.Proof.Gen.ReferenceInCellIdeal.Read
public import Idealize.ShloMosaic.Lib.Pipeline.ValueKit
public import Idealize.ShloMosaic.Lib.Pointwise
public import Idealize.ShloMosaic.Lib.KernelVsHost

@[expose] public section

set_option maxRecDepth 16384

noncomputable section
open Idealize.ShloMosaic Idealize.ShloMosaic.TcCoe Idealize.SL.Sem

namespace Cert.KernelInCellIdeal.RefValue
open Cert.KernelInCellIdeal Cert.KernelInCellIdeal.Gen
open Cert.ReferenceInCellIdeal.Read

variable (m : (ℓ : Loc nD τ sig) → Buf (Elt Ideal) ℓ)

/-- Every window's block index at a grid point, of the windows that the cell's results read. -/
theorem idx : ∀ t : Fin cfg0.N, win0_0.index t = ![t.val / 8, t.val % 8, 0] ∧ win0_1.index t = ![t.val / 8, t.val % 8 * 64 - 1, 0]
    ∧ win0_2.index t = ![t.val / 8, min ((t.val % 8 + 1) * 64) 511, 0] ∧ win0_3.index t = ![t.val / 8, 0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ ((grid0.coords t 1 : Fin 8) : ℕ) = t.val % 8 :=
  (by decide +kernel : ∀ t : Fin grid0.N, _)

/-- And of the windows that they are. -/
theorem idx_out : ∀ t : Fin cfg0.N, win0_16.index t = ![t.val / 8, t.val % 8, 0] ∧ win0_17.index t = ![t.val / 8, t.val % 8, 0]
    ∧ win0_18.index t = ![t.val / 8, t.val % 8, 0] ∧ win0_19.index t = ![t.val / 8, t.val % 8, 0]
    ∧ win0_20.index t = ![t.val / 8, t.val % 8, 0] ∧ win0_21.index t = ![t.val / 8, 0, t.val % 8] :=
  (by decide +kernel : ∀ t : Fin grid0.N, _)

/-- A block's batch. -/
theorem batch (t : Fin cfg0.N) : t.val / 8 < 4 :=
  (by decide +kernel : ∀ t : Fin grid0.N, t.val / 8 < 4) t

/-- The joined weights that the call is given. -/
theorem weights_def (c : Dev nD) : V m c main_v4 = truncf (F := Ideal) .bf16 (concatenate S1024x2432 1
    [⟨S1024x512, m ((c : Thread nD τ).loc main_arg3)⟩,
     ⟨S1024x1792, extractStridedSlice S1024x1792 ![0, 256] (m ((c : Thread nD τ).loc main_arg4)) slices_S1024x2064_S1024x1792_0_256⟩,
     ⟨S1024x16, extractStridedSlice S1024x16 ![0, 2048] (m ((c : Thread nD τ).loc main_arg4)) slices_S1024x2064_S1024x16_0_2048⟩,
     ⟨S1024x112, broadcastInDim S1024x112 ![] bcast_S_S1024x112 (constant (F := Ideal) S_ .f32 0x00000000#32)⟩]
    concatenates_S1024x512_S1024x1792_S1024x16_S1024x112_S1024x2432_d1) bitsLt_bf16_f32 := rfl

/-- The joined weights' columns after the spectral fold's are the input weights' from the first past the spectral group. -/
theorem weights_in (c : Dev nD) (k : Fin 1024) (j : Fin 1792) :
    V m c main_v4 (ix2 k ⟨512 + j, by omega⟩) = m ((c : Thread nD τ).loc main_arg4) (ix2 k ⟨256 + j, by omega⟩) := by
  rw [weights_def]
  pointwise

/-- Then the gates'. -/
theorem weights_gate (c : Dev nD) (k : Fin 1024) (j : Fin 16) :
    V m c main_v4 (ix2 k ⟨2304 + j, by omega⟩) = m ((c : Thread nD τ).loc main_arg4) (ix2 k ⟨2048 + j, by omega⟩) := by
  rw [weights_def]
  pointwise
  have h1 : ¬ 2304 + j.val < 512 := by omega
  have h2 : ¬ 2304 + j.val - 512 < 1792 := by omega
  have h3 : 2304 + j.val - 512 - 1792 < 16 := by omega
  rw [dif_neg h1, dif_neg h2, dif_pos h3]
  exact congrArg (fun e : Fin 2064 => m ((c : Thread nD τ).loc main_arg4) (ix2 k e)) (Fin.ext (by dsimp only; omega))

/-- Then zeros. -/
theorem weights_pad (c : Dev nD) (k : Fin 1024) (j : Fin 112) : V m c main_v4 (ix2 k ⟨2320 + j, by omega⟩) = (0 : EReal) := by
  rw [weights_def]
  pointwise
  have h1 : ¬ 2320 + j.val < 512 := by omega
  have h2 : ¬ 2320 + j.val - 512 < 1792 := by omega
  have h3 : ¬ 2320 + j.val - 512 - 1792 < 16 := by omega
  rw [dif_neg h1, dif_neg h2, dif_neg h3]

/-- The gates' weights, transposed. -/
theorem weights_t (c : Dev nD) (k : Fin 1024) (j : Fin 16) :
    V m c main_v18 (ix2 j k) = m ((c : Thread nD τ).loc main_arg4) (ix2 k ⟨2048 + j, by omega⟩) := by
  rw [show V m c main_v18 = truncf (F := Ideal) .bf16 (transpose S16x1024 [1, 0]
    (extractStridedSlice S1024x16 ![0, 2048] (m ((c : Thread nD τ).loc main_arg4)) slices_S1024x2064_S1024x16_0_2048)
    transposes_S1024x16_S16x1024_1_0) bitsLt_bf16_f32 from rfl]
  pointwise

/-- The gates' biases, joined. -/
def bias (x5 x6 : FVec Ideal S2x4 .f32) (j : Fin 16) : EReal :=
  if h : j.val < 8 then x5 (ix2 (⟨j / 4, by omega⟩ : Fin 2) (⟨j % 4, by omega⟩ : Fin 4))
  else x6 (ix2 (⟨(j - 8) / 4, by omega⟩ : Fin 2) (⟨(j - 8) % 4, by omega⟩ : Fin 4))

/-- Two rows of four as one of eight. -/
theorem flat_at (x : FVec Ideal S2x4 .f32) (j : Fin 8) :
    shapeCast S8 x shapeCasts_S2x4_S8 (ix1 j) = x (ix2 (⟨j / 4, by omega⟩ : Fin 2) (⟨j % 4, by omega⟩ : Fin 4)) := by
  refine shapeCast_apply _ _ (ix1 j) _ ?_
  rw [Shape.rowMajor_val_two, Shape.rowMajor_val_one]
  show j.val / 4 * 4 + j.val % 4 = j.val
  omega

/-- The biases joined. -/
theorem bias_at (c : Dev nD) (j : Fin 16) : V m c main_v7 (ix1 j) = bias (m ((c : Thread nD τ).loc main_arg5)) (m ((c : Thread nD τ).loc main_arg6)) j := by
  rw [show V m c main_v7 = concatenate S16 0 [⟨S8, shapeCast S8 (m ((c : Thread nD τ).loc main_arg5)) shapeCasts_S2x4_S8⟩,
    ⟨S8, shapeCast S8 (m ((c : Thread nD τ).loc main_arg6)) shapeCasts_S2x4_S8⟩] concatenates_S8_S8_S16_d0 from rfl]
  unfold bias
  by_cases h : j.val < 8
  · rw [dif_pos h]
    refine Eq.trans ?_ (flat_at (m ((c : Thread nD τ).loc main_arg5)) ⟨j, h⟩)
    pointwise
    rw [dif_pos h]
  · rw [dif_neg h]
    refine Eq.trans ?_ (flat_at (m ((c : Thread nD τ).loc main_arg6)) ⟨j - 8, by omega⟩)
    pointwise
    rw [dif_neg h]

/-- The biases as a column. -/
theorem bias_col (c : Dev nD) (j : Fin 16) : V m c main_v19 (ix2 j 0) = bias (m ((c : Thread nD τ).loc main_arg5)) (m ((c : Thread nD τ).loc main_arg6)) j := by
  rw [← bias_at, show V m c main_v19 = broadcastInDim S16x1 ![0] bcast_S16_S16x1_0 (V m c main_v7) from rfl]
  pointwise

/-- The biases as a row of lanes, then zeros. -/
theorem bias_row (c : Dev nD) (l : Fin 128) : V m c main_v9 (ix2 0 l)
    = if h : l.val < 16 then bias (m ((c : Thread nD τ).loc main_arg5)) (m ((c : Thread nD τ).loc main_arg6)) ⟨l, h⟩ else 0 := by
  rw [show V m c main_v9 = broadcastInDim S1x128 ![1] bcast_S128_S1x128_1 (pad S128 ![0] ![112] ![0] (V m c main_v7)
    (sitofp (F := Ideal) .f32 (constantI S_ 32 0#32)) pads_S16_S128_01120 h_S_) from rfl]
  have hb : ∀ x : FVec Ideal S128 .f32, broadcastInDim S1x128 ![1] bcast_S128_S1x128_1 x (ix2 0 l) = x (ix1 l) := fun x => by
    pointwise
  rw [hb]
  by_cases h : l.val < 16
  · rw [dif_pos h, ← bias_at]
    refine pad_apply_of_inside _ _ _ _ _ _ _ (ix1 l) (ix1 ⟨l, h⟩) fun a => ?_
    match a with
    | ⟨0, _⟩ => show l.val = 0 + l.val * (0 + 1); omega
  · rw [dif_neg h]
    refine (pad_apply_of_not_inside _ _ _ _ _ _ _ (ix1 l) 0 ?_).trans ?_
    · show ¬ (0 ≤ l.val ∧ (l.val - 0) % (0 + 1) = 0 ∧ (l.val - 0) / (0 + 1) < 16)
      omega
    · show (((0#32 : BitVec 32).toInt : ℝ) : EReal) = 0
      simp

set_option maxHeartbeats 2000000 in
/-- A block's modulated normed rows are the reference's. -/
theorem normed_at (c : Dev nD) (t : Fin cfg0.N) (r : Fin 512) (k : Fin 1024) :
    k0_pay4 (F := Ideal) (View.ld (iblk m c 3 t) r0_0) (View.ld (iblk m c 3 t) r0_1) (View.ld (iblk m c 4 t) r0_2) (View.ld (iblk m c 0 t) r0_3) (ix2 r k)
      = val_main_v27 (F := Ideal) (m ((c : Thread nD τ).loc main_arg0)) (m ((c : Thread nD τ).loc main_arg1)) (m ((c : Thread nD τ).loc main_arg2))
        (ix3 ⟨t.val / 8, batch t⟩ ⟨t.val % 8 * 512 + r, by omega⟩ k) := by
  pointwise [k0_pay2, k0_pay3, k0_pay4, val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
  blk_point [iblk, V, idx t]

end Cert.KernelInCellIdeal.RefValue

end
-- ==== Proof.InCellGate.lean ====
module

public import proofs.«01_k».proof.Proof.InCellBlk

@[expose] public section

set_option maxRecDepth 16384

noncomputable section
open Idealize.ShloMosaic Idealize.ShloMosaic.TcCoe Idealize.SL.Sem

namespace Cert.KernelInCellIdeal.RefValue
open Cert.KernelInCellIdeal Cert.KernelInCellIdeal.Gen
open Cert.ReferenceInCellIdeal.Read

/-- The logarithm of one more than an exponential is never `⊥`. -/
theorem log1p_exp_ne_bot (w : EReal) : Ideal.log1p (Ideal.exp w) ≠ ⊥ := by
  have hl : ∀ r : ℝ, 0 < r → Ideal.log (r : EReal) ≠ ⊥ := fun r h => by
    show (if r ≤ 0 then (⊥ : EReal) else (Real.log r : EReal)) ≠ ⊥
    rw [if_neg (not_le.mpr h)]
    exact EReal.coe_ne_bot _
  unfold Ideal.log1p
  induction w using EReal.rec with
  | bot =>
    rw [Ideal.exp_bot, add_zero]
    exact hl 1 one_pos
  | top =>
    rw [Ideal.exp_top, EReal.add_top_of_ne_bot (by decide)]
    exact top_ne_bot
  | coe r =>
    rw [Ideal.exp_coe, ← EReal.coe_one, ← EReal.coe_add]
    exact hl _ (by positivity)

/-- The logarithm of the logistic function, written in two ways. -/
theorem log_gate (z : EReal) : min z 0 - Ideal.log1p (Ideal.exp (0 - max z (-z)))
    = -(max (-z) 0 + Ideal.log1p (Ideal.exp (-(max (-z) (- -z))))) := by
  have h : -(max (-z) 0) = min z 0 := by
    rcases le_total z 0 with h | h
    · rw [min_eq_left h, max_eq_left (EReal.neg_nonneg.mpr h), neg_neg]
    · rw [min_eq_right h, max_eq_right (by rw [← neg_zero]; exact EReal.neg_le_neg_iff.mpr h), neg_zero]
  rw [EReal.neg_add (.inl ((bot_lt_iff_ne_bot.mp (lt_of_lt_of_le EReal.bot_lt_zero (le_max_right _ _))))) (.inr (log1p_exp_ne_bot _)), h, zero_sub, neg_neg,
    max_comm]

/-- A gate from its input with the bias: itself for the first eight, the logarithm of the logistic function for the others. -/
def gate (z : EReal) (j : ℕ) : EReal := if 8 ≤ j then min z 0 - Ideal.log1p (Ideal.exp (0 - max z (-z))) else z

/-- The lanes of the second eight gates. -/
theorem lane_gate : ∀ n : Fin 128, IntOp.andi (IntOp.cmpi CmpIPredicate.sge (BitVec.ofNat 32 n.val) 8#32) (IntOp.cmpi CmpIPredicate.slt (BitVec.ofNat 32 n.val) 16#32)
    = BitVec.ofBool (8 ≤ n.val ∧ n.val < 16) := by
  decide +kernel

/-- The choice by them. -/
theorem gate_select {α : Type} (n : ℕ) (h : n < 128) (a b : α) :
    Scalar.select (IntOp.andi (IntOp.cmpi CmpIPredicate.sge (BitVec.ofNat 32 n) 8#32) (IntOp.cmpi CmpIPredicate.slt (BitVec.ofNat 32 n) 16#32)) a b
      = if 8 ≤ n ∧ n < 16 then a else b := by
  rw [lane_gate ⟨n, h⟩]
  by_cases h : 8 ≤ n ∧ n < 16
  · rw [if_pos h, decide_eq_true h]; rfl
  · rw [if_neg h, decide_eq_false h]; rfl

/-- The rows of the second eight gates. -/
theorem row_gate : ∀ n : Fin 16, IntOp.cmpi CmpIPredicate.sge (BitVec.ofNat 32 n.val) 8#32 = BitVec.ofBool (8 ≤ n.val) := by
  decide +kernel

/-- The choice by them. -/
theorem row_select {α : Type} (n : ℕ) (h : n < 16) (a b : α) :
    Scalar.select (IntOp.cmpi CmpIPredicate.sge (BitVec.ofNat 32 n) 8#32) a b = if 8 ≤ n then a else b := by
  rw [row_gate ⟨n, h⟩]
  by_cases h : 8 ≤ n
  · rw [if_pos h, decide_eq_true h]; rfl
  · rw [if_neg h, decide_eq_false h]; rfl

/-- The gates, on lanes. -/
theorem pay37_at (u : FVec Ideal S512x2432 .f32) (b : FVec Ideal S1x128 .f32) (r : Fin 512) (l : Fin 128) :
    k0_pay37 (F := Ideal) (iota Kind.tc S1x128 32 [1] iota_S1x128_d1_w32) (k0_pay36 u) b (ix3 0 r l)
      = if 8 ≤ l.val ∧ l.val < 16 then gate (u (ix2 r ⟨2304 + l, by omega⟩) + b (ix2 0 l)) l
        else u (ix2 r ⟨2304 + l, by omega⟩) + b (ix2 0 l) := by
  pointwise [k0_pay37, k0_pay36]
  rw [gate_select _ (by omega)]
  by_cases h : 8 ≤ l.val ∧ l.val < 16
  · rw [if_pos h, if_pos h, gate, if_pos h.1]
    rfl
  · rw [if_neg h, if_neg h]

/-- The gates, on rows. -/
theorem pay38_at (x : FVec Ideal S512x1024 .bf16) (w : FVec Ideal S16x1024 .bf16) (b : FVec Ideal S16x1 .f32) (j : Fin 16) (r : Fin 512) :
    k0_pay1 (F := Ideal) (k0_pay38 x w b) (ix3 0 j r)
      = gate ((∑ k : Fin 1024, (show EReal from w (ix2 j k)) * x (ix2 r k)) + b (ix2 j 0)) j := by
  pointwise [k0_pay1, k0_pay38]
  rw [row_select _ (by omega)]
  unfold gate
  rfl

/-- A column of the projection after the logistic function. -/
theorem pay35_at (u : FVec Ideal S512x2432 .f32) (r : Fin 512) (l : Fin 256) :
    k0_pay35 (F := Ideal) u (ix3 0 r l) = Ideal.logistic (u (ix2 r ⟨2048 + l, by omega⟩)) := by
  pointwise [k0_pay35]

/-- A column of the projection. -/
theorem pay34_at (u : FVec Ideal S512x2432 .f32) (r : Fin 512) (l : Fin 256) :
    k0_pay34 (F := Ideal) u (ix3 0 r l) = u (ix2 r ⟨1792 + l, by omega⟩) := by
  pointwise [k0_pay34]

end Cert.KernelInCellIdeal.RefValue

end
-- ==== Proof.InCellConv.lean ====
module

public import proofs.«01_k».proof.Proof.InCellGate

@[expose] public section

set_option maxRecDepth 16384

noncomputable section
open Idealize.ShloMosaic Idealize.ShloMosaic.TcCoe Idealize.SL.Sem

namespace Cert.KernelInCellIdeal.RefValue
open Cert.KernelInCellIdeal Cert.KernelInCellIdeal.Gen
open Cert.ReferenceInCellIdeal.Read

variable (m : (ℓ : Loc nD τ sig) → Buf (Elt Ideal) ℓ)

/-- A block's projection, all columns. -/
abbrev proj (c : Dev nD) (t : Fin cfg0.N) : FVec Ideal S512x2432 .f32 :=
  k0_pay5 (F := Ideal) (View.ld (iblk m c 3 t) r0_0) (View.ld (iblk m c 3 t) r0_1) (View.ld (iblk m c 4 t) r0_2) (View.ld (iblk m c 0 t) r0_3)
    (View.ld (iblk m c 5 t) r0_4)

/-- The eight rows before a block and the eight after it, projected to the convolution's columns. -/
abbrev halo (c : Dev nD) (t : Fin cfg0.N) : FVec Ideal S16x512 .f32 :=
  k0_pay28 (F := Ideal) (k0_pay2 (View.ld (iblk m c 3 t) r0_0)) (k0_pay3 (View.ld (iblk m c 3 t) r0_1)) (View.ld (iblk m c 4 t) r0_2)
    (k0_pay26 (View.ld (iblk m c 1 t) r0_13) (View.ld (iblk m c 2 t) r0_13)) (k0_pay27 (View.ld (iblk m c 1 t) r0_13) (View.ld (iblk m c 2 t) r0_13))
    (Scalar.ofBits .f32 0x44800000#32) (View.ld (iblk m c 5 t) r0_14)

/-- The weights' block is the whole array. -/
theorem weights_blk (c : Dev nD) (t : Fin cfg0.N) (k : Fin 1024) (j : Fin 2432) : iblk m c 5 t (ix2 k j) = V m c main_v4 (ix2 k j) := by
  blk_ext [iblk, idx t]

/-- The columns of it that come of the input weights. -/
theorem proj_in (c : Dev nD) (t : Fin cfg0.N) (r : Fin 512) (j : Fin 1792) :
    proj m c t (ix2 r ⟨512 + j, by omega⟩)
      = val_main_v28 (F := Ideal) (m ((c : Thread nD τ).loc main_arg0)) (m ((c : Thread nD τ).loc main_arg1)) (m ((c : Thread nD τ).loc main_arg2))
        (m ((c : Thread nD τ).loc main_arg4)) (ix3 ⟨t.val / 8, batch t⟩ ⟨t.val % 8 * 512 + r, by omega⟩ ⟨256 + j, by omega⟩) := by
  unfold proj
  pointwise [k0_pay5, val_main_v28]
  refine Finset.sum_congr rfl fun k _ => ?_
  exact congrArg₂ (· * ·) (normed_at m c t r k) ((weights_blk m c t k _).trans (weights_in m c k j))

/-- The gates' columns of it. -/
theorem proj_gate (c : Dev nD) (t : Fin cfg0.N) (r : Fin 512) (j : Fin 16) :
    proj m c t (ix2 r ⟨2304 + j, by omega⟩)
      = val_main_v28 (F := Ideal) (m ((c : Thread nD τ).loc main_arg0)) (m ((c : Thread nD τ).loc main_arg1)) (m ((c : Thread nD τ).loc main_arg2))
        (m ((c : Thread nD τ).loc main_arg4)) (ix3 ⟨t.val / 8, batch t⟩ ⟨t.val % 8 * 512 + r, by omega⟩ ⟨2048 + j, by omega⟩) := by
  unfold proj
  pointwise [k0_pay5, val_main_v28]
  refine Finset.sum_congr rfl fun k _ => ?_
  exact congrArg₂ (· * ·) (normed_at m c t r k) ((weights_blk m c t k _).trans (weights_gate m c k j))

/-- The columns past them. -/
theorem proj_pad (c : Dev nD) (t : Fin cfg0.N) (r : Fin 512) (j : Fin 112) : proj m c t (ix2 r ⟨2320 + j, by omega⟩) = (0 : EReal) := by
  unfold proj
  pointwise [k0_pay5]
  refine Finset.sum_eq_zero fun k _ => ?_
  exact (congrArg₂ (fun a b : EReal => a * b) rfl ((weights_blk m c t k _).trans (weights_pad m c k j))).trans (mul_zero _)

set_option maxHeartbeats 2000000 in
/-- The row before a block. -/
theorem halo_before (c : Dev nD) (t : Fin cfg0.N) (h : 0 < t.val % 8) (j : Fin 512) :
    halo m c t (ix2 (7 : Fin 16) j)
      = val_main_v28 (F := Ideal) (m ((c : Thread nD τ).loc main_arg0)) (m ((c : Thread nD τ).loc main_arg1)) (m ((c : Thread nD τ).loc main_arg2))
        (m ((c : Thread nD τ).loc main_arg4)) (ix3 ⟨t.val / 8, batch t⟩ ⟨t.val % 8 * 512 - 1, by omega⟩ ⟨1024 + j, by omega⟩) := by
  unfold halo
  pointwise [k0_pay28, val_main_v28]
  refine Finset.sum_congr rfl fun k _ => congrArg₂ (· * ·) ?_ ?_
  · pointwise [k0_pay2, k0_pay3, k0_pay26, k0_pay27, val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
    blk_point [iblk, V, idx t]
  · exact (weights_blk m c t k _).trans ((congrArg (fun e => V m c main_v4 (ix2 k e)) (Fin.ext (by dsimp only; omega))).trans
      ((weights_in m c k ⟨768 + j, by omega⟩).trans (congrArg (fun e => m ((c : Thread nD τ).loc main_arg4) (ix2 k e)) (Fin.ext (by dsimp only; omega)))))

set_option maxHeartbeats 2000000 in
/-- The row after a block. -/
theorem halo_after (c : Dev nD) (t : Fin cfg0.N) (h : t.val % 8 < 7) (j : Fin 512) :
    halo m c t (ix2 (8 : Fin 16) j)
      = val_main_v28 (F := Ideal) (m ((c : Thread nD τ).loc main_arg0)) (m ((c : Thread nD τ).loc main_arg1)) (m ((c : Thread nD τ).loc main_arg2))
        (m ((c : Thread nD τ).loc main_arg4)) (ix3 ⟨t.val / 8, batch t⟩ ⟨t.val % 8 * 512 + 512, by omega⟩ ⟨1024 + j, by omega⟩) := by
  unfold halo
  pointwise [k0_pay28, val_main_v28]
  refine Finset.sum_congr rfl fun k _ => congrArg₂ (· * ·) ?_ ?_
  · pointwise [k0_pay2, k0_pay3, k0_pay26, k0_pay27, val_main_cst, val_main_cst_0, val_main_cst_1, val_main_cst_2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27]
    blk_point [iblk, V, idx t]
  · exact (weights_blk m c t k _).trans ((congrArg (fun e => V m c main_v4 (ix2 k e)) (Fin.ext (by dsimp only; omega))).trans
      ((weights_in m c k ⟨768 + j, by omega⟩).trans (congrArg (fun e => m ((c : Thread nD τ).loc main_arg4) (ix2 k e)) (Fin.ext (by dsimp only; omega)))))

/-- A choice by a truth value. -/
theorem edge_select {α : Type} (p : Bool) (a b : α) : Scalar.select (BitVec.ofBool p) a b = if p then a else b := by
  cases p <;> rfl

/-- A block's first row and its last, the first block and the last: the comparisons that tell them. -/
theorem first_rows : ∀ n : Fin 512, IntOp.cmpi CmpIPredicate.eq (BitVec.ofNat 32 n.val) 0#32 = BitVec.ofBool (n.val = 0) := by
  decide +kernel

theorem last_rows : ∀ n : Fin 512, IntOp.cmpi CmpIPredicate.eq (BitVec.ofNat 32 n.val) 511#32 = BitVec.ofBool (n.val = 511) := by
  decide +kernel

theorem first_block : ∀ n : Fin 8, Scalar.cmpi CmpIPredicate.sgt (BitVec.ofNat 32 n.val) 0#32 = BitVec.ofBool (0 < n.val) := by
  decide +kernel

theorem last_block : ∀ n : Fin 8, Scalar.cmpi CmpIPredicate.slt (BitVec.ofNat 32 n.val) 7#32 = BitVec.ofBool (n.val < 7) := by
  decide +kernel

section
variable (i : Fin 8) (v1 v3 : FVec Ideal S1x1024 .f32) (v4 : FVec Ideal S1x1024 .f32) (x : FVec Ideal S512x512 .f32) (a : FVec Ideal S16x1024 .f32)
  (d : FVec Ideal S16x1 .f32) (e : Ideal .f32) (w : FVec Ideal S1024x512 .bf16) (r : Fin 512) (j : Fin 512)

/-- A row's predecessor. -/
theorem pay29_at : k0_pay29 (F := Ideal) (BitVec.ofNat 32 i.val) v1 v3 v4 x a d e w (ix2 r j)
    = if r.val = 0 then if 0 < i.val then k0_pay28 (F := Ideal) v1 v3 v4 a d e w (ix2 (7 : Fin 16) j) else 0
      else x (ix2 ⟨(r + 511) % 512, by omega⟩ j) := by
  unfold k0_pay29
  dsimp only
  rw [first_block i, edge_select]
  generalize k0_pay28 (F := Ideal) v1 v3 v4 a d e w = z
  by_cases hb : 0 < i.val
  · rw [if_pos (decide_eq_true hb), if_pos hb]
    pointwise
    rw [first_rows r, edge_select]
    by_cases hr : r.val = 0
    · rw [if_pos (decide_eq_true hr), if_pos hr]
    · rw [if_neg (by simpa using hr), if_neg hr]
      exact congrArg (fun e => x (ix2 e j)) (Fin.ext (by dsimp only; omega))
  · rw [if_neg (by simpa using hb), if_neg hb]
    pointwise
    rw [first_rows r, edge_select]
    by_cases hr : r.val = 0
    · rw [if_pos (decide_eq_true hr), if_pos hr]
    · rw [if_neg (by simpa using hr), if_neg hr]
      exact congrArg (fun e => x (ix2 e j)) (Fin.ext (by dsimp only; omega))

/-- A row's successor. -/
theorem pay30_at : k0_pay30 (F := Ideal) (BitVec.ofNat 32 i.val) v1 v3 v4 x a d e w (ix2 r j)
    = if r.val = 511 then if i.val < 7 then k0_pay28 (F := Ideal) v1 v3 v4 a d e w (ix2 (8 : Fin 16) j) else 0
      else x (ix2 ⟨(r + 1) % 512, by omega⟩ j) := by
  unfold k0_pay30
  dsimp only
  rw [last_block i, edge_select]
  generalize k0_pay28 (F := Ideal) v1 v3 v4 a d e w = z
  by_cases hb : i.val < 7
  · rw [if_pos (decide_eq_true hb), if_pos hb]
    pointwise
    rw [last_rows r, edge_select]
    by_cases hr : r.val = 511
    · rw [if_pos (decide_eq_true hr), if_pos hr]
    · rw [if_neg (by simpa using hr), if_neg hr]
      exact congrArg (fun e => x (ix2 e j)) (Fin.ext (by dsimp only; omega))
  · rw [if_neg (by simpa using hb), if_neg hb]
    pointwise
    rw [last_rows r, edge_select]
    by_cases hr : r.val = 511
    · rw [if_pos (decide_eq_true hr), if_pos hr]
    · rw [if_neg (by simpa using hr), if_neg hr]
      exact congrArg (fun e => x (ix2 e j)) (Fin.ext (by dsimp only; omega))

end

/-- The convolution of three rows with the weights, then the activation. -/
def act (p q s w0 w1 w2 : EReal) : EReal := (p * w0 + q * w1 + s * w2) * Ideal.logistic (p * w0 + q * w1 + s * w2)

section
variable (x y z : FVec Ideal S512x512 .f32) (w0 w1 w2 : FVec Ideal S1x512 .f32) (r : Fin 512)

/-- The three rows' sum with its activation. -/
theorem pay31_at (j : Fin 512) : k0_pay31 (F := Ideal) x y z w0 w1 w2 (ix2 r j)
    = act (y (ix2 r j)) (x (ix2 r j)) (z (ix2 r j)) (w0 (ix2 0 j)) (w1 (ix2 0 j)) (w2 (ix2 0 j)) := by
  unfold act
  pointwise [k0_pay31]

/-- The queries. -/
theorem pay32_at (j : Fin 256) : k0_pay32 (F := Ideal) x y z w0 w1 w2 (ix3 0 r j) = k0_pay31 (F := Ideal) x y z w0 w1 w2 (ix2 r ⟨j, by omega⟩) := by
  pointwise [k0_pay32]

/-- The keys. -/
theorem pay33_at (j : Fin 256) : k0_pay33 (F := Ideal) x y z w0 w1 w2 (ix3 0 r j)
    = k0_pay31 (F := Ideal) x y z w0 w1 w2 (ix2 r ⟨256 + j, by omega⟩) * Ideal.ofBits .f32 0x3E000000#32 := by
  pointwise [k0_pay33]

end

end Cert.KernelInCellIdeal.RefValue

end
-- ==== Proof.InCellRef.lean ====
module

public import proofs.«01_k».proof.Proof.InCellGate

@[expose] public section

set_option maxRecDepth 16384

noncomputable section
open Idealize.ShloMosaic Idealize.ShloMosaic.TcCoe Idealize.SL.Sem

namespace Cert.ReferenceInCellIdeal.RefValue
open Cert.ReferenceInCellIdeal Cert.ReferenceInCellIdeal.Gen Cert.ReferenceInCellIdeal.Read
open Cert.KernelInCellIdeal.RefValue (bias gate log_gate)

variable (x0 : FVec Ideal S4x4096x1024 .f32) (x1 : FVec Ideal S8x9x1024 .f32) (x2 : FVec Ideal S3x1024 .f32) (x4 : FVec Ideal S1024x2064 .f32)
  (x5 x6 : FVec Ideal S2x4 .f32) (x7 : FVec Ideal S3x512 .f32) (b : Fin 4) (n : Fin 4096)

/-- The convolution's columns with a row of zeros before and after them. -/
theorem v35_at (p : Fin 4098) (j : Fin 512) : val_main_v35 (F := Ideal) x0 x1 x2 x4 (ix3 b p j)
    = if h : 1 ≤ p.val ∧ p.val ≤ 4096 then val_main_v28 (F := Ideal) x0 x1 x2 x4 (ix3 b ⟨p - 1, by omega⟩ ⟨1024 + j, by omega⟩) else 0 := by
  unfold val_main_v35
  by_cases h : 1 ≤ p.val ∧ p.val ≤ 4096
  · rw [dif_pos h]
    refine (pad_apply_of_inside _ _ _ _ _ _ _ (ix3 b p j) (ix3 b (⟨p - 1, by omega⟩ : Fin 4096) j) fun a => ?_).trans ?_
    · match a with
      | ⟨0, _⟩ => show b.val = 0 + b.val * (0 + 1); omega
      | ⟨1, _⟩ => show p.val = 1 + (p.val - 1) * (0 + 1); omega
      | ⟨2, _⟩ => show j.val = 0 + j.val * (0 + 1); omega
    · pointwise [val_main_v30]
  · rw [dif_neg h]
    refine (pad_apply_of_not_inside _ _ _ _ _ _ _ (ix3 b p j) 1 ?_).trans ?_
    · show ¬ (1 ≤ p.val ∧ (p.val - 1) % (0 + 1) = 0 ∧ (p.val - 1) / (0 + 1) < 4096)
      omega
    · show (((0#32 : BitVec 32).toInt : ℝ) : EReal) = 0
      simp

/-- The convolution. -/
theorem v55_at (j : Fin 512) : val_main_v55 (F := Ideal) x0 x1 x2 x4 x7 (ix3 b n j)
    = val_main_v35 (F := Ideal) x0 x1 x2 x4 (ix3 b ⟨n, by omega⟩ j) * x7 (ix2 (0 : Fin 3) j)
      + val_main_v35 (F := Ideal) x0 x1 x2 x4 (ix3 b ⟨1 + n, by omega⟩ j) * x7 (ix2 (1 : Fin 3) j)
      + val_main_v35 (F := Ideal) x0 x1 x2 x4 (ix3 b ⟨2 + n, by omega⟩ j) * x7 (ix2 (2 : Fin 3) j) := by
  pointwise [val_main_v55, val_main_v54, val_main_v53, val_main_v52, val_main_v51, val_main_v50, val_main_v49, val_main_v48, val_main_v47,
    val_main_v46, val_main_v45, val_main_v44, val_main_v43, val_main_v42, val_main_v41, val_main_v40, val_main_v39, val_main_v38, val_main_v37,
    val_main_v36]

/-- The activation. -/
theorem v56_at (j : Fin 512) : val_main_v56 (F := Ideal) x0 x1 x2 x4 x7 (ix3 b n j)
    = val_main_v55 (F := Ideal) x0 x1 x2 x4 x7 (ix3 b n j) * Ideal.logistic (val_main_v55 (F := Ideal) x0 x1 x2 x4 x7 (ix3 b n j)) := by
  pointwise [Ideal.logistic, val_main_v56, val_main_call1_v5, val_main_call1_v4, val_main_call1_cst_0, val_main_call1_v3, val_main_call1_v2,
    val_main_call1_cst, val_main_call1_v1, val_main_call1_v0]

/-- The first result. -/
theorem v69_at (j : Fin 256) : val_main_v69 (F := Ideal) x0 x1 x2 x4 x7 (ix3 b n j)
    = val_main_v56 (F := Ideal) x0 x1 x2 x4 x7 (ix3 b n ⟨j, by omega⟩) := by
  pointwise [val_main_v69, val_main_v57]

/-- The second result. -/
theorem v72_at (j : Fin 256) : val_main_v72 (F := Ideal) x0 x1 x2 x4 x7 (ix3 b n j)
    = val_main_v56 (F := Ideal) x0 x1 x2 x4 x7 (ix3 b n ⟨256 + j, by omega⟩) * Ideal.ofBits .f32 0x3E000000#32 := by
  pointwise [val_main_v72, val_main_v71, val_main_v70, val_main_cst_3, val_main_v58]

/-- The third result. -/
theorem v73_at (j : Fin 256) : val_main_v73 (F := Ideal) x0 x1 x2 x4 (ix3 b n j)
    = val_main_v28 (F := Ideal) x0 x1 x2 x4 (ix3 b n ⟨1536 + j, by omega⟩) := by
  pointwise [val_main_v73, val_main_v31]

/-- The fourth result. -/
theorem v80_at (j : Fin 256) : val_main_v80 (F := Ideal) x0 x1 x2 x4 (ix3 b n j)
    = Ideal.logistic (val_main_v28 (F := Ideal) x0 x1 x2 x4 (ix3 b n ⟨1792 + j, by omega⟩)) := by
  pointwise [Ideal.logistic, val_main_v80, val_main_v79, val_main_v78, val_main_cst_5, val_main_v77, val_main_v76, val_main_cst_4, val_main_v75,
    val_main_v74, val_main_v32]

/-- The input gates. -/
theorem v62_at (j : Fin 8) : val_main_v62 (F := Ideal) x0 x1 x2 x4 x5 (ix3 b n j)
    = val_main_v28 (F := Ideal) x0 x1 x2 x4 (ix3 b n ⟨2048 + j, by omega⟩) + x5 (ix2 (⟨j / 4, by omega⟩ : Fin 2) (⟨j % 4, by omega⟩ : Fin 4)) := by
  rw [← Cert.KernelInCellIdeal.RefValue.flat_at x5 j]
  pointwise [val_main_v62, val_main_v61, val_main_v60, val_main_v59, val_main_v33]

/-- The forget gates before the logarithm. -/
theorem v66_at (j : Fin 8) : val_main_v66 (F := Ideal) x0 x1 x2 x4 x6 (ix3 b n j)
    = val_main_v28 (F := Ideal) x0 x1 x2 x4 (ix3 b n ⟨2056 + j, by omega⟩) + x6 (ix2 (⟨j / 4, by omega⟩ : Fin 2) (⟨j % 4, by omega⟩ : Fin 4)) := by
  rw [← Cert.KernelInCellIdeal.RefValue.flat_at x6 j]
  pointwise [val_main_v66, val_main_v65, val_main_v64, val_main_v63, val_main_v34]

/-- The forget gates. -/
theorem v67_at (j : Fin 8) : val_main_v67 (F := Ideal) x0 x1 x2 x4 x6 (ix3 b n j)
    = (fun z : EReal => min z 0 - Ideal.log1p (Ideal.exp (0 - max z (-z)))) (val_main_v66 (F := Ideal) x0 x1 x2 x4 x6 (ix3 b n j)) := by
  dsimp only
  rw [log_gate]
  pointwise [val_main_v67, val_main_call2_v1, val_main_call2_call0_v11, val_main_call2_call0_v10, val_main_call2_call0_v9, val_main_call2_call0_v8,
    val_main_call2_call0_v7, val_main_call2_call0_v6, val_main_call2_call0_v5, val_main_call2_call0_v4, val_main_call2_call0_v3,
    val_main_call2_call0_v2, val_main_call2_call0_v1, val_main_call2_call0_v0, val_main_call2_call0_cst, val_main_call2_v0]
  rw [if_neg (not_not.mpr rfl)]
  rfl

/-- The gates. -/
theorem v68_at (j : Fin 16) : val_main_v68 (F := Ideal) x0 x1 x2 x4 x5 x6 (ix3 b n j)
    = gate (val_main_v28 (F := Ideal) x0 x1 x2 x4 (ix3 b n ⟨2048 + j, by omega⟩) + bias x5 x6 j) j := by
  unfold gate bias
  pointwise [val_main_v68]
  by_cases h : j.val < 8
  · rw [dif_pos h, dif_pos h, if_neg (show ¬ 8 ≤ j.val by omega)]
    exact v62_at x0 x1 x2 x4 x5 b n ⟨j, h⟩
  · rw [dif_neg h, dif_neg h, if_pos (show 8 ≤ j.val by omega)]
    refine (v67_at x0 x1 x2 x4 x6 b n ⟨j - 8, by omega⟩).trans ?_
    refine congrArg (fun z : EReal => min z 0 - Ideal.log1p (Ideal.exp (0 - max z (-z)))) ?_
    rw [v66_at]
    exact congrArg (fun e => val_main_v28 (F := Ideal) x0 x1 x2 x4 (ix3 b n e) + _) (Fin.ext (by dsimp only; omega))

/-- The fifth result. -/
theorem v81_at (l : Fin 128) : val_main_v81 (F := Ideal) x0 x1 x2 x4 x5 x6 (ix3 b n l)
    = if h : l.val < 16 then val_main_v68 (F := Ideal) x0 x1 x2 x4 x5 x6 (ix3 b n ⟨l, h⟩) else 0 := by
  unfold val_main_v81
  by_cases h : l.val < 16
  · rw [dif_pos h]
    refine pad_apply_of_inside _ _ _ _ _ _ _ (ix3 b n l) (ix3 b n (⟨l, h⟩ : Fin 16)) fun a => ?_
    match a with
    | ⟨0, _⟩ => show b.val = 0 + b.val * (0 + 1); omega
    | ⟨1, _⟩ => show n.val = 0 + n.val * (0 + 1); omega
    | ⟨2, _⟩ => show l.val = 0 + l.val * (0 + 1); omega
  · rw [dif_neg h]
    refine (pad_apply_of_not_inside _ _ _ _ _ _ _ (ix3 b n l) 2 ?_).trans ?_
    · show ¬ (0 ≤ l.val ∧ (l.val - 0) % (0 + 1) = 0 ∧ (l.val - 0) / (0 + 1) < 16)
      omega
    · show (((0#32 : BitVec 32).toInt : ℝ) : EReal) = 0
      simp

/-- The sixth result. -/
theorem v82_at (j : Fin 16) : val_main_v82 (F := Ideal) x0 x1 x2 x4 x5 x6 (ix3 b j n)
    = val_main_v68 (F := Ideal) x0 x1 x2 x4 x5 x6 (ix3 b n j) := by
  pointwise [val_main_v82]

end Cert.ReferenceInCellIdeal.RefValue

end
-- ==== Proof.InCellValue.lean ====
module

public import proofs.«01_k».proof.Proof.InCellConv
public import proofs.«01_k».proof.Proof.InCellRef

@[expose] public section

set_option maxRecDepth 16384

noncomputable section
open Idealize.ShloMosaic Idealize.ShloMosaic.TcCoe Idealize.SL.Sem

namespace Cert.KernelInCellIdeal.RefValue
open Cert.KernelInCellIdeal Cert.KernelInCellIdeal.Gen
open Cert.ReferenceInCellIdeal.Read

variable (m : (ℓ : Loc nD τ sig) → Buf (Elt Ideal) ℓ)

/-- A block's columns of the convolution, and the rows before and after its rows. -/
abbrev cur (c : Dev nD) (t : Fin cfg0.N) : FVec Ideal S512x512 .f32 := k0_pay25 (proj m c t)

abbrev before (c : Dev nD) (t : Fin cfg0.N) : FVec Ideal S512x512 .f32 :=
  k0_pay29 (F := Ideal) (BitVec.ofNat 32 (grid0.coords t 1).val) (k0_pay2 (View.ld (iblk m c 3 t) r0_0)) (k0_pay3 (View.ld (iblk m c 3 t) r0_1))
    (View.ld (iblk m c 4 t) r0_2) (cur m c t) (k0_pay26 (View.ld (iblk m c 1 t) r0_13) (View.ld (iblk m c 2 t) r0_13))
    (k0_pay27 (View.ld (iblk m c 1 t) r0_13) (View.ld (iblk m c 2 t) r0_13)) (Scalar.ofBits .f32 0x44800000#32) (View.ld (iblk m c 5 t) r0_14)

abbrev after (c : Dev nD) (t : Fin cfg0.N) : FVec Ideal S512x512 .f32 :=
  k0_pay30 (F := Ideal) (BitVec.ofNat 32 (grid0.coords t 1).val) (k0_pay2 (View.ld (iblk m c 3 t) r0_0)) (k0_pay3 (View.ld (iblk m c 3 t) r0_1))
    (View.ld (iblk m c 4 t) r0_2) (cur m c t) (k0_pay26 (View.ld (iblk m c 1 t) r0_13) (View.ld (iblk m c 2 t) r0_13))
    (k0_pay27 (View.ld (iblk m c 1 t) r0_13) (View.ld (iblk m c 2 t) r0_13)) (Scalar.ofBits .f32 0x44800000#32) (View.ld (iblk m c 5 t) r0_14)

/-- The reference's projection at a row of the block's batch and a column of the convolution. -/
def row (c : Dev nD) (t : Fin cfg0.N) (n : ℕ) (hn : n < 4096) (j : Fin 512) : EReal :=
  val_main_v28 (F := Ideal) (m ((c : Thread nD τ).loc main_arg0)) (m ((c : Thread nD τ).loc main_arg1)) (m ((c : Thread nD τ).loc main_arg2)) (m ((c : Thread nD τ).loc main_arg4)) (ix3 ⟨t.val / 8, batch t⟩ (⟨n, hn⟩ : Fin 4096) ⟨1024 + j, by omega⟩)

theorem row_congr (c : Dev nD) (t : Fin cfg0.N) (n n' : ℕ) (hn : n < 4096) (hn' : n' < 4096) (j : Fin 512) (h : n = n') :
    row m c t n hn j = row m c t n' hn' j := by
  subst h
  rfl

theorem cur_row (c : Dev nD) (t : Fin cfg0.N) (r : Fin 512) (j : Fin 512) : cur m c t (ix2 r j) = row m c t (t.val % 8 * 512 + r) (by omega) j := by
  unfold cur row
  refine Eq.trans ?_ ((proj_in m c t r ⟨768 + j, by omega⟩).trans
    (congrArg (fun e => val_main_v28 (F := Ideal) _ _ _ _ (ix3 _ _ e)) (Fin.ext (by dsimp only; omega))))
  generalize proj m c t = u
  pointwise [k0_pay25]
  exact congrArg (fun e => u (ix2 r e)) (Fin.ext (by dsimp only; omega))

theorem pad_row (c : Dev nD) (t : Fin cfg0.N) (n : ℕ) (hn : n < 4096) (p : Fin 4098) (h : p.val = n + 1) (j : Fin 512) :
    val_main_v35 (F := Ideal) (m ((c : Thread nD τ).loc main_arg0)) (m ((c : Thread nD τ).loc main_arg1)) (m ((c : Thread nD τ).loc main_arg2)) (m ((c : Thread nD τ).loc main_arg4)) (ix3 ⟨t.val / 8, batch t⟩ p j) = row m c t n hn j := by
  rw [Cert.ReferenceInCellIdeal.RefValue.v35_at, dif_pos (show 1 ≤ p.val ∧ p.val ≤ 4096 by omega)]
  exact congrArg (fun e : Fin 4096 => val_main_v28 (F := Ideal) (m ((c : Thread nD τ).loc main_arg0)) (m ((c : Thread nD τ).loc main_arg1)) (m ((c : Thread nD τ).loc main_arg2)) (m ((c : Thread nD τ).loc main_arg4)) (ix3 ⟨t.val / 8, batch t⟩ e ⟨1024 + j, by omega⟩)) (Fin.ext (by dsimp only; omega))

theorem pad_zero (c : Dev nD) (t : Fin cfg0.N) (p : Fin 4098) (h : p.val = 0 ∨ p.val = 4097) (j : Fin 512) :
    val_main_v35 (F := Ideal) (m ((c : Thread nD τ).loc main_arg0)) (m ((c : Thread nD τ).loc main_arg1)) (m ((c : Thread nD τ).loc main_arg2)) (m ((c : Thread nD τ).loc main_arg4)) (ix3 ⟨t.val / 8, batch t⟩ p j) = 0 := by
  rw [Cert.ReferenceInCellIdeal.RefValue.v35_at, dif_neg (show ¬ (1 ≤ p.val ∧ p.val ≤ 4096) by omega)]

theorem before_at (c : Dev nD) (t : Fin cfg0.N) (r : Fin 512) (j : Fin 512) : before m c t (ix2 r j)
    = val_main_v35 (F := Ideal) (m ((c : Thread nD τ).loc main_arg0)) (m ((c : Thread nD τ).loc main_arg1)) (m ((c : Thread nD τ).loc main_arg2)) (m ((c : Thread nD τ).loc main_arg4)) (ix3 ⟨t.val / 8, batch t⟩ ⟨t.val % 8 * 512 + r, by omega⟩ j) := by
  have hi : ((grid0.coords t 1 : Fin 8) : ℕ) = t.val % 8 := (idx t).2.2.2.2.2.2.2.2.2.2
  refine (pay29_at (grid0.coords t 1) _ _ _ _ _ _ _ _ r j).trans ?_
  by_cases hr : r.val = 0
  · rw [if_pos hr]
    by_cases hb : 0 < t.val % 8
    · rw [if_pos (lt_of_lt_of_eq hb hi.symm), pad_row m c t (t.val % 8 * 512 - 1) (by omega) _ (by dsimp only; omega)]
      exact halo_before m c t hb j
    · rw [if_neg (by omega), pad_zero m c t _ (.inl (by dsimp only; omega))]
  · rw [if_neg hr, pad_row m c t (t.val % 8 * 512 + r - 1) (by omega) _ (by dsimp only; omega), cur_row]
    exact row_congr m c t _ _ _ _ j (by dsimp only; omega)

theorem after_at (c : Dev nD) (t : Fin cfg0.N) (r : Fin 512) (j : Fin 512) : after m c t (ix2 r j)
    = val_main_v35 (F := Ideal) (m ((c : Thread nD τ).loc main_arg0)) (m ((c : Thread nD τ).loc main_arg1)) (m ((c : Thread nD τ).loc main_arg2)) (m ((c : Thread nD τ).loc main_arg4)) (ix3 ⟨t.val / 8, batch t⟩ ⟨2 + (t.val % 8 * 512 + r), by omega⟩ j) := by
  have hi : ((grid0.coords t 1 : Fin 8) : ℕ) = t.val % 8 := (idx t).2.2.2.2.2.2.2.2.2.2
  refine (pay30_at (grid0.coords t 1) _ _ _ _ _ _ _ _ r j).trans ?_
  by_cases hr : r.val = 511
  · rw [if_pos hr]
    by_cases hb : t.val % 8 < 7
    · rw [if_pos (lt_of_eq_of_lt hi hb), pad_row m c t (t.val % 8 * 512 + 512) (by omega) _ (by dsimp only; omega)]
      exact halo_after m c t hb j
    · rw [if_neg (by omega), pad_zero m c t _ (.inr (by dsimp only; omega))]
  · rw [if_neg hr, pad_row m c t (t.val % 8 * 512 + r + 1) (by omega) _ (by dsimp only; omega), cur_row]
    exact row_congr m c t _ _ _ _ j (by dsimp only; omega)

/-- The convolution's weights. -/
theorem conv_w (c : Dev nD) (t : Fin cfg0.N) (j : Fin 512) :
    View.ld (iblk m c 9 t) r0_15 (ix2 0 j) = m ((c : Thread nD τ).loc main_arg7) (ix2 (0 : Fin 3) j)
    ∧ View.ld (iblk m c 9 t) r0_16 (ix2 0 j) = m ((c : Thread nD τ).loc main_arg7) (ix2 (1 : Fin 3) j)
    ∧ View.ld (iblk m c 9 t) r0_17 (ix2 0 j) = m ((c : Thread nD τ).loc main_arg7) (ix2 (2 : Fin 3) j) := by
  refine ⟨?_, ?_, ?_⟩
  all_goals
    pointwise
    blk_point [iblk, V, idx t]

/-- The convolution with its activation is the reference's. -/
theorem conv_at (c : Dev nD) (t : Fin cfg0.N) (r : Fin 512) (j : Fin 512) :
    k0_pay31 (F := Ideal) (cur m c t) (before m c t) (after m c t) (View.ld (iblk m c 9 t) r0_15) (View.ld (iblk m c 9 t) r0_16) (View.ld (iblk m c 9 t) r0_17) (ix2 r j)
      = val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg7)) (ix3 ⟨t.val / 8, batch t⟩ ⟨t.val % 8 * 512 + r, by omega⟩ j) := by
  rw [pay31_at, Cert.ReferenceInCellIdeal.RefValue.v56_at, Cert.ReferenceInCellIdeal.RefValue.v55_at, before_at, after_at, (conv_w m c t j).1,
    (conv_w m c t j).2.1, (conv_w m c t j).2.2, cur_row, ← pad_row m c t (t.val % 8 * 512 + r) (by omega) ⟨1 + (t.val % 8 * 512 + r), by omega⟩ (by dsimp only; omega)]
  rfl

/-- A gate of the block: the projection's column with the bias. -/
theorem gate_at (c : Dev nD) (t : Fin cfg0.N) (r : Fin 512) (j : Fin 16) :
    gate (proj m c t (ix2 r ⟨2304 + j, by omega⟩) + bias (m ((c : Thread nD τ).loc main_arg5)) (m ((c : Thread nD τ).loc main_arg6)) j) j
      = val_main_v68 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix3 ⟨t.val / 8, batch t⟩ ⟨t.val % 8 * 512 + r, by omega⟩ j) := by
  rw [Cert.ReferenceInCellIdeal.RefValue.v68_at, proj_gate]

/-- The gates' biases' block. -/
theorem bias_blk (c : Dev nD) (t : Fin cfg0.N) (l : Fin 128) : View.ld (iblk m c 7 t) r0_19 (ix2 0 l) = V m c main_v9 (ix2 0 l) := by
  pointwise
  blk_ext [iblk, idx t]

theorem bias_col_blk (c : Dev nD) (t : Fin cfg0.N) (j : Fin 16) : View.ld (iblk m c 8 t) r0_22 (ix2 j 0) = V m c main_v19 (ix2 j 0) := by
  pointwise
  blk_ext [iblk, idx t]

/-- The transposed weights' block. -/
theorem weights_t_blk (c : Dev nD) (t : Fin cfg0.N) (j : Fin 16) (k : Fin 1024) : View.ld (iblk m c 6 t) r0_21 (ix2 j k) = V m c main_v18 (ix2 j k) := by
  pointwise
  blk_ext [iblk, idx t]

/-- A lane of the padded gates. -/
theorem lanes_at (c : Dev nD) (t : Fin cfg0.N) (r : Fin 512) (l : Fin 128) :
    k0_pay37 (F := Ideal) (iota Kind.tc S1x128 32 [1] iota_S1x128_d1_w32) (k0_pay36 (proj m c t)) (View.ld (iblk m c 7 t) r0_19) (ix3 0 r l)
      = val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix3 ⟨t.val / 8, batch t⟩ ⟨t.val % 8 * 512 + r, by omega⟩ l) := by
  rw [pay37_at, Cert.ReferenceInCellIdeal.RefValue.v81_at, bias_blk, bias_row]
  by_cases h : l.val < 16
  · rw [dif_pos h, dif_pos h, ← gate_at]
    by_cases h8 : 8 ≤ l.val
    · rw [if_pos ⟨h8, h⟩]
    · rw [if_neg (fun hh => h8 hh.1)]
      unfold gate
      rw [if_neg h8]
  · rw [dif_neg h, dif_neg h, if_neg (fun hh => h hh.2), add_zero]
    refine Eq.trans (congrArg (fun e => proj m c t (ix2 r e)) ?_) (proj_pad m c t r ⟨l - 16, by omega⟩)
    exact Fin.ext (by dsimp only; omega)

/-- The reference's gate columns, as sums. -/
theorem proj_sum (c : Dev nD) (t : Fin cfg0.N) (r : Fin 512) (j : Fin 16) :
    val_main_v28 (F := Ideal) (m ((c : Thread nD τ).loc main_arg0)) (m ((c : Thread nD τ).loc main_arg1)) (m ((c : Thread nD τ).loc main_arg2)) (m ((c : Thread nD τ).loc main_arg4)) (ix3 ⟨t.val / 8, batch t⟩ ⟨t.val % 8 * 512 + r, by omega⟩ ⟨2048 + j, by omega⟩)
      = ∑ k : Fin 1024, (show EReal from val_main_v27 (F := Ideal) (m ((c : Thread nD τ).loc main_arg0)) (m ((c : Thread nD τ).loc main_arg1)) (m ((c : Thread nD τ).loc main_arg2)) (ix3 ⟨t.val / 8, batch t⟩ ⟨t.val % 8 * 512 + r, by omega⟩ k)) * m ((c : Thread nD τ).loc main_arg4) (ix2 k ⟨2048 + j, by omega⟩) := by
  pointwise [val_main_v28]

/-- A row of the transposed gates. -/
theorem rows_at (c : Dev nD) (t : Fin cfg0.N) (r : Fin 512) (j : Fin 16) :
    k0_pay1 (F := Ideal) (k0_pay38 (k0_pay4 (View.ld (iblk m c 3 t) r0_0) (View.ld (iblk m c 3 t) r0_1) (View.ld (iblk m c 4 t) r0_2) (View.ld (iblk m c 0 t) r0_3))
      (View.ld (iblk m c 6 t) r0_21) (View.ld (iblk m c 8 t) r0_22)) (ix3 0 j r)
      = val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix3 ⟨t.val / 8, batch t⟩ j ⟨t.val % 8 * 512 + r, by omega⟩) := by
  refine (pay38_at _ _ _ j r).trans (Eq.trans ?_ (Cert.ReferenceInCellIdeal.RefValue.v82_at _ _ _ _ _ _ _ _ _).symm)
  rw [Cert.ReferenceInCellIdeal.RefValue.v68_at, proj_sum]
  refine congrArg₂ (fun y z : EReal => gate (y + z) j) (Finset.sum_congr rfl fun k _ => (mul_comm _ _).trans ?_) ((bias_col_blk m c t j).trans (bias_col m c j))
  exact congrArg₂ (fun y z : EReal => y * z) (normed_at m c t r k) ((weights_t_blk m c t j k).trans (weights_t m c k j))

set_option maxHeartbeats 2000000 in
/-- The first result. -/
theorem final16 (c : Dev nD) : (dats m 0 c).arrAt 16 (cfgs 0).N
    = val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg7)) := by
  refine (dats m 0 c).arrAt_eq_of_covers 16 _ (by decide +kernel) fun t _ y => ?_
  blk_simp
  rw [after0_16]; unfold out0_16
  generalize hj : (((View.whole main_v29_4).slice (win0_16.rect t)).emb y) = j
  have hj0 : ((j 0 : Fin 4) : ℕ) = t.val / 8 := by subst hj; blk_simp [idx_out t] <;> try omega
  have hj1 : ((j 1 : Fin 4096) : ℕ) = t.val % 8 * 512 + (y 1 : ℕ) := by subst hj; blk_simp [idx_out t] <;> try omega
  have hj2 : ((j 2 : Fin 256) : ℕ) = (y 2 : ℕ) := by subst hj; blk_simp [idx_out t] <;> try omega
  clear hj
  canon_tiles x h
  have hx : x = ix3 0 (x 1) (x 2) := by blk_ext
  have hy : j = ix3 ⟨t.val / 8, batch t⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  exact (pay32_at _ _ _ _ _ _ (x 1) (x 2)).trans ((conv_at m c t (x 1) ⟨(x 2 : Fin 256), by omega⟩).trans
    (Cert.ReferenceInCellIdeal.RefValue.v69_at _ _ _ _ _ _ _ _).symm)

set_option maxHeartbeats 2000000 in
/-- The second result. -/
theorem final17 (c : Dev nD) : (dats m 0 c).arrAt 17 (cfgs 0).N
    = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg7)) := by
  refine (dats m 0 c).arrAt_eq_of_covers 17 _ (by decide +kernel) fun t _ y => ?_
  blk_simp
  rw [after0_17]; unfold out0_17
  generalize hj : (((View.whole main_v29_5).slice (win0_17.rect t)).emb y) = j
  have hj0 : ((j 0 : Fin 4) : ℕ) = t.val / 8 := by subst hj; blk_simp [idx_out t] <;> try omega
  have hj1 : ((j 1 : Fin 4096) : ℕ) = t.val % 8 * 512 + (y 1 : ℕ) := by subst hj; blk_simp [idx_out t] <;> try omega
  have hj2 : ((j 2 : Fin 256) : ℕ) = (y 2 : ℕ) := by subst hj; blk_simp [idx_out t] <;> try omega
  clear hj
  canon_tiles x h
  have hx : x = ix3 0 (x 1) (x 2) := by blk_ext
  have hy : j = ix3 ⟨t.val / 8, batch t⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  exact (pay33_at _ _ _ _ _ _ (x 1) (x 2)).trans ((congrArg (· * Ideal.ofBits .f32 0x3E000000#32)
    (conv_at m c t (x 1) ⟨256 + (x 2 : Fin 256), by omega⟩)).trans (Cert.ReferenceInCellIdeal.RefValue.v72_at _ _ _ _ _ _ _ _).symm)

set_option maxHeartbeats 2000000 in
/-- The third result. -/
theorem final18 (c : Dev nD) : (dats m 0 c).arrAt 18 (cfgs 0).N
    = val_main_v73 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 18 _ (by decide +kernel) fun t _ y => ?_
  blk_simp
  rw [after0_18]; unfold out0_18
  generalize hj : (((View.whole main_v29_6).slice (win0_18.rect t)).emb y) = j
  have hj0 : ((j 0 : Fin 4) : ℕ) = t.val / 8 := by subst hj; blk_simp [idx_out t] <;> try omega
  have hj1 : ((j 1 : Fin 4096) : ℕ) = t.val % 8 * 512 + (y 1 : ℕ) := by subst hj; blk_simp [idx_out t] <;> try omega
  have hj2 : ((j 2 : Fin 256) : ℕ) = (y 2 : ℕ) := by subst hj; blk_simp [idx_out t] <;> try omega
  clear hj
  canon_tiles x h
  have hx : x = ix3 0 (x 1) (x 2) := by blk_ext
  have hy : j = ix3 ⟨t.val / 8, batch t⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  refine (pay34_at (proj m c t) (x 1) (x 2)).trans (Eq.trans ?_ (Cert.ReferenceInCellIdeal.RefValue.v73_at _ _ _ _ _ _ _).symm)
  refine Eq.trans (congrArg (fun e => proj m c t (ix2 (x 1) e)) ?_) ((proj_in m c t (x 1) ⟨1280 + (x 2 : Fin 256), by omega⟩).trans
    (congrArg (fun e => val_main_v28 (F := Ideal) _ _ _ _ (ix3 _ _ e)) ?_))
  · exact Fin.ext (by dsimp only; omega)
  · exact Fin.ext (by dsimp only; omega)

set_option maxHeartbeats 2000000 in
/-- The fourth result. -/
theorem final19 (c : Dev nD) : (dats m 0 c).arrAt 19 (cfgs 0).N
    = val_main_v80 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 19 _ (by decide +kernel) fun t _ y => ?_
  blk_simp
  rw [after0_19]; unfold out0_19
  generalize hj : (((View.whole main_v29_7).slice (win0_19.rect t)).emb y) = j
  have hj0 : ((j 0 : Fin 4) : ℕ) = t.val / 8 := by subst hj; blk_simp [idx_out t] <;> try omega
  have hj1 : ((j 1 : Fin 4096) : ℕ) = t.val % 8 * 512 + (y 1 : ℕ) := by subst hj; blk_simp [idx_out t] <;> try omega
  have hj2 : ((j 2 : Fin 256) : ℕ) = (y 2 : ℕ) := by subst hj; blk_simp [idx_out t] <;> try omega
  clear hj
  canon_tiles x h
  have hx : x = ix3 0 (x 1) (x 2) := by blk_ext
  have hy : j = ix3 ⟨t.val / 8, batch t⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  refine (pay35_at (proj m c t) (x 1) (x 2)).trans (Eq.trans (congrArg Ideal.logistic ?_) (Cert.ReferenceInCellIdeal.RefValue.v80_at _ _ _ _ _ _ _).symm)
  refine Eq.trans (congrArg (fun e => proj m c t (ix2 (x 1) e)) ?_) ((proj_in m c t (x 1) ⟨1536 + (x 2 : Fin 256), by omega⟩).trans
    (congrArg (fun e => val_main_v28 (F := Ideal) _ _ _ _ (ix3 _ _ e)) ?_))
  · exact Fin.ext (by dsimp only; omega)
  · exact Fin.ext (by dsimp only; omega)

set_option maxHeartbeats 2000000 in
/-- The fifth result. -/
theorem final20 (c : Dev nD) : (dats m 0 c).arrAt 20 (cfgs 0).N
    = val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 20 _ (by decide +kernel) fun t _ y => ?_
  blk_simp
  rw [after0_20]; unfold out0_20
  generalize hj : (((View.whole main_v29_8).slice (win0_20.rect t)).emb y) = j
  have hj0 : ((j 0 : Fin 4) : ℕ) = t.val / 8 := by subst hj; blk_simp [idx_out t] <;> try omega
  have hj1 : ((j 1 : Fin 4096) : ℕ) = t.val % 8 * 512 + (y 1 : ℕ) := by subst hj; blk_simp [idx_out t] <;> try omega
  have hj2 : ((j 2 : Fin 128) : ℕ) = (y 2 : ℕ) := by subst hj; blk_simp [idx_out t] <;> try omega
  clear hj
  canon_tiles x h
  have hx : x = ix3 0 (x 1) (x 2) := by blk_ext
  have hy : j = ix3 ⟨t.val / 8, batch t⟩ ⟨t.val % 8 * 512 + (x 1 : Fin 512), by omega⟩ (x 2) := by
    funext a
    match a with
    | ⟨0, _⟩ => exact Fin.ext hj0
    | ⟨1, _⟩ => exact Fin.ext (hj1.trans (congrArg (t.val % 8 * 512 + ·) h1))
    | ⟨2, _⟩ => exact Fin.ext (hj2.trans h2)
  rw [hx, hy]
  exact lanes_at m c t (x 1) (x 2)

set_option maxHeartbeats 2000000 in
/-- The sixth result. -/
theorem final21 (c : Dev nD) : (dats m 0 c).arrAt 21 (cfgs 0).N
    = val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 21 _ (by decide +kernel) fun t _ y => ?_
  blk_simp
  rw [after0_21]; unfold out0_21
  generalize hj : (((View.whole main_v29_9).slice (win0_21.rect t)).emb y) = j
  have hj0 : ((j 0 : Fin 4) : ℕ) = t.val / 8 := by subst hj; blk_simp [idx_out t] <;> try omega
  have hj1 : ((j 1 : Fin 16) : ℕ) = (y 1 : ℕ) := by subst hj; blk_simp [idx_out t] <;> try omega
  have hj2 : ((j 2 : Fin 4096) : ℕ) = t.val % 8 * 512 + (y 2 : ℕ) := by subst hj; blk_simp [idx_out t] <;> try omega
  clear hj
  canon_tiles x h
  have hx : x = ix3 0 (x 1) (x 2) := by blk_ext
  have hy : j = ix3 ⟨t.val / 8, batch t⟩ (x 1) ⟨t.val % 8 * 512 + (x 2 : Fin 512), by omega⟩ := by
    funext a
    match a with
    | ⟨0, _⟩ => exact Fin.ext hj0
    | ⟨1, _⟩ => exact Fin.ext (hj1.trans h1)
    | ⟨2, _⟩ => exact Fin.ext (hj2.trans (congrArg (t.val % 8 * 512 + ·) h2))
  rw [hx, hy]
  exact rows_at m c t (x 2) (x 1)

end Cert.KernelInCellIdeal.RefValue

end
-- ==== Proof.InCellClaim.lean ====
module

public import proofs.«01_k».proof.Defs
public import proofs.«01_k».proof.Proof.InCellValue
public import proofs.«01_k».proof.Proof.Gen.ReferenceInCellIdeal.Run
public import Idealize.ShloMosaic.Lib.Quiescent

@[expose] public section

set_option maxRecDepth 16384

noncomputable section
open Idealize.ShloMosaic Idealize.ShloMosaic.TcCoe Idealize.SL.Sem

namespace Cert.Proof.InCell

/-- The reference's frame: its run, and no counter to drain. -/
theorem frame_reference : Cert.quiescent_ReferenceInCellIdeal (hReferenceInCellIdeal := Cert.ReferenceInCellIdeal.Gen.facts) :=
  fun m ρ _ => (θ_run Cert.ReferenceInCellIdeal.defs _ _).mono
    (fun r h => ⟨fun c => (h c).2.2.2.2.2.2, sem_eq_zero_of_no_sems (by decide) r.2⟩)
    (Cert.ReferenceInCellIdeal.Value.run (F := Ideal) m ρ)

set_option maxHeartbeats 2000000 in
open Cert.KernelInCellIdeal.RefValue in
/-- The input projection's other six results are the reference's. -/
theorem algebraic : Cert.algebraic_KernelInCellIdeal_ReferenceInCellIdeal (hKernelInCellIdeal := Cert.KernelInCellIdeal.Gen.facts)
    (hReferenceInCellIdeal := Cert.ReferenceInCellIdeal.Gen.facts) := by
  intro m g m' g' _ hagree
  refine ⟨_, _, _, _, _, _, (θ_run Cert.KernelInCellIdeal.defs _ _).mono
      (fun _ h c => ⟨(h c).2.2.2.2.1.trans (final16 m c), (h c).2.2.2.2.2.1.trans (final17 m c), (h c).2.2.2.2.2.2.1.trans (final18 m c),
        (h c).2.2.2.2.2.2.2.1.trans (final19 m c), (h c).2.2.2.2.2.2.2.2.1.trans (final20 m c), (h c).2.2.2.2.2.2.2.2.2.1.trans (final21 m c),
        (h c).2.2.2.2.2.2.2.2.2.2⟩)
      (Cert.KernelInCellIdeal.Value.run_blocks (F := Ideal) m g), ?_⟩
  refine (θ_run Cert.ReferenceInCellIdeal.defs _ _).mono
    (fun _ h c => ⟨((h c).1.trans (Cert.ReferenceInCellIdeal.Read.val_main_v69_eq ..)).trans ?_,
      ((h c).2.1.trans (Cert.ReferenceInCellIdeal.Read.val_main_v72_eq ..)).trans ?_,
      ((h c).2.2.1.trans (Cert.ReferenceInCellIdeal.Read.val_main_v73_eq ..)).trans ?_,
      ((h c).2.2.2.1.trans (Cert.ReferenceInCellIdeal.Read.val_main_v80_eq ..)).trans ?_,
      ((h c).2.2.2.2.1.trans (Cert.ReferenceInCellIdeal.Read.val_main_v81_eq ..)).trans ?_,
      ((h c).2.2.2.2.2.1.trans (Cert.ReferenceInCellIdeal.Read.val_main_v82_eq ..)).trans ?_, (h c).2.2.2.2.2.2⟩)
    (Cert.ReferenceInCellIdeal.Value.run (F := Ideal) m' g')
  all_goals
    obtain ⟨h0, h1, h2, h3, h4, h5, h6, h7, h8, h9⟩ := hagree c
  · rw [h0, h1, h2, h4, h7]
  · rw [h0, h1, h2, h4, h7]
  · rw [h0, h1, h2, h4]
  · rw [h0, h1, h2, h4]
  · rw [h0, h1, h2, h4, h5, h6]
  · rw [h0, h1, h2, h4, h5, h6]

end Cert.Proof.InCell

end
-- ==== Proof.lean ====
module

public import proofs.«01_k».proof.Defs
public import proofs.«01_k».proof.Proof.Gen.Kernel.Frame
public import proofs.«01_k».proof.Proof.Gen.KernelFfn.Frame
public import proofs.«01_k».proof.Proof.Gen.KernelIdeal.Value
public import proofs.«01_k».proof.Proof.Gen.KernelFfnIdeal.Value
public import proofs.«01_k».proof.Proof.Gen.ReferenceIdeal.Run
public import proofs.«01_k».proof.Proof.Gen.ReferenceFfnIdeal.Run
public import proofs.«01_k».proof.Proof.Gen.ReferenceFfnIdeal.Read
public import proofs.«01_k».proof.Proof.Gen.KernelFfnFirst.Frame
public import proofs.«01_k».proof.Proof.Gen.KernelFfnFirstIdeal.Value
public import proofs.«01_k».proof.Proof.Gen.ReferenceFfnFirstIdeal.Run
public import proofs.«01_k».proof.Proof.Gen.ReferenceFfnFirstIdeal.Read
public import proofs.«01_k».proof.Proof.Gen.KernelFfnSecond.Frame
public import proofs.«01_k».proof.Proof.Gen.KernelFfnSecondIdeal.Value
public import proofs.«01_k».proof.Proof.Gen.ReferenceFfnSecondIdeal.Run
public import proofs.«01_k».proof.Proof.Gen.ReferenceFfnSecondIdeal.Read
public import proofs.«01_k».proof.Proof.Gen.KernelFfnContext.Frame
public import proofs.«01_k».proof.Proof.Gen.KernelFfnContextIdeal.Value
public import proofs.«01_k».proof.Proof.Gen.ReferenceFfnContextIdeal.Run
public import proofs.«01_k».proof.Proof.Gen.ReferenceFfnContextIdeal.Read
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelDft.Frame
public import proofs.«01_k».proof.Proof.Gen.KernelDftIdeal.Value
public import proofs.«01_k».proof.Proof.Gen.ReferenceDftIdeal.Run
public import proofs.«01_k».proof.Proof.Gen.ReferenceDftIdeal.Read
public import proofs.«01_k».proof.Proof.Gen.KernelFfnContextSecond.Frame
public import proofs.«01_k».proof.Proof.Gen.KernelFfnContextSecondIdeal.Value
public import proofs.«01_k».proof.Proof.Gen.ReferenceFfnContextSecondIdeal.Run
public import proofs.«01_k».proof.Proof.Gen.ReferenceFfnContextSecondIdeal.Read
public import proofs.«01_k».proof.Proof.Gen.KernelOutContext.Frame
public import proofs.«01_k».proof.Proof.Gen.KernelOutContextIdeal.Value
public import proofs.«01_k».proof.Proof.Gen.ReferenceOutContextIdeal.Run
public import proofs.«01_k».proof.Proof.Gen.ReferenceOutContextIdeal.Read
public import proofs.«01_k».proof.Proof.Gen.KernelInMix.Frame
public import proofs.«01_k».proof.Proof.Gen.KernelInCell.Frame
public import proofs.«01_k».proof.Proof.Gen.KernelInMixIdeal.Value
public import proofs.«01_k».proof.Proof.Gen.KernelInCellIdeal.Value
public import proofs.«01_k».proof.Proof.Gen.ReferenceInMixIdeal.Run
public import proofs.«01_k».proof.Proof.Gen.ReferenceInCellIdeal.Run
public import proofs.«01_k».proof.Proof.Gen.ReferenceInMixIdeal.Read
public import proofs.«01_k».proof.Proof.Gen.ReferenceInCellIdeal.Read
public import proofs.«01_k».proof.Proof.AttnClaim
public import proofs.«01_k».proof.Proof.FfnClaim
public import proofs.«01_k».proof.Proof.FfnFirstClaim
public import proofs.«01_k».proof.Proof.FfnSecondClaim
public import proofs.«01_k».proof.Proof.FfnContextClaim
public import proofs.«01_k».proof.Proof.OutClaim
public import Idealize.ShloMosaic.Adequacy
public import Idealize.ShloMosaic.Init
public import proofs.«01_k».proof.Proof.DftClaim
public import proofs.«01_k».proof.Proof.FfnContextSecondClaim
public import proofs.«01_k».proof.Proof.OutContextClaim
public import proofs.«01_k».proof.Proof.InMixClaim
public import proofs.«01_k».proof.Proof.InCellClaim

@[expose] public section

noncomputable section

namespace Cert.Proof

open Idealize.ShloMosaic Idealize.SL.Sem Cert.Kernel

/-- The reference attention's frame: its run, and no counter to drain. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The mask's constant is the named one. -/
theorem preserves : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelFfnFirst.Gen.facts, Cert.KernelFfnFirstIdeal.Gen.facts, Cert.ReferenceFfnFirstIdeal.Gen.facts, Cert.KernelFfnSecond.Gen.facts, Cert.KernelFfnSecondIdeal.Gen.facts, Cert.ReferenceFfnSecondIdeal.Gen.facts, Cert.KernelFfnContext.Gen.facts, Cert.KernelFfnContextIdeal.Gen.facts, Cert.ReferenceFfnContextIdeal.Gen.facts, Cert.KernelOut.Gen.facts, Cert.KernelOutIdeal.Gen.facts, Cert.ReferenceOutIdeal.Gen.facts, Cert.KernelDft.Gen.facts, Cert.KernelDftIdeal.Gen.facts, Cert.ReferenceDftIdeal.Gen.facts, Cert.KernelFfnContextSecond.Gen.facts, Cert.KernelFfnContextSecondIdeal.Gen.facts, Cert.ReferenceFfnContextSecondIdeal.Gen.facts, Cert.KernelOutContext.Gen.facts, Cert.KernelOutContextIdeal.Gen.facts, Cert.ReferenceOutContextIdeal.Gen.facts, Cert.KernelInMix.Gen.facts, Cert.KernelInMixIdeal.Gen.facts, Cert.ReferenceInMixIdeal.Gen.facts, Cert.KernelInCell.Gen.facts, Cert.KernelInCellIdeal.Gen.facts, Cert.ReferenceInCellIdeal.Gen.facts, Attn.facts,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.KernelFfn.Gen.frame m ρ, fun m ρ _ => Cert.KernelFfnIdeal.Gen.frame m ρ, Ffn.frame_reference,
  fun m ρ _ => Cert.KernelFfnFirst.Gen.frame m ρ, fun m ρ _ => Cert.KernelFfnFirstIdeal.Gen.frame m ρ, FfnFirst.frame_reference,
  fun m ρ _ => Cert.KernelFfnSecond.Gen.frame m ρ, fun m ρ _ => Cert.KernelFfnSecondIdeal.Gen.frame m ρ, FfnSecond.frame_reference,
  fun m ρ _ => Cert.KernelFfnContext.Gen.frame m ρ, fun m ρ _ => Cert.KernelFfnContextIdeal.Gen.frame m ρ, FfnContext.frame_reference,
  fun m ρ _ => Cert.KernelOut.Gen.frame m ρ, fun m ρ _ => Cert.KernelOutIdeal.Gen.frame m ρ, Out.frame_reference,
  fun m ρ _ => Cert.KernelDft.Gen.frame m ρ, fun m ρ _ => Cert.KernelDftIdeal.Gen.frame m ρ, Dft.frame_reference,
  fun m ρ _ => Cert.KernelFfnContextSecond.Gen.frame m ρ, fun m ρ _ => Cert.KernelFfnContextSecondIdeal.Gen.frame m ρ, FfnContextSecond.frame_reference,
  fun m ρ _ => Cert.KernelOutContext.Gen.frame m ρ, fun m ρ _ => Cert.KernelOutContextIdeal.Gen.frame m ρ, OutContext.frame_reference,
  fun m ρ _ => Cert.KernelInMix.Gen.frame m ρ, fun m ρ _ => Cert.KernelInMixIdeal.Gen.frame m ρ, InMix.frame_reference,
  fun m ρ _ => Cert.KernelInCell.Gen.frame m ρ, fun m ρ _ => Cert.KernelInCellIdeal.Gen.frame m ρ, InCell.frame_reference,
  preserves, Attn.algebraic, trivial, Ffn.algebraic, trivial, FfnFirst.algebraic, trivial, FfnSecond.algebraic, trivial, FfnContext.algebraic, trivial, Out.algebraic, trivial, Dft.algebraic, trivial, FfnContextSecond.algebraic, trivial, OutContext.algebraic, trivial, InMix.algebraic, trivial, InCell.algebraic⟩

end Cert.Proof

end
